-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_on_all_but_heads [hKernelIdeal : Cert.KernelIdeal.Facts] [hReferenceIdeal : Cert.ReferenceIdeal.Facts] [hOn_all_but_heads : Cert.On_all_but_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)) (v3 : (c : Dev Cert.KernelIdeal.nD) → Buf (Elt Ideal) ((c.tc : Thread Cert.KernelIdeal.nD Cert.KernelIdeal.τ).loc Cert.KernelIdeal.main_v95_3)) (v4 : (c : Dev Cert.KernelIdeal.nD) → Buf (Elt Ideal) ((c.tc : Thread Cert.KernelIdeal.nD Cert.KernelIdeal.τ).loc Cert.KernelIdeal.main_v95_4)) (v5 : (c : Dev Cert.KernelIdeal.nD) → Buf (Elt Ideal) ((c.tc : Thread Cert.KernelIdeal.nD Cert.KernelIdeal.τ).loc Cert.KernelIdeal.main_v95_5)) (v6 : (c : Dev Cert.KernelIdeal.nD) → Buf (Elt Ideal) ((c.tc : Thread Cert.KernelIdeal.nD Cert.KernelIdeal.τ).loc Cert.KernelIdeal.main_v95_6)) (v7 : (c : Dev Cert.KernelIdeal.nD) → Buf (Elt Ideal) ((c.tc : Thread Cert.KernelIdeal.nD Cert.KernelIdeal.τ).loc Cert.KernelIdeal.main_v95_7)) (v8 : (c : Dev Cert.KernelIdeal.nD) → Buf (Elt Ideal) ((c.tc : Thread Cert.KernelIdeal.nD Cert.KernelIdeal.τ).loc Cert.KernelIdeal.main_v95_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 512]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v95_0) i = v0 c i)
          ∧ (∀ i : (⟨3, ![4, 512, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v95_1) i = v1 c i)
          ∧ (∀ i : (⟨3, ![4, 8192, 128]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v95_2) i = v2 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v95_3) i = v3 c i)
          ∧ (∀ i : (⟨3, ![4, 8192, 128]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v95_4) i = v4 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.KernelIdeal.nD Cert.KernelIdeal.τ).loc Cert.KernelIdeal.main_v95_5) i = v5 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.KernelIdeal.nD Cert.KernelIdeal.τ).loc Cert.KernelIdeal.main_v95_6) i = v6 c i)
          ∧ (∀ i : (⟨2, ![32768, 256]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 i = 1#1 → r.2.mem ((c.tc : Thread Cert.KernelIdeal.nD Cert.KernelIdeal.τ).loc Cert.KernelIdeal.main_v95_7) i = v7 c i)
          ∧ (∀ i : (⟨2, ![32768, 512]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 i = 1#1 → r.2.mem ((c.tc : Thread Cert.KernelIdeal.nD Cert.KernelIdeal.τ).loc Cert.KernelIdeal.main_v95_8) i = v8 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 512]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v170) i = v0 c i)
          ∧ (∀ i : (⟨3, ![4, 512, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v168) i = v1 c i)
          ∧ (∀ i : (⟨3, ![4, 8192, 128]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v221) i = v2 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v33) i = v3 c i)
          ∧ (∀ i : (⟨3, ![4, 8192, 128]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v272) i = v4 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.ReferenceIdeal.nD Cert.ReferenceIdeal.τ).loc Cert.ReferenceIdeal.main_v35) i = v5 c i)
          ∧ (∀ i : (⟨3, ![4, 128, 8192]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.ReferenceIdeal.nD Cert.ReferenceIdeal.τ).loc Cert.ReferenceIdeal.main_v36) i = v6 c i)
          ∧ (∀ i : (⟨2, ![32768, 256]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 i = 1#1 → r.2.mem ((c.tc : Thread Cert.ReferenceIdeal.nD Cert.ReferenceIdeal.τ).loc Cert.ReferenceIdeal.main_v38) i = v7 c i)
          ∧ (∀ i : (⟨2, ![32768, 512]⟩ : Shape).Idx, (Cert.On_all_but_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 i = 1#1 → r.2.mem ((c.tc : Thread Cert.ReferenceIdeal.nD Cert.ReferenceIdeal.τ).loc Cert.ReferenceIdeal.main_v39) i = v8 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)) (v3 : (c : Dev Cert.KernelIdeal.nD) → Buf (Elt Ideal) ((c.tc : Thread Cert.KernelIdeal.nD Cert.KernelIdeal.τ).loc Cert.KernelIdeal.main_v95_3)) (v4 : (c : Dev Cert.KernelIdeal.nD) → Buf (Elt Ideal) ((c.tc : Thread Cert.KernelIdeal.nD Cert.KernelIdeal.τ).loc Cert.KernelIdeal.main_v95_4)) (v5 : (c : Dev Cert.KernelIdeal.nD) → Buf (Elt Ideal) ((c.tc : Thread Cert.KernelIdeal.nD Cert.KernelIdeal.τ).loc Cert.KernelIdeal.main_v95_5)) (v6 : (c : Dev Cert.KernelIdeal.nD) → Buf (Elt Ideal) ((c.tc : Thread Cert.KernelIdeal.nD Cert.KernelIdeal.τ).loc Cert.KernelIdeal.main_v95_6)) (v7 : (c : Dev Cert.KernelIdeal.nD) → Buf (Elt Ideal) ((c.tc : Thread Cert.KernelIdeal.nD Cert.KernelIdeal.τ).loc Cert.KernelIdeal.main_v95_7)) (v8 : (c : Dev Cert.KernelIdeal.nD) → Buf (Elt Ideal) ((c.tc : Thread Cert.KernelIdeal.nD Cert.KernelIdeal.τ).loc Cert.KernelIdeal.main_v95_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_v95_3) = v3 c
          ∧ r.2.mem ((c.tc : Thread Cert.KernelIdeal.nD Cert.KernelIdeal.τ).loc Cert.KernelIdeal.main_v95_4) = v4 c
          ∧ r.2.mem ((c.tc : Thread Cert.KernelIdeal.nD Cert.KernelIdeal.τ).loc Cert.KernelIdeal.main_v95_5) = v5 c
          ∧ r.2.mem ((c.tc : Thread Cert.KernelIdeal.nD Cert.KernelIdeal.τ).loc Cert.KernelIdeal.main_v95_6) = v6 c
          ∧ r.2.mem ((c.tc : Thread Cert.KernelIdeal.nD Cert.KernelIdeal.τ).loc Cert.KernelIdeal.main_v95_7) = v7 c
          ∧ r.2.mem ((c.tc : Thread Cert.KernelIdeal.nD Cert.KernelIdeal.τ).loc Cert.KernelIdeal.main_v95_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v221) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v272) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_v36) = v6 c
          ∧ r.2.mem ((c.tc : Thread Cert.ReferenceIdeal.nD Cert.ReferenceIdeal.τ).loc Cert.ReferenceIdeal.main_v38) = v7 c
          ∧ r.2.mem ((c.tc : Thread Cert.ReferenceIdeal.nD Cert.ReferenceIdeal.τ).loc Cert.ReferenceIdeal.main_v39) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hOn_all_but_heads : Cert.On_all_but_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_all_but_heads (hKernelIdeal := hKernelIdeal) (hReferenceIdeal := hReferenceIdeal) (hOn_all_but_heads := hOn_all_but_heads)
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== On_all_but_heads.lean ====
abbrev S4x8192x1024 : Shape := ⟨3, ![4, 8192, 1024]⟩
abbrev S1024 : Shape := ⟨1, ![1024]⟩
abbrev S1024x2840 : Shape := ⟨2, ![1024, 2840]⟩
abbrev S4x512 : Shape := ⟨2, ![4, 512]⟩
abbrev S512 : Shape := ⟨1, ![512]⟩
abbrev S8x64x64 : Shape := ⟨3, ![8, 64, 64]⟩
abbrev S64 : Shape := ⟨1, ![64]⟩
abbrev S3x64 : Shape := ⟨2, ![3, 64]⟩
abbrev S_ : Shape := ⟨0, ![]⟩
abbrev S32768x512 : Shape := ⟨2, ![32768, 512]⟩
abbrev S4x512x8192 : Shape := ⟨3, ![4, 512, 8192]⟩
abbrev S4x8192x128 : Shape := ⟨3, ![4, 8192, 128]⟩
abbrev S4x128x8192 : Shape := ⟨3, ![4, 128, 8192]⟩
abbrev S32768x256 : Shape := ⟨2, ![32768, 256]⟩

class Facts : Prop where
  bcast_S_S32768x512 : S_.BroadcastsInDim S32768x512 (![] : Fin 0 → Fin S32768x512.rank)
  bcast_S_S4x512x8192 : S_.BroadcastsInDim S4x512x8192 (![] : Fin 0 → Fin S4x512x8192.rank)
  bcast_S_S4x8192x128 : S_.BroadcastsInDim S4x8192x128 (![] : Fin 0 → Fin S4x8192x128.rank)
  bcast_S_S4x128x8192 : S_.BroadcastsInDim S4x128x8192 (![] : Fin 0 → Fin S4x128x8192.rank)
  bcast_S_S32768x256 : S_.BroadcastsInDim S32768x256 (![] : Fin 0 → Fin S32768x256.rank)

variable [Facts]

def fn {F : FTy → Type} [FloatOps F] (main_arg0 : FVec F S4x8192x1024 .f32) (main_arg1 : FVec F S1024 .f32) (main_arg2 : FVec F S1024x2840 .f32) (main_arg3 : FVec F S4x512 .f32) (main_arg4 : FVec F S512 .f32) (main_arg5 : FVec F S8x64x64 .f32) (main_arg6 : FVec F S512 .f32) (main_arg7 : FVec F S8x64x64 .f32) (main_arg8 : FVec F S512 .f32) (main_arg9 : FVec F S512 .f32) (main_arg10 : FVec F S64 .f32) (main_arg11 : FVec F S3x64 .f32) : IVec S32768x512 1 × IVec S4x512x8192 1 × IVec S4x8192x128 1 × IVec S4x128x8192 1 × IVec S4x8192x128 1 × IVec S4x128x8192 1 × IVec S4x128x8192 1 × IVec S32768x256 1 × IVec S32768x512 1 :=
  let main_c : IVec S_ 1 := constantI S_ 1 1#1
  let main_v0 : IVec S32768x512 1 := broadcastInDim S32768x512 ![] bcast_S_S32768x512 main_c
  let main_c_0 : IVec S_ 1 := constantI S_ 1 0#1
  let main_v1 : IVec S4x512x8192 1 := broadcastInDim S4x512x8192 ![] bcast_S_S4x512x8192 main_c_0
  let main_c_1 : IVec S_ 1 := constantI S_ 1 0#1
  let main_v2 : IVec S4x8192x128 1 := broadcastInDim S4x8192x128 ![] bcast_S_S4x8192x128 main_c_1
  let main_c_2 : IVec S_ 1 := constantI S_ 1 1#1
  let main_v3 : IVec S4x128x8192 1 := broadcastInDim S4x128x8192 ![] bcast_S_S4x128x8192 main_c_2
  let main_c_3 : IVec S_ 1 := constantI S_ 1 0#1
  let main_v4 : IVec S4x8192x128 1 := broadcastInDim S4x8192x128 ![] bcast_S_S4x8192x128 main_c_3
  let main_c_4 : IVec S_ 1 := constantI S_ 1 1#1
  let main_v5 : IVec S4x128x8192 1 := broadcastInDim S4x128x8192 ![] bcast_S_S4x128x8192 main_c_4
  let main_c_5 : IVec S_ 1 := constantI S_ 1 1#1
  let main_v6 : IVec S4x128x8192 1 := broadcastInDim S4x128x8192 ![] bcast_S_S4x128x8192 main_c_5
  let main_c_6 : IVec S_ 1 := constantI S_ 1 1#1
  let main_v7 : IVec S32768x256 1 := broadcastInDim S32768x256 ![] bcast_S_S32768x256 main_c_6
  let main_c_7 : IVec S_ 1 := constantI S_ 1 1#1
  let main_v8 : IVec S32768x512 1 := broadcastInDim S32768x512 ![] bcast_S_S32768x512 main_c_7
  (main_v0, main_v1, main_v2, main_v3, main_v4, main_v5, main_v6, main_v7, main_v8)
-- ==== Pre_finite.lean ====
abbrev S4x8192x1024 : Shape := ⟨3, ![4, 8192, 1024]⟩
abbrev S1024 : Shape := ⟨1, ![1024]⟩
abbrev S1024x2840 : Shape := ⟨2, ![1024, 2840]⟩
abbrev S4x512 : Shape := ⟨2, ![4, 512]⟩
abbrev S512 : Shape := ⟨1, ![512]⟩
abbrev S8x64x64 : Shape := ⟨3, ![8, 64, 64]⟩
abbrev S64 : Shape := ⟨1, ![64]⟩
abbrev S3x64 : Shape := ⟨2, ![3, 64]⟩
abbrev S_ : Shape := ⟨0, ![]⟩

class Facts : Prop where
  bcast_S_S1024 : S_.BroadcastsInDim S1024 (![] : Fin 0 → Fin S1024.rank)
  bcast_S_S1024x2840 : S_.BroadcastsInDim S1024x2840 (![] : Fin 0 → Fin S1024x2840.rank)

variable [Facts]

def fn {F : FTy → Type} [FloatOps F] (main_arg0 : FVec F S4x8192x1024 .f32) (main_arg1 : FVec F S1024 .f32) (main_arg2 : FVec F S1024x2840 .f32) (main_arg3 : FVec F S4x512 .f32) (main_arg4 : FVec F S512 .f32) (main_arg5 : FVec F S8x64x64 .f32) (main_arg6 : FVec F S512 .f32) (main_arg7 : FVec F S8x64x64 .f32) (main_arg8 : FVec F S512 .f32) (main_arg9 : FVec F S512 .f32) (main_arg10 : FVec F S64 .f32) (main_arg11 : FVec F S3x64 .f32) : IVec S1024 1 × IVec S1024x2840 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2840 .f32 := Host.absf main_arg2
  let main_cst_0 : FVec F S_ .f32 := constant S_ .f32 0x7F800000#32
  let main_v4 : FVec F S1024x2840 .f32 := broadcastInDim S1024x2840 ![] bcast_S_S1024x2840 main_cst_0
  let main_v5 : IVec S1024x2840 1 := cmpf .olt main_v3 main_v4
  (main_v2, main_v5)
-- ==== Kernel.lean ====
abbrev S4x8192x1024 : Shape := ⟨3, ![4, 8192, 1024]⟩
abbrev S1024 : Shape := ⟨1, ![1024]⟩
abbrev S1024x2840 : Shape := ⟨2, ![1024, 2840]⟩
abbrev S4x512 : Shape := ⟨2, ![4, 512]⟩
abbrev S512 : Shape := ⟨1, ![512]⟩
abbrev S8x64x64 : Shape := ⟨3, ![8, 64, 64]⟩
abbrev S64 : Shape := ⟨1, ![64]⟩
abbrev S3x64 : Shape := ⟨2, ![3, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x64x64 : Shape := ⟨3, ![2, 64, 64]⟩
abbrev S2x2 : Shape := ⟨2, ![2, 2]⟩
abbrev S2x1x2x1 : Shape := ⟨4, ![2, 1, 2, 1]⟩
abbrev S2x64x1x64 : Shape := ⟨4, ![2, 64, 1, 64]⟩
abbrev S2x64x2x64 : Shape := ⟨4, ![2, 64, 2, 64]⟩
abbrev S128x128 : Shape := ⟨2, ![128, 128]⟩
abbrev S32768x1024 : Shape := ⟨2, ![32768, 1024]⟩
abbrev S1024x2944 : Shape := ⟨2, ![1024, 2944]⟩
abbrev S1x1024 : Shape := ⟨2, ![1, 1024]⟩
abbrev S1x512 : Shape := ⟨2, ![1, 512]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x512 : Shape := ⟨2, ![32768, 512]⟩
abbrev S4x512x8192 : Shape := ⟨3, ![4, 512, 8192]⟩
abbrev S4x8192x128 : Shape := ⟨3, ![4, 8192, 128]⟩
abbrev S4x128x8192 : Shape := ⟨3, ![4, 128, 8192]⟩
abbrev S32768x256 : Shape := ⟨2, ![32768, 256]⟩
abbrev S512x1024 : Shape := ⟨2, ![512, 1024]⟩
abbrev S512x128 : Shape := ⟨2, ![512, 128]⟩
abbrev S1x512x512 : Shape := ⟨3, ![1, 512, 512]⟩
abbrev S1x512x128 : Shape := ⟨3, ![1, 512, 128]⟩
abbrev S1x128x512 : Shape := ⟨3, ![1, 128, 512]⟩
abbrev S512x256 : Shape := ⟨2, ![512, 256]⟩
abbrev S8x512 : Shape := ⟨2, ![8, 512]⟩
abbrev S512x1 : Shape := ⟨2, ![512, 1]⟩
abbrev S1024x1024 : Shape := ⟨2, ![1024, 1024]⟩
abbrev S504x512 : Shape := ⟨2, ![504, 512]⟩
abbrev S1024x256 : Shape := ⟨2, ![1024, 256]⟩
abbrev S4x8x512 : Shape := ⟨3, ![4, 8, 512]⟩
abbrev S32x512 : Shape := ⟨2, ![32, 512]⟩
abbrev S32x256 : Shape := ⟨2, ![32, 256]⟩
abbrev S256x256 : Shape := ⟨2, ![256, 256]⟩
abbrev S128x512 : Shape := ⟨2, ![128, 512]⟩
abbrev S1024x128 : Shape := ⟨2, ![1024, 128]⟩

abbrev nBuf : Space → Nat
  | .hbm => 128
  | .vmem => 43
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2840, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S8x64x64, .f32⟩
  | .hbm, ⟨8, _⟩ => ⟨S512, .f32⟩
  | .hbm, ⟨9, _⟩ => ⟨S512, .f32⟩
  | .hbm, ⟨10, _⟩ => ⟨S64, .f32⟩
  | .hbm, ⟨11, _⟩ => ⟨S3x64, .f32⟩
  | .hbm, ⟨12, _⟩ => ⟨S8192, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S8192x8, .f32⟩
  | .hbm, ⟨33, _⟩ => ⟨S_, .f32⟩
  | .hbm, ⟨34, _⟩ => ⟨S8192x56, .f32⟩
  | .hbm, ⟨35, _⟩ => ⟨S8192x64, .f32⟩
  | .hbm, ⟨36, _⟩ => ⟨S_, .f32⟩
  | .hbm, ⟨37, _⟩ => ⟨S8192x8, .f32⟩
  | .hbm, ⟨38, _⟩ => ⟨S_, .f32⟩
  | .hbm, ⟨39, _⟩ => ⟨S8192x48, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S_, .bf16⟩
  | .hbm, ⟨51, _⟩ => ⟨S2x64x64, .bf16⟩
  | .hbm, ⟨52, _⟩ => ⟨S2x2, .i32⟩
  | .hbm, ⟨53, _⟩ => ⟨S2x2, .i32⟩
  | .hbm, ⟨54, _⟩ => ⟨S_, .i32⟩
  | .hbm, ⟨55, _⟩ => ⟨S2x2, .i32⟩
  | .hbm, ⟨56, _⟩ => ⟨S2x2, .i32⟩
  | .hbm, ⟨57, _⟩ => ⟨S2x2, .i1⟩
  | .hbm, ⟨58, _⟩ => ⟨S2x2, .bf16⟩
  | .hbm, ⟨59, _⟩ => ⟨S2x1x2x1, .bf16⟩
  | .hbm, ⟨60, _⟩ => ⟨S2x64x1x64, .bf16⟩
  | .hbm, ⟨61, _⟩ => ⟨S2x64x2x64, .bf16⟩
  | .hbm, ⟨62, _⟩ => ⟨S2x64x2x64, .bf16⟩
  | .hbm, ⟨63, _⟩ => ⟨S2x64x2x64, .bf16⟩
  | .hbm, ⟨64, _⟩ => ⟨S128x128, .bf16⟩
  | .hbm, ⟨65, _⟩ => ⟨S32768x1024, .f32⟩
  | .hbm, ⟨66, _⟩ => ⟨S_, .i32⟩
  | .hbm, ⟨67, _⟩ => ⟨S_, .f32⟩
  | .hbm, ⟨68, _⟩ => ⟨S1024x2944, .f32⟩
  | .hbm, ⟨69, _⟩ => ⟨S1024x2944, .bf16⟩
  | .hbm, ⟨70, _⟩ => ⟨S1x1024, .f32⟩
  | .hbm, ⟨71, _⟩ => ⟨S1x512, .f32⟩
  | .hbm, ⟨72, _⟩ => ⟨S8x8, .i32⟩
  | .hbm, ⟨73, _⟩ => ⟨S8x8, .i32⟩
  | .hbm, ⟨74, _⟩ => ⟨S_, .i32⟩
  | .hbm, ⟨75, _⟩ => ⟨S8x8, .i32⟩
  | .hbm, ⟨76, _⟩ => ⟨S8x8, .i32⟩
  | .hbm, ⟨77, _⟩ => ⟨S8x8, .i1⟩
  | .hbm, ⟨78, _⟩ => ⟨S8x8, .f32⟩
  | .hbm, ⟨79, _⟩ => ⟨S8x1x8x1, .f32⟩
  | .hbm, ⟨80, _⟩ => ⟨S8x64x1x64, .f32⟩
  | .hbm, ⟨81, _⟩ => ⟨S8x64x8x64, .f32⟩
  | .hbm, ⟨82, _⟩ => ⟨S8x64x8x64, .f32⟩
  | .hbm, ⟨83, _⟩ => ⟨S8x64x8x64, .f32⟩
  | .hbm, ⟨84, _⟩ => ⟨S512x512, .f32⟩
  | .hbm, ⟨85, _⟩ => ⟨S512x512, .bf16⟩
  | .hbm, ⟨86, _⟩ => ⟨S1x512, .f32⟩
  | .hbm, ⟨87, _⟩ => ⟨S8x8, .i32⟩
  | .hbm, ⟨88, _⟩ => ⟨S8x8, .i32⟩
  | .hbm, ⟨89, _⟩ => ⟨S_, .i32⟩
  | .hbm, ⟨90, _⟩ => ⟨S8x8, .i32⟩
  | .hbm, ⟨91, _⟩ => ⟨S8x8, .i32⟩
  | .hbm, ⟨92, _⟩ => ⟨S8x8, .i1⟩
  | .hbm, ⟨93, _⟩ => ⟨S8x8, .f32⟩
  | .hbm, ⟨94, _⟩ => ⟨S8x1x8x1, .f32⟩
  | .hbm, ⟨95, _⟩ => ⟨S8x64x1x64, .f32⟩
  | .hbm, ⟨96, _⟩ => ⟨S8x64x8x64, .f32⟩
  | .hbm, ⟨97, _⟩ => ⟨S8x64x8x64, .f32⟩
  | .hbm, ⟨98, _⟩ => ⟨S8x64x8x64, .f32⟩
  | .hbm, ⟨99, _⟩ => ⟨S512x512, .f32⟩
  | .hbm, ⟨100, _⟩ => ⟨S512x512, .bf16⟩
  | .hbm, ⟨101, _⟩ => ⟨S1x512, .f32⟩
  | .hbm, ⟨102, _⟩ => ⟨S1x512, .f32⟩
  | .hbm, ⟨103, _⟩ => ⟨S1x64, .f32⟩
  | .hbm, ⟨104, _⟩ => ⟨S2x64, .f32⟩
  | .hbm, ⟨105, _⟩ => ⟨S128, .f32⟩
  | .hbm, ⟨106, _⟩ => ⟨S1x128, .f32⟩
  | .hbm, ⟨107, _⟩ => ⟨S1x64, .f32⟩
  | .hbm, ⟨108, _⟩ => ⟨S64, .f32⟩
  | .hbm, ⟨109, _⟩ => ⟨S1x64, .f32⟩
  | .hbm, ⟨110, _⟩ => ⟨S2x64, .f32⟩
  | .hbm, ⟨111, _⟩ => ⟨S128, .f32⟩
  | .hbm, ⟨112, _⟩ => ⟨S1x128, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S2x64, .f32⟩
  | .hbm, ⟨117, _⟩ => ⟨S128, .f32⟩
  | .hbm, ⟨118, _⟩ => ⟨S1x128, .f32⟩
  | .hbm, ⟨119, _⟩ => ⟨S32768x512, .bf16⟩
  | .hbm, ⟨120, _⟩ => ⟨S4x512x8192, .bf16⟩
  | .hbm, ⟨121, _⟩ => ⟨S4x8192x128, .bf16⟩
  | .hbm, ⟨122, _⟩ => ⟨S4x128x8192, .bf16⟩
  | .hbm, ⟨123, _⟩ => ⟨S4x8192x128, .bf16⟩
  | .hbm, ⟨124, _⟩ => ⟨S4x128x8192, .bf16⟩
  | .hbm, ⟨125, _⟩ => ⟨S4x128x8192, .f32⟩
  | .hbm, ⟨126, _⟩ => ⟨S32768x256, .f32⟩
  | .hbm, ⟨127, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .bf16⟩
  | .local _ .vmem, ⟨21, _⟩ => ⟨S512x512, .bf16⟩
  | .local _ .vmem, ⟨22, _⟩ => ⟨S512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x128, .bf16⟩
  | .local _ .vmem, ⟨26, _⟩ => ⟨S1x512x128, .bf16⟩
  | .local _ .vmem, ⟨27, _⟩ => ⟨S1x128x512, .bf16⟩
  | .local _ .vmem, ⟨28, _⟩ => ⟨S1x128x512, .bf16⟩
  | .local _ .vmem, ⟨29, _⟩ => ⟨S1x512x128, .bf16⟩
  | .local _ .vmem, ⟨30, _⟩ => ⟨S1x512x128, .bf16⟩
  | .local _ .vmem, ⟨31, _⟩ => ⟨S1x128x512, .bf16⟩
  | .local _ .vmem, ⟨32, _⟩ => ⟨S1x128x512, .bf16⟩
  | .local _ .vmem, ⟨33, _⟩ => ⟨S1x128x512, .f32⟩
  | .local _ .vmem, ⟨34, _⟩ => ⟨S1x128x512, .f32⟩
  | .local _ .vmem, ⟨35, _⟩ => ⟨S512x256, .f32⟩
  | .local _ .vmem, ⟨36, _⟩ => ⟨S512x256, .f32⟩
  | .local _ .vmem, ⟨37, _⟩ => ⟨S512x512, .f32⟩
  | .local _ .vmem, ⟨38, _⟩ => ⟨S512x512, .f32⟩
  | .local _ .vmem, ⟨39, _⟩ => ⟨S8x512, .f32⟩
  | .local _ .vmem, ⟨40, _⟩ => ⟨S8x512, .f32⟩
  | .local _ .vmem, ⟨41, _⟩ => ⟨S512x512, .f32⟩
  | .local _ .vmem, ⟨42, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95_0 : Ref sig .tc := ⟨.hbm, 119, rfl⟩
abbrev main_v95_1 : Ref sig .tc := ⟨.hbm, 120, rfl⟩
abbrev main_v95_2 : Ref sig .tc := ⟨.hbm, 121, rfl⟩
abbrev main_v95_3 : Ref sig .tc := ⟨.hbm, 122, rfl⟩
abbrev main_v95_4 : Ref sig .tc := ⟨.hbm, 123, rfl⟩
abbrev main_v95_5 : Ref sig .tc := ⟨.hbm, 124, rfl⟩
abbrev main_v95_6 : Ref sig .tc := ⟨.hbm, 125, rfl⟩
abbrev main_v95_7 : Ref sig .tc := ⟨.hbm, 126, rfl⟩
abbrev main_v95_8 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x128x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ReferenceIdeal.lean ====
abbrev S4x8192x1024 : Shape := ⟨3, ![4, 8192, 1024]⟩
abbrev S1024 : Shape := ⟨1, ![1024]⟩
abbrev S1024x2840 : Shape := ⟨2, ![1024, 2840]⟩
abbrev S4x512 : Shape := ⟨2, ![4, 512]⟩
abbrev S512 : Shape := ⟨1, ![512]⟩
abbrev S8x64x64 : Shape := ⟨3, ![8, 64, 64]⟩
abbrev S64 : Shape := ⟨1, ![64]⟩
abbrev S3x64 : Shape := ⟨2, ![3, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2840 : Shape := ⟨3, ![4, 8192, 2840]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x128x8192 : Shape := ⟨3, ![4, 128, 8192]⟩
abbrev S4x8192x256 : Shape := ⟨3, ![4, 8192, 256]⟩
abbrev S32768x256 : Shape := ⟨2, ![32768, 256]⟩
abbrev S32768x512 : Shape := ⟨2, ![32768, 512]⟩
abbrev S4x8195x512 : Shape := ⟨3, ![4, 8195, 512]⟩
abbrev S1x512 : Shape := ⟨2, ![1, 512]⟩
abbrev S1x1x512 : Shape := ⟨3, ![1, 1, 512]⟩
abbrev S4x8192x8x64 : Shape := ⟨4, ![4, 8192, 8, 64]⟩
abbrev S8x64x4x8192 : Shape := ⟨4, ![8, 64, 4, 8192]⟩
abbrev S4x1x512 : Shape := ⟨3, ![4, 1, 512]⟩
abbrev S8192 : Shape := ⟨1, ![8192]⟩
abbrev S4x8x8192x64 : Shape := ⟨4, ![4, 8, 8192, 64]⟩
abbrev S4x8x8192 : Shape := ⟨3, ![4, 8, 8192]⟩
abbrev S4x8x8192x1 : Shape := ⟨4, ![4, 8, 8192, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S4x8x8192x8 : Shape := ⟨4, ![4, 8, 8192, 8]⟩
abbrev S4x8x8192x48 : Shape := ⟨4, ![4, 8, 8192, 48]⟩
abbrev S1x1x8192x8 : Shape := ⟨4, ![1, 1, 8192, 8]⟩
abbrev S4x8x64x8192 : Shape := ⟨4, ![4, 8, 64, 8192]⟩
abbrev S4x512x8192 : Shape := ⟨3, ![4, 512, 8192]⟩
abbrev S1x64 : Shape := ⟨2, ![1, 64]⟩
abbrev S4x8192x2x64 : Shape := ⟨4, ![4, 8192, 2, 64]⟩
abbrev S4x2x8192x64 : Shape := ⟨4, ![4, 2, 8192, 64]⟩
abbrev S4x2x8192 : Shape := ⟨3, ![4, 2, 8192]⟩
abbrev S4x2x8192x1 : Shape := ⟨4, ![4, 2, 8192, 1]⟩
abbrev S4x2x8192x8 : Shape := ⟨4, ![4, 2, 8192, 8]⟩
abbrev S4x2x8192x48 : Shape := ⟨4, ![4, 2, 8192, 48]⟩

abbrev nBuf : Space → Nat
  | .hbm => 393
  | .vmem => 0
  | .smem => 0
  | _ => 0

abbrev hbmTy0_0 (i : Nat) : BufTy := match i % 128 with
  | 0 => ⟨S4x8192x1024, .f32⟩
  | 1 => ⟨S1024, .f32⟩
  | 2 => ⟨S1024x2840, .f32⟩
  | 3 => ⟨S4x512, .f32⟩
  | 4 => ⟨S512, .f32⟩
  | 5 => ⟨S8x64x64, .f32⟩
  | 6 => ⟨S512, .f32⟩
  | 7 => ⟨S8x64x64, .f32⟩
  | 8 => ⟨S512, .f32⟩
  | 9 => ⟨S512, .f32⟩
  | 10 => ⟨S64, .f32⟩
  | 11 => ⟨S3x64, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S4x8192x2840, .f32⟩
  | 29 => ⟨S4x8192x512, .f32⟩
  | 30 => ⟨S4x8192x512, .f32⟩
  | 31 => ⟨S4x8192x512, .f32⟩
  | 32 => ⟨S4x8192x128, .f32⟩
  | 33 => ⟨S4x8192x128, .f32⟩
  | 34 => ⟨S4x8192x128, .f32⟩
  | 35 => ⟨S4x8192x128, .f32⟩
  | 36 => ⟨S4x8192x128, .f32⟩
  | 37 => ⟨S4x8192x128, .f32⟩
  | 38 => ⟨S4x8192x512, .f32⟩
  | 39 => ⟨S4x8192x24, .f32⟩
  | 40 => ⟨S_, .i32⟩
  | 41 => ⟨S_, .f32⟩
  | 42 => ⟨S4x8192x128, .f32⟩
  | 43 => ⟨S4x8192x128, .f32⟩
  | 44 => ⟨S4x8192x128, .f32⟩
  | 45 => ⟨S_, .f32⟩
  | 46 => ⟨S4x8192x128, .f32⟩
  | 47 => ⟨S4x8192x128, .f32⟩
  | 48 => ⟨S_, .f32⟩
  | 49 => ⟨S4x8192x128, .f32⟩
  | 50 => ⟨S4x8192x128, .f32⟩
  | 51 => ⟨S4x128x8192, .f32⟩
  | 52 => ⟨S4x128x8192, .bf16⟩
  | 53 => ⟨S4x128x8192, .f32⟩
  | 54 => ⟨S4x128x8192, .bf16⟩
  | 55 => ⟨S4x128x8192, .f32⟩
  | 56 => ⟨S4x8192x256, .f32⟩
  | 57 => ⟨S32768x256, .f32⟩
  | 58 => ⟨S32768x512, .f32⟩
  | 59 => ⟨S_, .i32⟩
  | 60 => ⟨S_, .f32⟩
  | 61 => ⟨S4x8195x512, .f32⟩
  | 62 => ⟨S4x8192x512, .f32⟩
  | 63 => ⟨S1x512, .f32⟩
  | 64 => ⟨S512, .f32⟩
  | 65 => ⟨S1x1x512, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S4x8192x512, .f32⟩
  | 72 => ⟨S1x512, .f32⟩
  | 73 => ⟨S512, .f32⟩
  | 74 => ⟨S1x1x512, .f32⟩
  | 75 => ⟨S4x8192x512, .f32⟩
  | 76 => ⟨S4x8192x512, .f32⟩
  | 77 => ⟨S4x8192x512, .f32⟩
  | 78 => ⟨S4x8192x512, .f32⟩
  | 79 => ⟨S1x512, .f32⟩
  | 80 => ⟨S512, .f32⟩
  | 81 => ⟨S1x1x512, .f32⟩
  | 82 => ⟨S4x8192x512, .f32⟩
  | 83 => ⟨S4x8192x512, .f32⟩
  | 84 => ⟨S4x8192x512, .f32⟩
  | 85 => ⟨S4x8192x512, .f32⟩
  | 86 => ⟨S1x512, .f32⟩
  | 87 => ⟨S512, .f32⟩
  | 88 => ⟨S1x1x512, .f32⟩
  | 89 => ⟨S4x8192x512, .f32⟩
  | 90 => ⟨S4x8192x512, .f32⟩
  | 91 => ⟨S4x8192x512, .f32⟩
  | 92 => ⟨S1x1x512, .f32⟩
  | 93 => ⟨S4x8192x512, .f32⟩
  | 94 => ⟨S4x8192x512, .f32⟩
  | 95 => ⟨S4x8192x8x64, .f32⟩
  | 96 => ⟨S8x64x4x8192, .f32⟩
  | 97 => ⟨S4x8192x8x64, .f32⟩
  | 98 => ⟨S4x8192x512, .f32⟩
  | 99 => ⟨S1x1x512, .f32⟩
  | 100 => ⟨S4x8192x512, .f32⟩
  | 101 => ⟨S4x8192x512, .f32⟩
  | 102 => ⟨S4x8192x512, .f32⟩
  | 103 => ⟨S4x8192x512, .f32⟩
  | 104 => ⟨S_, .f32⟩
  | 105 => ⟨S4x8192x512, .f32⟩
  | 106 => ⟨S4x8192x512, .f32⟩
  | 107 => ⟨S_, .f32⟩
  | 108 => ⟨S4x8192x512, .f32⟩
  | 109 => ⟨S4x8192x512, .f32⟩
  | 110 => ⟨S8x64x4x8192, .f32⟩
  | 111 => ⟨S4x8192x8x64, .f32⟩
  | 112 => ⟨S4x8192x512, .f32⟩
  | 113 => ⟨S1x1x512, .f32⟩
  | 114 => ⟨S4x8192x512, .f32⟩
  | 115 => ⟨S4x8192x512, .f32⟩
  | 116 => ⟨S4x8192x512, .f32⟩
  | 117 => ⟨S4x8192x512, .f32⟩
  | 118 => ⟨S_, .f32⟩
  | 119 => ⟨S4x8192x512, .f32⟩
  | 120 => ⟨S4x8192x512, .f32⟩
  | 121 => ⟨S_, .f32⟩
  | 122 => ⟨S4x8192x512, .f32⟩
  | 123 => ⟨S4x8192x512, .f32⟩
  | 124 => ⟨S_, .f32⟩
  | 125 => ⟨S4x8192x512, .f32⟩
  | 126 => ⟨S4x8192x512, .f32⟩
  | 127 => ⟨S512, .f32⟩
  | _ => ⟨S4x8192x1024, .f32⟩

abbrev hbmTy0_1 (i : Nat) : BufTy := match i % 128 with
  | 0 => ⟨S_, .f32⟩
  | 1 => ⟨S512, .f32⟩
  | 2 => ⟨S512, .f32⟩
  | 3 => ⟨S512, .f32⟩
  | 4 => ⟨S512, .f32⟩
  | 5 => ⟨S512, .i1⟩
  | 6 => ⟨S512, .f32⟩
  | 7 => ⟨S512, .f32⟩
  | 8 => ⟨S512, .f32⟩
  | 9 => ⟨S512, .f32⟩
  | 10 => ⟨S512, .f32⟩
  | 11 => ⟨S512, .f32⟩
  | 12 => ⟨S512, .f32⟩
  | 13 => ⟨S512, .f32⟩
  | 14 => ⟨S1x1x512, .f32⟩
  | 15 => ⟨S4x8192x512, .f32⟩
  | 16 => ⟨S4x8192x512, .f32⟩
  | 17 => ⟨S4x8192x512, .f32⟩
  | 18 => ⟨S_, .f32⟩
  | 19 => ⟨S4x8192x512, .f32⟩
  | 20 => ⟨S4x8192x512, .f32⟩
  | 21 => ⟨S4x8192x512, .f32⟩
  | 22 => ⟨S4x8192x512, .f32⟩
  | 23 => ⟨S4x8192x512, .f32⟩
  | 24 => ⟨S4x8192x512, .f32⟩
  | 25 => ⟨S4x8192x512, .f32⟩
  | 26 => ⟨S4x8192x512, .f32⟩
  | 27 => ⟨S4x8192x512, .f32⟩
  | 28 => ⟨S_, .f32⟩
  | 29 => ⟨S4x8192x512, .f32⟩
  | 30 => ⟨S4x8192x512, .f32⟩
  | 31 => ⟨S_, .f32⟩
  | 32 => ⟨S4x8192x512, .f32⟩
  | 33 => ⟨S4x8192x512, .f32⟩
  | 34 => ⟨S4x8192x512, .f32⟩
  | 35 => ⟨S_, .f32⟩
  | 36 => ⟨S4x1x512, .f32⟩
  | 37 => ⟨S_, .f32⟩
  | 38 => ⟨S4x8192x512, .f32⟩
  | 39 => ⟨S_, .i32⟩
  | 40 => ⟨S_, .i32⟩
  | 41 => ⟨S4x8192x512, .f32⟩
  | 42 => ⟨S4x8192x512, .f32⟩
  | 43 => ⟨S4x8192x512, .f32⟩
  | 44 => ⟨S_, .i32⟩
  | 45 => ⟨S_, .i32⟩
  | 46 => ⟨S4x1x512, .f32⟩
  | 47 => ⟨S4x8192x512, .f32⟩
  | 48 => ⟨S_, .i32⟩
  | 49 => ⟨S_, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S4x1x512, .f32⟩
  | 61 => ⟨S4x1x512, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S4x1x512, .f32⟩
  | 71 => ⟨S4x1x512, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S4x1x512, .f32⟩
  | 81 => ⟨S4x1x512, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S4x8192x512, .f32⟩
  | 91 => ⟨S_, .i32⟩
  | 92 => ⟨S_, .i32⟩
  | 93 => ⟨S8192, .f32⟩
  | 94 => ⟨S4x8192x8x64, .f32⟩
  | 95 => ⟨S4x8x8192x64, .f32⟩
  | 96 => ⟨S4x8x8192x64, .f32⟩
  | 97 => ⟨S_, .f32⟩
  | 98 => ⟨S4x8x8192, .f32⟩
  | 99 => ⟨S4x8x8192x1, .f32⟩
  | 100 => ⟨S_, .f32⟩
  | 101 => ⟨S4x8x8192x1, .f32⟩
  | 102 => ⟨S4x8x8192x1, .f32⟩
  | 103 => ⟨S_, .f32⟩
  | 104 => ⟨S4x8x8192x1, .f32⟩
  | 105 => ⟨S4x8x8192x1, .f32⟩
  | 106 => ⟨S4x8x8192x1, .f32⟩
  | 107 => ⟨S4x8x8192x64, .f32⟩
  | 108 => ⟨S4x8x8192x64, .f32⟩
  | 109 => ⟨S1x1x1x64, .f32⟩
  | 110 => ⟨S4x8x8192x64, .f32⟩
  | 111 => ⟨S4x8x8192x64, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S8192x1, .f32⟩
  | 121 => ⟨S1x8, .f32⟩
  | 122 => ⟨S8192x8, .f32⟩
  | 123 => ⟨S8192x8, .f32⟩
  | 124 => ⟨S8192x8, .f32⟩
  | 125 => ⟨S8192x8, .f32⟩
  | 126 => ⟨S8192x8, .f32⟩
  | 127 => ⟨S4x8x8192x8, .f32⟩
  | _ => ⟨S4x8192x1024, .f32⟩

abbrev hbmTy0_2 (i : Nat) : BufTy := match i % 128 with
  | 0 => ⟨S4x8x8192x8, .f32⟩
  | 1 => ⟨S4x8x8192x48, .f32⟩
  | 2 => ⟨S1x1x8192x8, .f32⟩
  | 3 => ⟨S4x8x8192x8, .f32⟩
  | 4 => ⟨S4x8x8192x8, .f32⟩
  | 5 => ⟨S1x1x8192x8, .f32⟩
  | 6 => ⟨S4x8x8192x8, .f32⟩
  | 7 => ⟨S4x8x8192x8, .f32⟩
  | 8 => ⟨S4x8x8192x8, .f32⟩
  | 9 => ⟨S1x1x8192x8, .f32⟩
  | 10 => ⟨S4x8x8192x8, .f32⟩
  | 11 => ⟨S4x8x8192x8, .f32⟩
  | 12 => ⟨S1x1x8192x8, .f32⟩
  | 13 => ⟨S4x8x8192x8, .f32⟩
  | 14 => ⟨S4x8x8192x8, .f32⟩
  | 15 => ⟨S4x8x8192x8, .f32⟩
  | 16 => ⟨S4x8x8192x64, .f32⟩
  | 17 => ⟨S_, .f32⟩
  | 18 => ⟨S4x8x8192x64, .f32⟩
  | 19 => ⟨S4x8x8192x64, .f32⟩
  | 20 => ⟨S4x8x64x8192, .f32⟩
  | 21 => ⟨S4x512x8192, .f32⟩
  | 22 => ⟨S4x512x8192, .bf16⟩
  | 23 => ⟨S32768x512, .f32⟩
  | 24 => ⟨S32768x512, .bf16⟩
  | 25 => ⟨S1x64, .f32⟩
  | 26 => ⟨S64, .f32⟩
  | 27 => ⟨S4x8192x2x64, .f32⟩
  | 28 => ⟨S4x2x8192x64, .f32⟩
  | 29 => ⟨S4x2x8192x64, .f32⟩
  | 30 => ⟨S_, .f32⟩
  | 31 => ⟨S4x2x8192, .f32⟩
  | 32 => ⟨S4x2x8192x1, .f32⟩
  | 33 => ⟨S_, .f32⟩
  | 34 => ⟨S4x2x8192x1, .f32⟩
  | 35 => ⟨S4x2x8192x1, .f32⟩
  | 36 => ⟨S_, .f32⟩
  | 37 => ⟨S4x2x8192x1, .f32⟩
  | 38 => ⟨S4x2x8192x1, .f32⟩
  | 39 => ⟨S4x2x8192x1, .f32⟩
  | 40 => ⟨S4x2x8192x64, .f32⟩
  | 41 => ⟨S4x2x8192x64, .f32⟩
  | 42 => ⟨S1x1x1x64, .f32⟩
  | 43 => ⟨S4x2x8192x64, .f32⟩
  | 44 => ⟨S4x2x8192x64, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8192x1, .f32⟩
  | 54 => ⟨S1x8, .f32⟩
  | 55 => ⟨S8192x8, .f32⟩
  | 56 => ⟨S8192x8, .f32⟩
  | 57 => ⟨S8192x8, .f32⟩
  | 58 => ⟨S8192x8, .f32⟩
  | 59 => ⟨S8192x8, .f32⟩
  | 60 => ⟨S4x2x8192x8, .f32⟩
  | 61 => ⟨S4x2x8192x8, .f32⟩
  | 62 => ⟨S4x2x8192x48, .f32⟩
  | 63 => ⟨S1x1x8192x8, .f32⟩
  | 64 => ⟨S4x2x8192x8, .f32⟩
  | 65 => ⟨S4x2x8192x8, .f32⟩
  | 66 => ⟨S1x1x8192x8, .f32⟩
  | 67 => ⟨S4x2x8192x8, .f32⟩
  | 68 => ⟨S4x2x8192x8, .f32⟩
  | 69 => ⟨S4x2x8192x8, .f32⟩
  | 70 => ⟨S1x1x8192x8, .f32⟩
  | 71 => ⟨S4x2x8192x8, .f32⟩
  | 72 => ⟨S4x2x8192x8, .f32⟩
  | 73 => ⟨S1x1x8192x8, .f32⟩
  | 74 => ⟨S4x2x8192x8, .f32⟩
  | 75 => ⟨S4x2x8192x8, .f32⟩
  | 76 => ⟨S4x2x8192x8, .f32⟩
  | 77 => ⟨S4x2x8192x64, .f32⟩
  | 78 => ⟨S4x8192x2x64, .f32⟩
  | 79 => ⟨S4x8192x128, .f32⟩
  | 80 => ⟨S4x8192x128, .bf16⟩
  | 81 => ⟨S1x64, .f32⟩
  | 82 => ⟨S64, .f32⟩
  | 83 => ⟨S4x8192x2x64, .f32⟩
  | 84 => ⟨S4x2x8192x64, .f32⟩
  | 85 => ⟨S4x2x8192x64, .f32⟩
  | 86 => ⟨S_, .f32⟩
  | 87 => ⟨S4x2x8192, .f32⟩
  | 88 => ⟨S4x2x8192x1, .f32⟩
  | 89 => ⟨S_, .f32⟩
  | 90 => ⟨S4x2x8192x1, .f32⟩
  | 91 => ⟨S4x2x8192x1, .f32⟩
  | 92 => ⟨S_, .f32⟩
  | 93 => ⟨S4x2x8192x1, .f32⟩
  | 94 => ⟨S4x2x8192x1, .f32⟩
  | 95 => ⟨S4x2x8192x1, .f32⟩
  | 96 => ⟨S4x2x8192x64, .f32⟩
  | 97 => ⟨S4x2x8192x64, .f32⟩
  | 98 => ⟨S1x1x1x64, .f32⟩
  | 99 => ⟨S4x2x8192x64, .f32⟩
  | 100 => ⟨S4x2x8192x64, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8192x1, .f32⟩
  | 110 => ⟨S1x8, .f32⟩
  | 111 => ⟨S8192x8, .f32⟩
  | 112 => ⟨S8192x8, .f32⟩
  | 113 => ⟨S8192x8, .f32⟩
  | 114 => ⟨S8192x8, .f32⟩
  | 115 => ⟨S8192x8, .f32⟩
  | 116 => ⟨S4x2x8192x8, .f32⟩
  | 117 => ⟨S4x2x8192x8, .f32⟩
  | 118 => ⟨S4x2x8192x48, .f32⟩
  | 119 => ⟨S1x1x8192x8, .f32⟩
  | 120 => ⟨S4x2x8192x8, .f32⟩
  | 121 => ⟨S4x2x8192x8, .f32⟩
  | 122 => ⟨S1x1x8192x8, .f32⟩
  | 123 => ⟨S4x2x8192x8, .f32⟩
  | 124 => ⟨S4x2x8192x8, .f32⟩
  | 125 => ⟨S4x2x8192x8, .f32⟩
  | 126 => ⟨S1x1x8192x8, .f32⟩
  | 127 => ⟨S4x2x8192x8, .f32⟩
  | _ => ⟨S4x8192x1024, .f32⟩

abbrev hbmTy0_3 (i : Nat) : BufTy := match i % 128 with
  | 0 => ⟨S4x2x8192x8, .f32⟩
  | 1 => ⟨S1x1x8192x8, .f32⟩
  | 2 => ⟨S4x2x8192x8, .f32⟩
  | 3 => ⟨S4x2x8192x8, .f32⟩
  | 4 => ⟨S4x2x8192x8, .f32⟩
  | 5 => ⟨S4x2x8192x64, .f32⟩
  | 6 => ⟨S4x8192x2x64, .f32⟩
  | 7 => ⟨S4x8192x128, .f32⟩
  | 8 => ⟨S4x8192x128, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_6 : Ref sig .tc := ⟨.hbm, 104, rfl⟩
abbrev main_v82 : Ref sig .tc := ⟨.hbm, 105, rfl⟩
abbrev main_v83 : Ref sig .tc := ⟨.hbm, 106, rfl⟩
abbrev main_cst_7 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_8 : Ref sig .tc := ⟨.hbm, 118, rfl⟩
abbrev main_v94 : Ref sig .tc := ⟨.hbm, 119, rfl⟩
abbrev main_v95 : Ref sig .tc := ⟨.hbm, 120, rfl⟩
abbrev main_cst_9 : Ref sig .tc := ⟨.hbm, 121, rfl⟩
abbrev main_v96 : Ref sig .tc := ⟨.hbm, 122, rfl⟩
abbrev main_v97 : Ref sig .tc := ⟨.hbm, 123, rfl⟩
abbrev main_cst_10 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_v7 : Ref sig .tc := ⟨.hbm, 136, rfl⟩
abbrev main_call2_v8 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_11 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call3_v0 : Ref sig .tc := ⟨.hbm, 154, rfl⟩
abbrev main_call3_v1 : Ref sig .tc := ⟨.hbm, 155, rfl⟩
abbrev main_call3_cst : Ref sig .tc := ⟨.hbm, 156, rfl⟩
abbrev main_call3_v2 : Ref sig .tc := ⟨.hbm, 157, rfl⟩
abbrev main_call3_v3 : Ref sig .tc := ⟨.hbm, 158, rfl⟩
abbrev main_call3_cst_0 : Ref sig .tc := ⟨.hbm, 159, rfl⟩
abbrev main_call3_v4 : Ref sig .tc := ⟨.hbm, 160, rfl⟩
abbrev main_call3_v5 : Ref sig .tc := ⟨.hbm, 161, rfl⟩
abbrev main_v113 : Ref sig .tc := ⟨.hbm, 162, rfl⟩
abbrev main_cst_12 : Ref sig .tc := ⟨.hbm, 163, rfl⟩
abbrev main_v114 : Ref sig .tc := ⟨.hbm, 164, rfl⟩
abbrev main_cst_13 : Ref sig .tc := ⟨.hbm, 165, rfl⟩
abbrev main_v115 : Ref sig .tc := ⟨.hbm, 166, rfl⟩
abbrev main_c_14 : Ref sig .tc := ⟨.hbm, 167, rfl⟩
abbrev main_c_15 : Ref sig .tc := ⟨.hbm, 168, rfl⟩
abbrev main_v116_0 : Ref sig .tc := ⟨.hbm, 169, rfl⟩
abbrev main_v116_1 : Ref sig .tc := ⟨.hbm, 170, rfl⟩
abbrev main_v116_2 : Ref sig .tc := ⟨.hbm, 171, rfl⟩
abbrev main_v116_3 : Ref sig .tc := ⟨.hbm, 172, rfl⟩
abbrev main_v116_4 : Ref sig .tc := ⟨.hbm, 173, rfl⟩
abbrev main_v116_5 : Ref sig .tc := ⟨.hbm, 174, rfl⟩
abbrev main_v116_6 : Ref sig .tc := ⟨.hbm, 175, rfl⟩
abbrev main_while0c_c_38 : Ref sig .tc := ⟨.hbm, 176, rfl⟩
abbrev main_while0c_v273 : Ref sig .tc := ⟨.hbm, 177, rfl⟩
abbrev main_while0b_c_38 : Ref sig .tc := ⟨.hbm, 178, rfl⟩
abbrev main_while0b_v273 : Ref sig .tc := ⟨.hbm, 179, rfl⟩
abbrev main_while0b_c_39 : Ref sig .tc := ⟨.hbm, 180, rfl⟩
abbrev main_while0b_v274 : Ref sig .tc := ⟨.hbm, 181, rfl⟩
abbrev main_while0b_v275 : Ref sig .tc := ⟨.hbm, 182, rfl⟩
abbrev main_while0b_c_40 : Ref sig .tc := ⟨.hbm, 183, rfl⟩
abbrev main_while0b_v276 : Ref sig .tc := ⟨.hbm, 184, rfl⟩
abbrev main_while0b_v277 : Ref sig .tc := ⟨.hbm, 185, rfl⟩
abbrev main_while0b_c_41 : Ref sig .tc := ⟨.hbm, 186, rfl⟩
abbrev main_while0b_c_42 : Ref sig .tc := ⟨.hbm, 187, rfl⟩
abbrev main_while0b_v278 : Ref sig .tc := ⟨.hbm, 188, rfl⟩
abbrev main_while0b_v279 : Ref sig .tc := ⟨.hbm, 189, rfl⟩
abbrev main_while0b_c_43 : Ref sig .tc := ⟨.hbm, 190, rfl⟩
abbrev main_while0b_v280 : Ref sig .tc := ⟨.hbm, 191, rfl⟩
abbrev main_while0b_v281 : Ref sig .tc := ⟨.hbm, 192, rfl⟩
abbrev main_while0b_c_44 : Ref sig .tc := ⟨.hbm, 193, rfl⟩
abbrev main_while0b_v282 : Ref sig .tc := ⟨.hbm, 194, rfl⟩
abbrev main_while0b_v283 : Ref sig .tc := ⟨.hbm, 195, rfl⟩
abbrev main_while0b_c_45 : Ref sig .tc := ⟨.hbm, 196, rfl⟩
abbrev main_while0b_c_46 : Ref sig .tc := ⟨.hbm, 197, rfl⟩
abbrev main_while0b_v284 : Ref sig .tc := ⟨.hbm, 198, rfl⟩
abbrev main_while0b_v285 : Ref sig .tc := ⟨.hbm, 199, rfl⟩
abbrev main_while0b_c_47 : Ref sig .tc := ⟨.hbm, 200, rfl⟩
abbrev main_while0b_v286 : Ref sig .tc := ⟨.hbm, 201, rfl⟩
abbrev main_while0b_v287 : Ref sig .tc := ⟨.hbm, 202, rfl⟩
abbrev main_while0b_c_48 : Ref sig .tc := ⟨.hbm, 203, rfl⟩
abbrev main_while0b_v288 : Ref sig .tc := ⟨.hbm, 204, rfl⟩
abbrev main_while0b_v289 : Ref sig .tc := ⟨.hbm, 205, rfl⟩
abbrev main_while0b_c_49 : Ref sig .tc := ⟨.hbm, 206, rfl⟩
abbrev main_while0b_c_50 : Ref sig .tc := ⟨.hbm, 207, rfl⟩
abbrev main_while0b_v290 : Ref sig .tc := ⟨.hbm, 208, rfl⟩
abbrev main_while0b_v291 : Ref sig .tc := ⟨.hbm, 209, rfl⟩
abbrev main_while0b_c_51 : Ref sig .tc := ⟨.hbm, 210, rfl⟩
abbrev main_while0b_v292 : Ref sig .tc := ⟨.hbm, 211, rfl⟩
abbrev main_while0b_v293 : Ref sig .tc := ⟨.hbm, 212, rfl⟩
abbrev main_while0b_c_52 : Ref sig .tc := ⟨.hbm, 213, rfl⟩
abbrev main_while0b_v294 : Ref sig .tc := ⟨.hbm, 214, rfl⟩
abbrev main_while0b_v295 : Ref sig .tc := ⟨.hbm, 215, rfl⟩
abbrev main_while0b_c_53 : Ref sig .tc := ⟨.hbm, 216, rfl⟩
abbrev main_while0b_c_54 : Ref sig .tc := ⟨.hbm, 217, rfl⟩
abbrev main_while0b_v296 : Ref sig .tc := ⟨.hbm, 218, rfl⟩
abbrev main_while0b_c_55 : Ref sig .tc := ⟨.hbm, 219, rfl⟩
abbrev main_while0b_v297 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_cst_16 : Ref sig .tc := ⟨.hbm, 225, rfl⟩
abbrev main_v121 : Ref sig .tc := ⟨.hbm, 226, rfl⟩
abbrev main_v122 : Ref sig .tc := ⟨.hbm, 227, rfl⟩
abbrev main_cst_17 : Ref sig .tc := ⟨.hbm, 228, rfl⟩
abbrev main_v123 : Ref sig .tc := ⟨.hbm, 229, rfl⟩
abbrev main_v124 : Ref sig .tc := ⟨.hbm, 230, rfl⟩
abbrev main_cst_18 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_cst_19 : Ref sig .tc := ⟨.hbm, 242, rfl⟩
abbrev main_v135 : Ref sig .tc := ⟨.hbm, 243, rfl⟩
abbrev main_v136 : Ref sig .tc := ⟨.hbm, 244, rfl⟩
abbrev main_cst_20 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_cst_21 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_22 : Ref sig .tc := ⟨.hbm, 286, rfl⟩
abbrev main_v176 : Ref sig .tc := ⟨.hbm, 287, rfl⟩
abbrev main_v177 : Ref sig .tc := ⟨.hbm, 288, rfl⟩
abbrev main_cst_23 : Ref sig .tc := ⟨.hbm, 289, rfl⟩
abbrev main_v178 : Ref sig .tc := ⟨.hbm, 290, rfl⟩
abbrev main_v179 : Ref sig .tc := ⟨.hbm, 291, rfl⟩
abbrev main_cst_24 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_cst_25 : Ref sig .tc := ⟨.hbm, 303, rfl⟩
abbrev main_v190 : Ref sig .tc := ⟨.hbm, 304, rfl⟩
abbrev main_v191 : Ref sig .tc := ⟨.hbm, 305, rfl⟩
abbrev main_cst_26 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_cst_27 : Ref sig .tc := ⟨.hbm, 342, rfl⟩
abbrev main_v227 : Ref sig .tc := ⟨.hbm, 343, rfl⟩
abbrev main_v228 : Ref sig .tc := ⟨.hbm, 344, rfl⟩
abbrev main_cst_28 : Ref sig .tc := ⟨.hbm, 345, rfl⟩
abbrev main_v229 : Ref sig .tc := ⟨.hbm, 346, rfl⟩
abbrev main_v230 : Ref sig .tc := ⟨.hbm, 347, rfl⟩
abbrev main_cst_29 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_cst_30 : Ref sig .tc := ⟨.hbm, 359, rfl⟩
abbrev main_v241 : Ref sig .tc := ⟨.hbm, 360, rfl⟩
abbrev main_v242 : Ref sig .tc := ⟨.hbm, 361, rfl⟩
abbrev main_cst_31 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S2048x1024 : Shape := ⟨2, ![2048, 1024]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .f32⟩
  | .local _ .vmem, ⟨9, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Front.lean ====
/- What one point of the front call's grid leaves in its outputs and in the two scratch buffers it carries,
   point after point, the obligation the pipeline asks of the body, and the run of the whole program. -/

module

public import proofs.«01_k».proof.Proof.Gen.KernelIdeal.Frame.RunB
public import Idealize.ShloMosaic.Lib.Claim

@[expose] public section

-- the long axes of the blocks are walked once per coordinate
set_option maxRecDepth 16384

noncomputable section

namespace Cert.KernelIdeal.Front

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's run at a point that starts a sequence. -/
def runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The body's run at any other point, over the scratch the point before left. -/
def runB (c : Dev nD) (t : Fin cfg0.N) (h0 : ¬t.val % 16 = 0) (xs0 xs1 : Vec F S8x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) xs0 xs1

/-- What a point leaves: the nine outputs' blocks, then the two carried scratch buffers. -/
abbrev Outs (F : FTy → Type) : Type := Vec F S512x512 .bf16 × Vec F S1x512x512 .bf16 × Vec F S1x512x128 .bf16 × Vec F S1x128x512 .bf16 × Vec F S1x512x128 .bf16 × Vec F S1x128x512 .bf16 × Vec F S1x128x512 .f32 × Vec F S512x256 .f32 × Vec F S512x512 .f32 × Vec F S8x512 .f32 × Vec F S8x512 .f32

theorem coverA_17 (c : Dev nD) (t : Fin cfg0.N) (h0 : t.val % 16 = 0) (y : S512x512.Idx) :
    ∃ pc ∈ (runA m c t h0).1, y ∈ pc.1.set :=
  View.cover_of_tiledL (runA m c t h0).1 S32x512.size (by sl_kernel_rfl) y
theorem coverA_18 (c : Dev nD) (t : Fin cfg0.N) (h0 : t.val % 16 = 0) (y : S1x512x512.Idx) :
    ∃ pc ∈ (runA m c t h0).2.1, y ∈ pc.1.set :=
  View.cover_of_tiledL (runA m c t h0).2.1 S1x128x512.size (by sl_kernel_rfl) y
theorem coverA_19 (c : Dev nD) (t : Fin cfg0.N) (h0 : t.val % 16 = 0) (y : S1x512x128.Idx) :
    ∃ pc ∈ (runA m c t h0).2.2.1, y ∈ pc.1.set :=
  View.cover_of_tiledL (runA m c t h0).2.2.1 S1x512x128.size (by sl_kernel_rfl) y
theorem coverA_20 (c : Dev nD) (t : Fin cfg0.N) (h0 : t.val % 16 = 0) (y : S1x128x512.Idx) :
    ∃ pc ∈ (runA m c t h0).2.2.2.1, y ∈ pc.1.set :=
  View.cover_of_tiledL (runA m c t h0).2.2.2.1 S1x128x512.size (by sl_kernel_rfl) y
theorem coverA_21 (c : Dev nD) (t : Fin cfg0.N) (h0 : t.val % 16 = 0) (y : S1x512x128.Idx) :
    ∃ pc ∈ (runA m c t h0).2.2.2.2.1, y ∈ pc.1.set :=
  View.cover_of_tiledL (runA m c t h0).2.2.2.2.1 S1x512x128.size (by sl_kernel_rfl) y
theorem coverA_22 (c : Dev nD) (t : Fin cfg0.N) (h0 : t.val % 16 = 0) (y : S1x128x512.Idx) :
    ∃ pc ∈ (runA m c t h0).2.2.2.2.2.1, y ∈ pc.1.set :=
  View.cover_of_tiledL (runA m c t h0).2.2.2.2.2.1 S1x128x512.size (by sl_kernel_rfl) y
theorem coverA_23 (c : Dev nD) (t : Fin cfg0.N) (h0 : t.val % 16 = 0) (y : S1x128x512.Idx) :
    ∃ pc ∈ (runA m c t h0).2.2.2.2.2.2.1, y ∈ pc.1.set :=
  View.cover_of_tiledL (runA m c t h0).2.2.2.2.2.2.1 S1x128x512.size (by sl_kernel_rfl) y
theorem coverA_24 (c : Dev nD) (t : Fin cfg0.N) (h0 : t.val % 16 = 0) (y : S512x256.Idx) :
    ∃ pc ∈ (runA m c t h0).2.2.2.2.2.2.2.1, y ∈ pc.1.set :=
  View.cover_of_tiledL (runA m c t h0).2.2.2.2.2.2.2.1 S512x256.size (by sl_kernel_rfl) y
theorem coverA_25 (c : Dev nD) (t : Fin cfg0.N) (h0 : t.val % 16 = 0) (y : S512x512.Idx) :
    ∃ pc ∈ (runA m c t h0).2.2.2.2.2.2.2.2.1, y ∈ pc.1.set :=
  View.cover_of_tiledL (runA m c t h0).2.2.2.2.2.2.2.2.1 S512x256.size (by sl_kernel_rfl) y
theorem coverA_s0 (c : Dev nD) (t : Fin cfg0.N) (h0 : t.val % 16 = 0) (y : S8x512.Idx) :
    ∃ pc ∈ (runA m c t h0).2.2.2.2.2.2.2.2.2.1, y ∈ pc.1.set :=
  View.cover_of_tiledL (runA m c t h0).2.2.2.2.2.2.2.2.2.1 S8x512.size (by sl_kernel_rfl) y
theorem coverA_s1 (c : Dev nD) (t : Fin cfg0.N) (h0 : t.val % 16 = 0) (y : S8x512.Idx) :
    ∃ pc ∈ (runA m c t h0).2.2.2.2.2.2.2.2.2.2.1, y ∈ pc.1.set :=
  View.cover_of_tiledL (runA m c t h0).2.2.2.2.2.2.2.2.2.2.1 S8x512.size (by sl_kernel_rfl) y

/-- What a point of case A leaves: its stores read back. -/
def outsA (c : Dev nD) (t : Fin cfg0.N) (h0 : t.val % 16 = 0) : Outs F :=
  (VO0_17.read (Elt F) (VO0_17.writes (Elt F) VO0_17.junk (runA m c t h0).1),
   VO0_18.read (Elt F) (VO0_18.writes (Elt F) VO0_18.junk (runA m c t h0).2.1),
   VO0_19.read (Elt F) (VO0_19.writes (Elt F) VO0_19.junk (runA m c t h0).2.2.1),
   VO0_20.read (Elt F) (VO0_20.writes (Elt F) VO0_20.junk (runA m c t h0).2.2.2.1),
   VO0_21.read (Elt F) (VO0_21.writes (Elt F) VO0_21.junk (runA m c t h0).2.2.2.2.1),
   VO0_22.read (Elt F) (VO0_22.writes (Elt F) VO0_22.junk (runA m c t h0).2.2.2.2.2.1),
   VO0_23.read (Elt F) (VO0_23.writes (Elt F) VO0_23.junk (runA m c t h0).2.2.2.2.2.2.1),
   VO0_24.read (Elt F) (VO0_24.writes (Elt F) VO0_24.junk (runA m c t h0).2.2.2.2.2.2.2.1),
   VO0_25.read (Elt F) (VO0_25.writes (Elt F) VO0_25.junk (runA m c t h0).2.2.2.2.2.2.2.2.1),
   VS0_0.read (Elt F) (VS0_0.writes (Elt F) VS0_0.junk (runA m c t h0).2.2.2.2.2.2.2.2.2.1),
   VS0_1.read (Elt F) (VS0_1.writes (Elt F) VS0_1.junk (runA m c t h0).2.2.2.2.2.2.2.2.2.2.1))

theorem coverB_17 (c : Dev nD) (t : Fin cfg0.N) (h0 : ¬t.val % 16 = 0) (xs0 xs1 : Vec F S8x512 .f32) (y : S512x512.Idx) :
    ∃ pc ∈ (runB m c t h0 xs0 xs1).1, y ∈ pc.1.set :=
  View.cover_of_tiledL (runB m c t h0 xs0 xs1).1 S32x512.size (by sl_kernel_rfl) y
theorem coverB_18 (c : Dev nD) (t : Fin cfg0.N) (h0 : ¬t.val % 16 = 0) (xs0 xs1 : Vec F S8x512 .f32) (y : S1x512x512.Idx) :
    ∃ pc ∈ (runB m c t h0 xs0 xs1).2.1, y ∈ pc.1.set :=
  View.cover_of_tiledL (runB m c t h0 xs0 xs1).2.1 S1x128x512.size (by sl_kernel_rfl) y
theorem coverB_19 (c : Dev nD) (t : Fin cfg0.N) (h0 : ¬t.val % 16 = 0) (xs0 xs1 : Vec F S8x512 .f32) (y : S1x512x128.Idx) :
    ∃ pc ∈ (runB m c t h0 xs0 xs1).2.2.1, y ∈ pc.1.set :=
  View.cover_of_tiledL (runB m c t h0 xs0 xs1).2.2.1 S1x512x128.size (by sl_kernel_rfl) y
theorem coverB_20 (c : Dev nD) (t : Fin cfg0.N) (h0 : ¬t.val % 16 = 0) (xs0 xs1 : Vec F S8x512 .f32) (y : S1x128x512.Idx) :
    ∃ pc ∈ (runB m c t h0 xs0 xs1).2.2.2.1, y ∈ pc.1.set :=
  View.cover_of_tiledL (runB m c t h0 xs0 xs1).2.2.2.1 S1x128x512.size (by sl_kernel_rfl) y
theorem coverB_21 (c : Dev nD) (t : Fin cfg0.N) (h0 : ¬t.val % 16 = 0) (xs0 xs1 : Vec F S8x512 .f32) (y : S1x512x128.Idx) :
    ∃ pc ∈ (runB m c t h0 xs0 xs1).2.2.2.2.1, y ∈ pc.1.set :=
  View.cover_of_tiledL (runB m c t h0 xs0 xs1).2.2.2.2.1 S1x512x128.size (by sl_kernel_rfl) y
theorem coverB_22 (c : Dev nD) (t : Fin cfg0.N) (h0 : ¬t.val % 16 = 0) (xs0 xs1 : Vec F S8x512 .f32) (y : S1x128x512.Idx) :
    ∃ pc ∈ (runB m c t h0 xs0 xs1).2.2.2.2.2.1, y ∈ pc.1.set :=
  View.cover_of_tiledL (runB m c t h0 xs0 xs1).2.2.2.2.2.1 S1x128x512.size (by sl_kernel_rfl) y
theorem coverB_23 (c : Dev nD) (t : Fin cfg0.N) (h0 : ¬t.val % 16 = 0) (xs0 xs1 : Vec F S8x512 .f32) (y : S1x128x512.Idx) :
    ∃ pc ∈ (runB m c t h0 xs0 xs1).2.2.2.2.2.2.1, y ∈ pc.1.set :=
  View.cover_of_tiledL (runB m c t h0 xs0 xs1).2.2.2.2.2.2.1 S1x128x512.size (by sl_kernel_rfl) y
theorem coverB_24 (c : Dev nD) (t : Fin cfg0.N) (h0 : ¬t.val % 16 = 0) (xs0 xs1 : Vec F S8x512 .f32) (y : S512x256.Idx) :
    ∃ pc ∈ (runB m c t h0 xs0 xs1).2.2.2.2.2.2.2.1, y ∈ pc.1.set :=
  View.cover_of_tiledL (runB m c t h0 xs0 xs1).2.2.2.2.2.2.2.1 S512x256.size (by sl_kernel_rfl) y
theorem coverB_25 (c : Dev nD) (t : Fin cfg0.N) (h0 : ¬t.val % 16 = 0) (xs0 xs1 : Vec F S8x512 .f32) (y : S512x512.Idx) :
    ∃ pc ∈ (runB m c t h0 xs0 xs1).2.2.2.2.2.2.2.2.1, y ∈ pc.1.set :=
  View.cover_of_tiledL (runB m c t h0 xs0 xs1).2.2.2.2.2.2.2.2.1 S512x256.size (by sl_kernel_rfl) y
theorem coverB_s0 (c : Dev nD) (t : Fin cfg0.N) (h0 : ¬t.val % 16 = 0) (xs0 xs1 : Vec F S8x512 .f32) (y : S8x512.Idx) :
    ∃ pc ∈ (runB m c t h0 xs0 xs1).2.2.2.2.2.2.2.2.2.1, y ∈ pc.1.set :=
  View.cover_of_tiledL (runB m c t h0 xs0 xs1).2.2.2.2.2.2.2.2.2.1 S8x512.size (by sl_kernel_rfl) y
theorem coverB_s1 (c : Dev nD) (t : Fin cfg0.N) (h0 : ¬t.val % 16 = 0) (xs0 xs1 : Vec F S8x512 .f32) (y : S8x512.Idx) :
    ∃ pc ∈ (runB m c t h0 xs0 xs1).2.2.2.2.2.2.2.2.2.2.1, y ∈ pc.1.set :=
  View.cover_of_tiledL (runB m c t h0 xs0 xs1).2.2.2.2.2.2.2.2.2.2.1 S8x512.size (by sl_kernel_rfl) y

/-- What a point of case B leaves: its stores read back. -/
def outsB (c : Dev nD) (t : Fin cfg0.N) (h0 : ¬t.val % 16 = 0) (xs0 xs1 : Vec F S8x512 .f32) : Outs F :=
  (VO0_17.read (Elt F) (VO0_17.writes (Elt F) VO0_17.junk (runB m c t h0 xs0 xs1).1),
   VO0_18.read (Elt F) (VO0_18.writes (Elt F) VO0_18.junk (runB m c t h0 xs0 xs1).2.1),
   VO0_19.read (Elt F) (VO0_19.writes (Elt F) VO0_19.junk (runB m c t h0 xs0 xs1).2.2.1),
   VO0_20.read (Elt F) (VO0_20.writes (Elt F) VO0_20.junk (runB m c t h0 xs0 xs1).2.2.2.1),
   VO0_21.read (Elt F) (VO0_21.writes (Elt F) VO0_21.junk (runB m c t h0 xs0 xs1).2.2.2.2.1),
   VO0_22.read (Elt F) (VO0_22.writes (Elt F) VO0_22.junk (runB m c t h0 xs0 xs1).2.2.2.2.2.1),
   VO0_23.read (Elt F) (VO0_23.writes (Elt F) VO0_23.junk (runB m c t h0 xs0 xs1).2.2.2.2.2.2.1),
   VO0_24.read (Elt F) (VO0_24.writes (Elt F) VO0_24.junk (runB m c t h0 xs0 xs1).2.2.2.2.2.2.2.1),
   VO0_25.read (Elt F) (VO0_25.writes (Elt F) VO0_25.junk (runB m c t h0 xs0 xs1).2.2.2.2.2.2.2.2.1),
   VS0_0.read (Elt F) (VS0_0.writes (Elt F) VS0_0.junk (runB m c t h0 xs0 xs1).2.2.2.2.2.2.2.2.2.1),
   VS0_1.read (Elt F) (VS0_1.writes (Elt F) VS0_1.junk (runB m c t h0 xs0 xs1).2.2.2.2.2.2.2.2.2.2.1))

/-- What the point at position `n` leaves. -/
def outsAt0 (c : Dev nD) : (n : ℕ) → n < cfg0.N → Outs F
  | 0, hn => outsA m c ⟨0, hn⟩ (Nat.zero_mod _)
  | n + 1, hn =>
    if h0 : (n + 1) % 16 = 0 then outsA m c ⟨n + 1, hn⟩ h0
    else outsB m c ⟨n + 1, hn⟩ h0 (outsAt0 c n (Nat.lt_of_succ_lt hn)).2.2.2.2.2.2.2.2.2.1 (outsAt0 c n (Nat.lt_of_succ_lt hn)).2.2.2.2.2.2.2.2.2.2

theorem outsAt0_A (c : Dev nD) (t : Fin cfg0.N) (h0 : t.val % 16 = 0) :
    outsAt0 m c t.val t.isLt = outsA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = outsB m c t h0 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  obtain ⟨n, hn⟩ := t
  cases n with
  | zero => exact absurd (Nat.zero_mod _) h0
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ owns (c : Thread nD τ) scM0_1 fullShare ((outsAt0 m c n hn).2.2.2.2.2.2.2.2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ owns (c : Thread nD τ) scM0_1 fullShare ((outsAt0 m c (n - 1) (by omega)).2.2.2.2.2.2.2.2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨19, _⟩ => (outsAt0 m c t.val t.isLt).2.2.1
    | ⟨20, _⟩ => (outsAt0 m c t.val t.isLt).2.2.2.1
    | ⟨21, _⟩ => (outsAt0 m c t.val t.isLt).2.2.2.2.1
    | ⟨22, _⟩ => (outsAt0 m c t.val t.isLt).2.2.2.2.2.1
    | ⟨23, _⟩ => (outsAt0 m c t.val t.isLt).2.2.2.2.2.2.1
    | ⟨24, _⟩ => (outsAt0 m c t.val t.isLt).2.2.2.2.2.2.2.1
    | ⟨25, _⟩ => (outsAt0 m c t.val t.isLt).2.2.2.2.2.2.2.2.1
    | ⟨_ + 26, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem after0_19 (c : Dev nD) (t : Fin cfg0.N) : (dats m 0 c).after 19 t = (outsAt0 m c t.val t.isLt).2.2.1 := by dsimp only [dats]
theorem after0_20 (c : Dev nD) (t : Fin cfg0.N) : (dats m 0 c).after 20 t = (outsAt0 m c t.val t.isLt).2.2.2.1 := by dsimp only [dats]
theorem after0_21 (c : Dev nD) (t : Fin cfg0.N) : (dats m 0 c).after 21 t = (outsAt0 m c t.val t.isLt).2.2.2.2.1 := by dsimp only [dats]
theorem after0_22 (c : Dev nD) (t : Fin cfg0.N) : (dats m 0 c).after 22 t = (outsAt0 m c t.val t.isLt).2.2.2.2.2.1 := by dsimp only [dats]
theorem after0_23 (c : Dev nD) (t : Fin cfg0.N) : (dats m 0 c).after 23 t = (outsAt0 m c t.val t.isLt).2.2.2.2.2.2.1 := by dsimp only [dats]
theorem after0_24 (c : Dev nD) (t : Fin cfg0.N) : (dats m 0 c).after 24 t = (outsAt0 m c t.val t.isLt).2.2.2.2.2.2.2.1 := by dsimp only [dats]
theorem after0_25 (c : Dev nD) (t : Fin cfg0.N) : (dats m 0 c).after 25 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 22400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq]
      rw [outsAt0_A m c t h0]
      unfold outsA; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runA m c t h0).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%fT2, HS2⟩, ⟨%fT3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA_s0 m c t h0)
          isplitl [HS1]
          · unfold owns; iexists _; isplitr
            swap; · iexact HS1
            ipureintro; exact View.read_writes_of_cover _ _ _ _ _ (coverA_s1 m c t h0)
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      unfold owns; iexists _; isplitr
      swap; · iexact H25
      ipureintro; exact View.read_writes_of_cover _ _ _ _ _ (coverA_25 m c t h0)
    · rw [PhiS_castSucc m c t, PhiS_pos m c _ _ hz]
      rw [outsAt0_A m c t h0]
      unfold outsA; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runA m c t h0).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexists _; iexact HS0
      isplitl [HS1]; · iexists _; iexact HS1
      isplitl [HS2]; · iexact HS2
      isplitl [HS3]; · iexact HS3
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%fT2, HS2⟩, ⟨%fT3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA_s0 m c t h0)
          isplitl [HS1]
          · unfold owns; iexists _; isplitr
            swap; · iexact HS1
            ipureintro; exact View.read_writes_of_cover _ _ _ _ _ (coverA_s1 m c t h0)
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      isplitl [H21]
      · unfold owns; iexists _; isplitr
        swap; · iexact H21
        ipureintro; exact View.read_writes_of_cover _ _ _ _ _ (coverA_21 m c t h0)
      isplitl [H22]
      · unfold owns; iexists _; isplitr
        swap; · iexact H22
        ipureintro; exact View.read_writes_of_cover _ _ _ _ _ (coverA_22 m c t h0)
      isplitl [H23]
      · unfold owns; iexists _; isplitr
        swap; · iexact H23
        ipureintro; exact View.read_writes_of_cover _ _ _ _ _ (coverA_23 m c t h0)
      isplitl [H24]
      · unfold owns; iexists _; isplitr
        swap; · iexact H24
        ipureintro; exact View.read_writes_of_cover _ _ _ _ _ (coverA_24 m c t h0)
      unfold owns; iexists _; isplitr
      swap; · iexact H25
      ipureintro; exact View.read_writes_of_cover _ _ _ _ _ (coverA_25 m c t h0)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold outsB; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((runB m c t h0 _ _).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%fT2, HS2⟩, ⟨%fT3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverB_s0 m c t h0 _ _)
          isplitl [HS1]
          · unfold owns; iexists _; isplitr
            swap; · iexact HS1
            ipureintro; exact View.read_writes_of_cover _ _ _ _ _ (coverB_s1 m c t h0 _ _)
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · unfold owns; iexists _; isplitr
        swap; · iexact H17
        ipureintro; exact View.read_writes_of_cover _ _ _ _ _ (coverB_17 m c t h0 _ _)
      isplitl [H18]
      · unfold owns; iexists _; isplitr
        swap; · iexact H18
        ipureintro; exact View.read_writes_of_cover _ _ _ _ _ (coverB_18 m c t h0 _ _)
      isplitl [H19]
      · unfold owns; iexists _; isplitr
        swap; · iexact H19
        ipureintro; exact View.read_writes_of_cover _ _ _ _ _ (coverB_19 m c t h0 _ _)
      isplitl [H20]
      · unfold owns; iexists _; isplitr
        swap; · iexact H20
        ipureintro; exact View.read_writes_of_cover _ _ _ _ _ (coverB_20 m c t h0 _ _)
      isplitl [H21]
      · unfold owns; iexists _; isplitr
        swap; · iexact H21
        ipureintro; exact View.read_writes_of_cover _ _ _ _ _ (coverB_21 m c t h0 _ _)
      isplitl [H22]
      · unfold owns; iexists _; isplitr
        swap; · iexact H22
        ipureintro; exact View.read_writes_of_cover _ _ _ _ _ (coverB_22 m c t h0 _ _)
      isplitl [H23]
      · unfold owns; iexists _; isplitr
        swap; · iexact H23
        ipureintro; exact View.read_writes_of_cover _ _ _ _ _ (coverB_23 m c t h0 _ _)
      isplitl [H24]
      · unfold owns; iexists _; isplitr
        swap; · iexact H24
        ipureintro; exact View.read_writes_of_cover _ _ _ _ _ (coverB_24 m c t h0 _ _)
      unfold owns; iexists _; isplitr
      swap; · iexact H25
      ipureintro; exact View.read_writes_of_cover _ _ _ _ _ (coverB_25 m c t h0 _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in

/-- The run, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Front

end
-- ==== Proof.Same.lean ====
module

public import proofs.«01_k».proof.Defs
public import proofs.«01_k».proof.Proof.Gen.Kernel
public import proofs.«01_k».proof.Proof.Gen.KernelIdeal
public import Idealize.ShloMosaic.Lib.Pipeline.ValueKit

@[expose] public section

noncomputable section

namespace Cert.KernelIdeal.Same

open Idealize.ShloMosaic Idealize.ShloMosaic.TcCoe Idealize.ShloMosaic.Tactic Idealize.SL.Sem
open Cert.KernelIdeal

/-- The kernel's frame, said of the idealised program at the compiled program's own floats: no rule was applied, so the two programs
    are the same text. -/
def stated : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

/-- The two statements are one. -/
theorem stated_eq : @Cert.quiescent_Kernel Cert.Kernel.Gen.facts = stated := by
  sl_kernel_rfl

end Cert.KernelIdeal.Same
-- ==== Proof.RefRun.lean ====
module

public import proofs.«01_k».proof.Proof.Gen.ReferenceIdeal.Run
public import Idealize.ShloMosaic.Lib.Claim

@[expose] public section

set_option maxRecDepth 16384

/-! The reference's run: what each buffer holds at the end, and that it leaves its arguments as they were. -/
namespace Cert.ReferenceIdeal.Ref

open Idealize.ShloMosaic Cert.ReferenceIdeal.Gen Cert.ReferenceIdeal.Value Idealize.ShloMosaic.TcCoe Idealize.ShloMosaic.StableHlo
open Idealize.SL.Sem

variable {F : FTy → Type} [FloatOps F]
variable (m : (ℓ : Loc nD τ sig) → Buf (Elt F) ℓ) (ρ : Dev nD → PrngReg) (c : Dev nD)

/-- The program has no counter of its own. -/
theorem no_counter (s : GSem nD τ sig → Int) : s = fun _ => 0 := by
  funext g
  obtain ⟨t, l⟩ := g
  cases l with
  | reg i => exact i.elim0
  | dma i => exact i.elim0

/-- Before the loop: each stretch of operations done so far. -/
def E1 : Valuation τ sig (Elt F) := after hostOps0 (launchContents m c)
def E2 : Valuation τ sig (Elt F) := after hostOps0_1 (E1 m c)
def E3 : Valuation τ sig (Elt F) := after hostOps0_2 (E2 m c)
def E4 : Valuation τ sig (Elt F) := after hostOps0_3 (E3 m c)
def E5 : Valuation τ sig (Elt F) := after hostOps0_4 (E4 m c)
def E6 : Valuation τ sig (Elt F) := after hostOps0_5 (E5 m c)
def E7 : Valuation τ sig (Elt F) := after hostOps0_6 (E6 m c)
def E8 : Valuation τ sig (Elt F) := after hostOps0_7 (E7 m c)
def E9 : Valuation τ sig (Elt F) := after hostOps0_8 (E8 m c)

theorem entry_eq : entryContents preI m c = E9 m c := rfl

theorem E1_keep (r : Ref sig .tc) (h : r ∉ hostOps0_W) : E1 m c (Proc.devRef .tc r) = m ((c.tc : Thread nD τ).loc r) :=
  after_of_writes_sub _ _ hostOps0_writes h
theorem E2_keep (r : Ref sig .tc) (h : r ∉ hostOps0_1_W) : E2 m c (Proc.devRef .tc r) = E1 m c (Proc.devRef .tc r) :=
  after_of_writes_sub _ _ hostOps0_1_writes h
theorem E3_keep (r : Ref sig .tc) (h : r ∉ hostOps0_2_W) : E3 m c (Proc.devRef .tc r) = E2 m c (Proc.devRef .tc r) :=
  after_of_writes_sub _ _ hostOps0_2_writes h
theorem E4_keep (r : Ref sig .tc) (h : r ∉ hostOps0_3_W) : E4 m c (Proc.devRef .tc r) = E3 m c (Proc.devRef .tc r) :=
  after_of_writes_sub _ _ hostOps0_3_writes h
theorem E5_keep (r : Ref sig .tc) (h : r ∉ hostOps0_4_W) : E5 m c (Proc.devRef .tc r) = E4 m c (Proc.devRef .tc r) :=
  after_of_writes_sub _ _ hostOps0_4_writes h
theorem E6_keep (r : Ref sig .tc) (h : r ∉ hostOps0_5_W) : E6 m c (Proc.devRef .tc r) = E5 m c (Proc.devRef .tc r) :=
  after_of_writes_sub _ _ hostOps0_5_writes h
theorem E7_keep (r : Ref sig .tc) (h : r ∉ hostOps0_6_W) : E7 m c (Proc.devRef .tc r) = E6 m c (Proc.devRef .tc r) :=
  after_of_writes_sub _ _ hostOps0_6_writes h
theorem E8_keep (r : Ref sig .tc) (h : r ∉ hostOps0_7_W) : E8 m c (Proc.devRef .tc r) = E7 m c (Proc.devRef .tc r) :=
  after_of_writes_sub _ _ hostOps0_7_writes h
theorem E9_keep (r : Ref sig .tc) (h : r ∉ hostOps0_8_W) : E9 m c (Proc.devRef .tc r) = E8 m c (Proc.devRef .tc r) :=
  after_of_writes_sub _ _ hostOps0_8_writes h

/-- A buffer that neither the loop nor what follows writes. -/
theorem loop_keep (r : Ref sig .tc) (h1 : r ∉ condOps_W) (h2 : r ∉ while0Ops0_W) :
    ∀ k, atK m k c (Proc.devRef .tc r) = E9 m c (Proc.devRef .tc r)
  | 0 => rfl
  | k + 1 =>
    ((after_of_writes_sub _ _ while0Ops0_writes h2 : after while0Ops0 (after condOps (atK m k c)) _ = _).trans
      (after_of_writes_sub _ _ condOps_writes h1)).trans (loop_keep r h1 h2 k)

/-- What the operations after the loop write. -/
noncomputable abbrev hostOps0_9_W : List (Ref sig .tc) := [main_v117, main_v118, main_v119, main_v120, main_cst_16, main_v121, main_v122, main_cst_17, main_v123, main_v124, main_cst_18, main_v125, main_v126, main_v127, main_v128, main_v129, main_v130, main_v131, main_v132, main_v133, main_v134, main_cst_19, main_v135, main_v136, main_cst_20, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_cst_21, main_v164, main_v165, main_v166, main_v167, main_v168, main_v169, main_v170, main_v171, main_v172, main_v173, main_v174, main_v175, main_cst_22, main_v176, main_v177, main_cst_23, main_v178, main_v179, main_cst_24, main_v180, main_v181, main_v182, main_v183, main_v184, main_v185, main_v186, main_v187, main_v188, main_v189, main_cst_25, main_v190, main_v191, main_cst_26, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_cst_27, main_v227, main_v228, main_cst_28, main_v229, main_v230, main_cst_29, main_v231, main_v232, main_v233, main_v234, main_v235, main_v236, main_v237, main_v238, main_v239, main_v240, main_cst_30, main_v241, main_v242, main_cst_31, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272]
set_option maxHeartbeats 4000000 in
theorem hostOps0_9_writes : (hostOps0_9 : List (HloOp τ sig (Elt F))).Forall fun op => op.writes ⊆ (hostOps0_9_W.map (Proc.devRef (τ := τ) .tc)).toFinset :=
  StableHlo.forall_writes_sub_of_map rfl

theorem final_keep (r : Ref sig .tc) (h1 : r ∉ condOps_W) (h2 : r ∉ while0Ops0_W) (h3 : r ∉ hostOps0_9_W) :
    finalContents condOps preI bodyI postI 8192 m c (Proc.devRef .tc r) = E9 m c (Proc.devRef .tc r) :=
  ((after_of_writes_sub _ _ hostOps0_9_writes h3 : after hostOps0_9 (after condOps (atK m 8192 c)) _ = _).trans
    (after_of_writes_sub _ _ condOps_writes h1)).trans (loop_keep m c r h1 h2 8192)

/-- A buffer that no operation before the loop writes. -/
theorem E9_launch (r : Ref sig .tc) (h : r ∉ hostOps0_W ++ (hostOps0_1_W ++ (hostOps0_2_W ++ (hostOps0_3_W ++ (hostOps0_4_W ++ (hostOps0_5_W ++ (hostOps0_6_W ++ (hostOps0_7_W ++ hostOps0_8_W)))))))) :
    E9 m c (Proc.devRef .tc r) = m ((c.tc : Thread nD τ).loc r) := by
  simp only [List.mem_append, not_or] at h
  obtain ⟨h0, h1, h2, h3, h4, h5, h6, h7, h8⟩ := h
  rw [E9_keep m c r h8, E8_keep m c r h7, E7_keep m c r h6, E6_keep m c r h5, E5_keep m c r h4, E4_keep m c r h3, E3_keep m c r h2,
    E2_keep m c r h1, E1_keep m c r h0]

/-- An argument ends as it began. -/
theorem arg_keep (r : Ref sig .tc) (h : r ∈ [main_arg0, main_arg1, main_arg2, main_arg3, main_arg4, main_arg5, main_arg6, main_arg7, main_arg8, main_arg9, main_arg10, main_arg11]) :
    finalContents condOps preI bodyI postI 8192 m c (Proc.devRef .tc r) = m ((c.tc : Thread nD τ).loc r) := by
  refine (final_keep m c r ?_ ?_ ?_).trans (E9_launch m c r ?_)
  all_goals (revert r; decide +kernel)

/-- The run, its counters too. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 8192 m c (Proc.devRef .tc b)) ∧ r.2.sem = fun _ => 0) :=
  (θ_run _ _ _).mono (fun r h => ⟨h, no_counter _⟩) (run_fold m ρ)

end Cert.ReferenceIdeal.Ref

end
-- ==== Proof.Frames.lean ====
module

public import proofs.«01_k».proof.Defs
public import proofs.«01_k».proof.Proof.Gen.Kernel
public import proofs.«01_k».proof.Proof.Gen.KernelIdeal
public import proofs.«01_k».proof.Proof.Front
public import proofs.«01_k».proof.Proof.Same
public import proofs.«01_k».proof.Proof.RefRun

@[expose] public section

/-! The frames: each program ends, faults nowhere, and leaves its arguments and its counters as they were. -/
namespace Cert.Frames

open Idealize.ShloMosaic Idealize.SL.Sem

theorem kernel : @Cert.quiescent_Kernel Cert.Kernel.Gen.facts := by
  rw [Cert.KernelIdeal.Same.stated_eq]
  exact fun m g _ => Cert.KernelIdeal.Front.frame m g

theorem kernelIdeal : @Cert.quiescent_KernelIdeal Cert.KernelIdeal.Gen.facts :=
  fun m g _ => Cert.KernelIdeal.Front.frame m g

theorem referenceIdeal : @Cert.quiescent_ReferenceIdeal Cert.ReferenceIdeal.Gen.facts := fun m g _ =>
  (θ_run _ _ _).mono (fun r h => ⟨fun c => by
    have k : ∀ b ∈ [Cert.ReferenceIdeal.main_arg0, Cert.ReferenceIdeal.main_arg1, Cert.ReferenceIdeal.main_arg2, Cert.ReferenceIdeal.main_arg3,
        Cert.ReferenceIdeal.main_arg4, Cert.ReferenceIdeal.main_arg5, Cert.ReferenceIdeal.main_arg6, Cert.ReferenceIdeal.main_arg7,
        Cert.ReferenceIdeal.main_arg8, Cert.ReferenceIdeal.main_arg9, Cert.ReferenceIdeal.main_arg10, Cert.ReferenceIdeal.main_arg11],
        r.2.mem ((c.tc : Thread Cert.ReferenceIdeal.nD Cert.ReferenceIdeal.τ).loc b)
          = m ((c.tc : Thread Cert.ReferenceIdeal.nD Cert.ReferenceIdeal.τ).loc b) := fun b hb =>
      (h.1 c b (by revert b; decide +kernel)).trans (Cert.ReferenceIdeal.Ref.arg_keep m c b hb)
    exact ⟨k _ (by decide), k _ (by decide), k _ (by decide), k _ (by decide), k _ (by decide), k _ (by decide), k _ (by decide),
      k _ (by decide), k _ (by decide), k _ (by decide), k _ (by decide), k _ (by decide)⟩, h.2⟩) (Cert.ReferenceIdeal.Ref.run m g)

/-- Under the precondition too: the frames need none. -/
theorem kernelIdeal_finite [h : Cert.Pre_finite.Facts] : @Cert.quiescent_KernelIdeal_pre_finite Cert.KernelIdeal.Gen.facts h :=
  fun m g _ => Cert.KernelIdeal.Front.frame m g

theorem referenceIdeal_finite [h : Cert.Pre_finite.Facts] : @Cert.quiescent_ReferenceIdeal_pre_finite Cert.ReferenceIdeal.Gen.facts h :=
  fun m g _ => referenceIdeal m g trivial

end Cert.Frames

end
-- ==== Proof.RgMath.lean ====
module
public import Idealize.ShloMosaic.PureOps.Ideal
public import Mathlib.Analysis.SpecialFunctions.Trigonometric.DerivHyp

@[expose] public section
open Idealize.ShloMosaic
namespace Cert.RgMath

/-- The kernel's `-tanh x · (e^x · e^x + 1)` is the reference's `-expm1 (2 x)` for `x ≤ 0`. -/
theorem tanh_exp (x : EReal) (hx : x ≤ 0) :
    -Ideal.tanh x * (Ideal.exp x * Ideal.exp x + 1) = -Ideal.expm1 (2 * x) := by
  induction x with
  | bot =>
    have h2 : (2 : EReal) * ⊥ = ⊥ := EReal.mul_bot_of_pos (by norm_num)
    rw [h2]; simp [Ideal.expm1]
  | top => simp at hx
  | coe r =>
    have h2 : (2 : EReal) * (r : EReal) = ((2 * r : ℝ) : EReal) := by rw [EReal.coe_mul]; rfl
    rw [h2, Ideal.expm1, Ideal.tanh_coe, Ideal.exp_coe, Ideal.exp_coe]
    norm_cast
    rw [Real.tanh_eq_sinh_div_cosh, Real.sinh_eq, Real.cosh_eq, show 2 * r = r + r by ring, Real.exp_add, Real.exp_neg]
    have := Real.exp_pos r
    field_simp

theorem exp_nonneg (x : EReal) : 0 ≤ Ideal.exp x := by
  induction x with
  | bot => simp
  | top => simp
  | coe r => rw [Ideal.exp_coe]; exact_mod_cast (Real.exp_pos r).le

theorem exp_le_one (x : EReal) (hx : x ≤ 0) : Ideal.exp x ≤ 1 := by
  induction x with
  | bot => simp
  | top => simp at hx
  | coe r => rw [Ideal.exp_coe]; exact_mod_cast Real.exp_le_one_iff.mpr (by exact_mod_cast hx)

theorem log1p_nonneg (x : EReal) (hx : 0 ≤ x) : 0 ≤ Ideal.log1p x := by
  induction x with
  | bot => simp at hx
  | top => rw [Ideal.log1p, show (1 : EReal) + ⊤ = ⊤ from EReal.add_top_of_ne_bot (EReal.coe_ne_bot 1)]; simp
  | coe r =>
    have hr : 0 ≤ r := by exact_mod_cast hx
    rw [Ideal.log1p, show (1 : EReal) + (r : EReal) = ((1 + r : ℝ) : EReal) by norm_cast, Ideal.log_coe, if_neg (by linarith)]
    exact_mod_cast Real.log_nonneg (by linarith)

theorem logistic_nonneg (x : EReal) : 0 ≤ Ideal.logistic x := by
  rw [Ideal.logistic, Ideal.div]
  have h : 0 ≤ 1 + Ideal.exp (-x) := add_nonneg zero_le_one (exp_nonneg _)
  split_ifs with h0 h1
  · simp
  · exact absurd zero_lt_one h1
  · rw [one_mul]; exact EReal.inv_nonneg_of_nonneg h

/-- The softplus both programs compute: `max v 0 + log (1 + e^(-|v|))`. -/
noncomputable def softplus (v e : EReal) : EReal := max v 0 + Ideal.log1p (Ideal.exp e)

theorem softplus_nonneg (v e : EReal) : 0 ≤ softplus v e :=
  add_nonneg (le_max_right _ _) (log1p_nonneg _ (exp_nonneg _))

theorem log_a_nonpos (r s : EReal) (hr : 0 ≤ r) (hs : 0 ≤ s) : (((-8 : ℝ) : EReal) * r) * s ≤ 0 := by
  refine mul_nonpos_of_nonpos_of_nonneg ?_ hs
  refine mul_nonpos_of_nonpos_of_nonneg ?_ hr
  exact_mod_cast (by norm_num : (-8 : ℝ) ≤ 0)

/-! ## The recurrence `h ← a·h + u`, run in groups of eight rows -/

/-- The recurrence from the state `h`: after `n` steps. -/
noncomputable def steps (a u : ℕ → EReal) (h : EReal) : ℕ → EReal
  | 0 => h
  | n + 1 => a n * steps a u h n + u n

/-- Running `p` steps and then `n` more is running `p + n` steps. -/
theorem steps_add (a u : ℕ → EReal) (h : EReal) (p n : ℕ) :
    steps (fun k => a (p + k)) (fun k => u (p + k)) (steps a u h p) n = steps a u h (p + n) := by
  induction n with
  | zero => rfl
  | succ n ih => rw [steps, ih]; rfl

theorem steps_congr {a a' u u' : ℕ → EReal} (h : EReal) (n : ℕ) (ha : ∀ k < n, a k = a' k) (hu : ∀ k < n, u k = u' k) :
    steps a u h n = steps a' u' h n := by
  induction n with
  | zero => rfl
  | succ n ih =>
    rw [steps, steps, ih (fun k hk => ha k (by omega)) (fun k hk => hu k (by omega)), ha n (by omega), hu n (by omega)]

/-- One doubling step of the in-group scan on the products. -/
noncomputable def dblA (d : ℕ) (a : ℕ → EReal) (j : ℕ) : EReal := a j * (if d ≤ j then a (j - d) else 1)
/-- One doubling step of the in-group scan on the sums. -/
noncomputable def dblU (d : ℕ) (a u : ℕ → EReal) (j : ℕ) : EReal := a j * (if d ≤ j then u (j - d) else 0) + u j

/-- `(A, U)` at row `j` is the composite of the last `d` steps ending at row `j` (of all of them when `j < d`). -/
def Window (a u : ℕ → EReal) (d : ℕ) (A U : ℕ → EReal) : Prop :=
  ∀ j, 0 ≤ A j ∧ A j ≤ 1 ∧ ∀ h, A j * h + U j =
    steps (fun k => a (j + 1 - min d (j + 1) + k)) (fun k => u (j + 1 - min d (j + 1) + k)) h (min d (j + 1))

theorem Window.one {a u : ℕ → EReal} (ha : ∀ j, 0 ≤ a j ∧ a j ≤ 1) : Window a u 1 a u := by
  intro j
  refine ⟨(ha j).1, (ha j).2, fun h => ?_⟩
  have : min 1 (j + 1) = 1 := by omega
  rw [this]
  simp [steps]

theorem ne_top_of_le_one {x : EReal} (h : x ≤ 1) : x ≠ ⊤ := fun e => by subst e; exact absurd h (by decide)

theorem Window.double {a u A U : ℕ → EReal} {d : ℕ} (hd : 0 < d) (w : Window a u d A U) :
    Window a u (d + d) (dblA d A) (dblU d A U) := by
  intro j
  obtain ⟨h0, h1, hw⟩ := w j
  unfold dblA dblU
  by_cases hj : d ≤ j
  · obtain ⟨g0, g1, gw⟩ := w (j - d)
    simp only [if_pos hj]
    refine ⟨mul_nonneg h0 g0, (mul_le_mul_of_nonneg_left g1 h0).trans (by rw [mul_one]; exact h1), fun h => ?_⟩
    rw [mul_assoc, ← add_assoc, ← EReal.left_distrib_of_nonneg_of_ne_top h0 (ne_top_of_le_one h1), gw, hw]
    have e1 : min d (j + 1) = d := by omega
    have e2 : j - d + 1 - min d (j - d + 1) = j + 1 - min (d + d) (j + 1) := by omega
    have e3 : min (d + d) (j + 1) = min d (j - d + 1) + d := by omega
    rw [e1, e2, e3]
    rw [← steps_add _ _ h (min d (j - d + 1)) d]
    refine steps_congr _ _ (fun k hk => ?_) (fun k hk => ?_)
    · exact congrArg a (by omega)
    · exact congrArg u (by omega)
  · simp only [if_neg hj]
    refine ⟨by rw [mul_one]; exact h0, by rw [mul_one]; exact h1, fun h => ?_⟩
    rw [mul_one, mul_zero, zero_add, hw, show min (d + d) (j + 1) = min d (j + 1) by omega]

/-- The products after the three doubling steps. -/
noncomputable def scanA (a : ℕ → EReal) : ℕ → EReal := dblA 4 (dblA 2 (dblA 1 a))
/-- The sums after the three doubling steps. -/
noncomputable def scanU (a u : ℕ → EReal) : ℕ → EReal :=
  dblU 4 (dblA 2 (dblA 1 a)) (dblU 2 (dblA 1 a) (dblU 1 a u))

/-- After the doubling steps 1, 2 and 4 a row below eight holds the composite of every step up to it. -/
theorem scan_eq {a u : ℕ → EReal} (ha : ∀ j, 0 ≤ a j ∧ a j ≤ 1) (h : EReal) {j : ℕ} (hj : j < 8) :
    scanA a j * h + scanU a u j = steps a u h (j + 1) := by
  have w := ((((Window.one (u := u) ha).double (by decide)).double (by decide)).double (by decide) j).2.2 h
  refine w.trans ?_
  have e : min (1 + 1 + (1 + 1) + (1 + 1 + (1 + 1))) (j + 1) = j + 1 := by omega
  rw [e]
  refine steps_congr _ _ (fun k hk => congrArg a (by omega)) (fun k hk => congrArg u (by omega))

end Cert.RgMath
-- ==== Proof.Tile.lean ====
module

public import proofs.«01_k».proof.Proof.Gen.KernelIdeal
public import proofs.«01_k».proof.Proof.RgMath
public import Idealize.ShloMosaic.Lib.Pointwise

@[expose] public section

set_option maxRecDepth 16384

/-! One chunk of 32 rows of the recurrent mixer, as functions of the convolved rows and the weights, and their values. -/
namespace Cert.KernelIdeal.Tile

open Idealize.ShloMosaic Cert.KernelIdeal.Gen

section Defs
variable {F : FTy → Type} [FloatOps F]

/-- A logistic gate of a chunk: two 256-wide products side by side, the bias, the logistic. -/
noncomputable def gate (x : FVec F S32x512 .f32) (w0 w1 : Vec F S256x256 .bf16) (b : Vec F S1x512 .f32) : FVec F S32x512 .f32 :=
  logistic (addf
    (concatenate S32x512 1
      [⟨S32x256, matmul dot_S32x256_S256x256_S32x256_1_0_0_1_n_n none
          (extractStridedSlice S32x256 ![0, 0] (truncf .bf16 x bitsLt_bf16_f32) slices_S32x512_o0_0_S32x256)
          (shapeCast S256x256 w0 shapeCasts_S256x256_S256x256) (constant S32x256 .f32 0x00000000#32)⟩,
       ⟨S32x256, matmul dot_S32x256_S256x256_S32x256_1_0_0_1_n_n none
          (extractStridedSlice S32x256 ![0, 256] (truncf .bf16 x bitsLt_bf16_f32) slices_S32x512_o0_256_S32x256)
          (shapeCast S256x256 w1 shapeCasts_S256x256_S256x256) (constant S32x256 .f32 0x00000000#32)⟩]
      concatenates_S32x256_S32x256_S32x512_d1)
    (broadcastTo S32x512 (shapeCast S1x512 b shapeCasts_S1x512_S1x512) broadcasts_S1x512_S32x512))

/-- The decay's logarithm of a chunk, `(-8 r) · softplus`. -/
noncomputable def logA (r : FVec F S32x512 .f32) (sp : FVec F S1x512 .f32) : FVec F S32x512 .f32 :=
  mulf (mulf (broadcast S32x512 (Scalar.ofBits .f32 0xC1000000#32)) r) (broadcastTo S32x512 sp broadcasts_S1x512_S32x512)

/-- The scaled input of a chunk. -/
noncomputable def inp (la i x : FVec F S32x512 .f32) : FVec F S32x512 .f32 :=
  mulf (sqrt (mulf (subf (broadcast S32x512 (Scalar.ofBits .f32 0x00000000#32)) (tanh la))
    (addf (mulf (exp la) (exp la)) (broadcast S32x512 (Scalar.ofBits .f32 0x3F800000#32))))) (mulf i x)

/-- Which rows of a group of eight have a row `d` above them in the group. -/
noncomputable def keep (d : BitVec 32) : IVec S4x8x512 1 :=
  cmpi .sge (iota .tc S4x8x512 32 [1] iota_S4x8x512_d1_w32) (broadcast S4x8x512 d)

/-- A doubling step of the scan on the products. -/
noncomputable def dblA (d : BitVec 32) (a : FVec F S4x8x512 .f32) : FVec F S4x8x512 .f32 :=
  mulf a (select (keep d) (dynamicRotate 1 d none a rotates_S4x8x512_d1) (broadcast S4x8x512 (Scalar.ofBits .f32 0x3F800000#32)))

/-- A doubling step of the scan on the sums. -/
noncomputable def dblU (d : BitVec 32) (a u : FVec F S4x8x512 .f32) : FVec F S4x8x512 .f32 :=
  addf (mulf a (select (keep d) (dynamicRotate 1 d none u rotates_S4x8x512_d1) (broadcast S4x8x512 (Scalar.ofBits .f32 0x00000000#32)))) u

/-- The products a chunk stores. -/
noncomputable def scanA (a : FVec F S32x512 .f32) : FVec F S32x512 .f32 :=
  shapeCast S32x512 (shapeCast S32x512 (dblA 4#32 (dblA 2#32 (dblA 1#32 (shapeCast S4x8x512 a shapeCasts_S32x512_S4x8x512))))
    shapeCasts_S4x8x512_S32x512) shapeCasts_S32x512_S32x512

/-- The sums a chunk stores. -/
noncomputable def scanU (a u : FVec F S32x512 .f32) : FVec F S32x512 .f32 :=
  let a0 := shapeCast S4x8x512 a shapeCasts_S32x512_S4x8x512
  let a1 := dblA 1#32 a0
  shapeCast S32x512 (shapeCast S32x512 (dblU 4#32 (dblA 2#32 a1) (dblU 2#32 a1
    (dblU 1#32 a0 (shapeCast S4x8x512 u shapeCasts_S32x512_S4x8x512))))
    shapeCasts_S4x8x512_S32x512) shapeCasts_S32x512_S32x512

end Defs

theorem gate_apply (x : FVec Ideal S32x512 .f32) (w0 w1 : Vec Ideal S256x256 .bf16) (b : Vec Ideal S1x512 .f32) (r : Fin 32) (c : Fin 512) :
    gate x w0 w1 b (ix2 r c) = Ideal.logistic ((if h : c.val < 256 then ∑ k : Fin 256, x (ix2 r ⟨k.val, by omega⟩) * w0 (ix2 k ⟨c.val, h⟩)
      else ∑ k : Fin 256, x (ix2 r ⟨256 + k.val, by omega⟩) * w1 (ix2 k ⟨c.val - 256, by omega⟩)) + b (ix2 0 c)) := by
  pointwise [gate]

theorem cmp_sge (j d : Fin 8) : IntOp.cmpi .sge (BitVec.ofNat 32 j.val) (BitVec.ofNat 32 d.val) = if d ≤ j then 1#1 else 0#1 := by
  revert j d; decide

theorem select_sge {α : Type} (j d : Fin 8) (x y : α) :
    Scalar.select (IntOp.cmpi .sge (BitVec.ofNat 32 j.val) (BitVec.ofNat 32 d.val)) x y = if d.val ≤ j.val then x else y := by
  rw [cmp_sge]; by_cases h : d ≤ j <;> simp [h, Scalar.select] <;> exact fun h' => absurd h' (by simpa using h)

theorem dblA_apply (a : FVec Ideal S4x8x512 .f32) (d : Fin 8) (g : Fin 4) (c : Fin 512) (f : ℕ → EReal)
    (hf : ∀ j : Fin 8, f j.val = a (ix3 g j c)) (j : Fin 8) :
    RgMath.dblA d.val f j.val = dblA (BitVec.ofNat 32 d.val) a (ix3 g j c) := by
  pointwise [dblA, keep]
  rw [select_sge, RgMath.dblA, hf]
  split
  · rename_i h
    rw [show j.val - d.val = (⟨j.val - d.val, by omega⟩ : Fin 8).val from rfl, hf]
    congr 3
    apply Fin.ext
    simp only [BitVec.toNat_ofNat]
    omega
  · rfl

theorem dblU_apply (a u : FVec Ideal S4x8x512 .f32) (d : Fin 8) (g : Fin 4) (c : Fin 512) (f v : ℕ → EReal)
    (hf : ∀ j : Fin 8, f j.val = a (ix3 g j c)) (hv : ∀ j : Fin 8, v j.val = u (ix3 g j c)) (j : Fin 8) :
    RgMath.dblU d.val f v j.val = dblU (BitVec.ofNat 32 d.val) a u (ix3 g j c) := by
  pointwise [dblU, keep]
  rw [select_sge, RgMath.dblU, hf, hv]
  split
  · rename_i h
    rw [show j.val - d.val = (⟨j.val - d.val, by omega⟩ : Fin 8).val from rfl, hv]
    congr 4
    apply Fin.ext
    simp only [BitVec.toNat_ofNat]
    omega
  · rw [mul_zero]

theorem scanA_apply (a : FVec Ideal S32x512 .f32) (r : Fin 32) (c : Fin 512) (f : ℕ → EReal)
    (hf : ∀ j : Fin 8, f j.val = a (ix2 ⟨r.val / 8 * 8 + j.val, by omega⟩ c)) :
    scanA a (ix2 r c) = RgMath.scanA f (r.val % 8) := by
  have h0 : ∀ j : Fin 8, f j.val = shapeCast S4x8x512 a shapeCasts_S32x512_S4x8x512 (ix3 ⟨r.val / 8, by omega⟩ j c) := by
    intro j; rw [hf]; pointwise
  have h1 := dblA_apply _ 1 ⟨r.val / 8, by omega⟩ c _ h0
  have h2 := dblA_apply _ 2 ⟨r.val / 8, by omega⟩ c _ h1
  have h3 := dblA_apply _ 4 ⟨r.val / 8, by omega⟩ c _ h2 ⟨r.val % 8, by omega⟩
  refine Eq.trans ?_ h3.symm
  pointwise [scanA]

theorem scanU_apply (a u : FVec Ideal S32x512 .f32) (r : Fin 32) (c : Fin 512) (f v : ℕ → EReal)
    (hf : ∀ j : Fin 8, f j.val = a (ix2 ⟨r.val / 8 * 8 + j.val, by omega⟩ c))
    (hv : ∀ j : Fin 8, v j.val = u (ix2 ⟨r.val / 8 * 8 + j.val, by omega⟩ c)) :
    scanU a u (ix2 r c) = RgMath.scanU f v (r.val % 8) := by
  have h0 : ∀ j : Fin 8, f j.val = shapeCast S4x8x512 a shapeCasts_S32x512_S4x8x512 (ix3 ⟨r.val / 8, by omega⟩ j c) := by
    intro j; rw [hf]; pointwise
  have g0 : ∀ j : Fin 8, v j.val = shapeCast S4x8x512 u shapeCasts_S32x512_S4x8x512 (ix3 ⟨r.val / 8, by omega⟩ j c) := by
    intro j; rw [hv]; pointwise
  have h1 := dblA_apply _ 1 ⟨r.val / 8, by omega⟩ c _ h0
  have h2 := dblA_apply _ 2 ⟨r.val / 8, by omega⟩ c _ h1
  have g1 := dblU_apply _ _ 1 ⟨r.val / 8, by omega⟩ c _ _ h0 g0
  have g2 := dblU_apply _ _ 2 ⟨r.val / 8, by omega⟩ c _ _ h1 g1
  have g3 := dblU_apply _ _ 4 ⟨r.val / 8, by omega⟩ c _ _ h2 g2 ⟨r.val % 8, by omega⟩
  refine Eq.trans ?_ g3.symm
  pointwise [scanU]

theorem logA_apply (r : FVec Ideal S32x512 .f32) (sp : FVec Ideal S1x512 .f32) (i : Fin 32) (c : Fin 512) :
    logA r sp (ix2 i c) = (Ideal.ofBits .f32 0xC1000000#32 * r (ix2 i c)) * sp (ix2 0 c) := by
  pointwise [logA]

theorem inp_apply (la i x : FVec Ideal S32x512 .f32) (r : Fin 32) (c : Fin 512) :
    inp la i x (ix2 r c) = Ideal.sqrt ((0 - Ideal.tanh (la (ix2 r c))) * (Ideal.exp (la (ix2 r c)) * Ideal.exp (la (ix2 r c)) + 1))
      * (i (ix2 r c) * x (ix2 r c)) := by
  pointwise [inp]

end Cert.KernelIdeal.Tile
-- ==== Proof.Trace.lean ====
module

public import proofs.«01_k».proof.Proof.Gen.KernelIdeal.Skeleton
public import proofs.«01_k».proof.Proof.Tile

@[expose] public section

set_option maxRecDepth 16384

/-! What a grid point stores for the recurrent part, as two recursions over its chunks and its groups of eight rows. -/
namespace Cert.KernelIdeal.Trace

open Idealize.ShloMosaic Cert.KernelIdeal.Gen

theorem slices32 {k : ℕ} (hk : k < 16) : S512x512.Slices ![32 * k, 0] S32x512 := by
  have : ∀ k : Fin 16, S512x512.Slices ![32 * k.val, 0] S32x512 := by decide
  exact this ⟨k, hk⟩

theorem inb32 {k : ℕ} (hk : k < 16) : ∀ a, (![32 * k, 0] : Fin 2 → Nat) a + S32x512.size a ≤ S512x512.size a := by
  have : ∀ k : Fin 16, ∀ a, (![32 * k.val, 0] : Fin 2 → Nat) a + S32x512.size a ≤ S512x512.size a := by decide
  exact this ⟨k, hk⟩

theorem inb8 {k : ℕ} (hk : k < 64) : ∀ a, (![8 * k, 0] : Fin 2 → Nat) a + S8x512.size a ≤ S512x512.size a := by
  have : ∀ k : Fin 64, ∀ a, (![8 * k.val, 0] : Fin 2 → Nat) a + S8x512.size a ≤ S512x512.size a := by decide
  exact this ⟨k, hk⟩

variable {F : FTy → Type} [FloatOps F]

/-- What the recurrent part of a grid point reads: the convolved rows, the gates' weights and biases, the decay's factor,
    the state before the first row and the output gate. -/
structure Reads (F : FTy → Type) [FloatOps F] where
  cv : FVec F S512x512 .f32
  r0 : Vec F S256x256 .bf16
  r1 : Vec F S256x256 .bf16
  br : Vec F S1x512 .f32
  i0 : Vec F S256x256 .bf16
  i1 : Vec F S256x256 .bf16
  bi : Vec F S1x512 .f32
  sp : FVec F S1x512 .f32
  h0 : Vec F S8x512 .f32
  g : FVec F S512x512 .f32

/-- Chunk `k` of the convolved rows. -/
noncomputable def rows (w : Reads F) (k : ℕ) (hk : k < 16) : FVec F S32x512 .f32 :=
  extractStridedSlice S32x512 ![32 * k, 0] w.cv (slices32 hk)

/-- The decay's logarithm on chunk `k`. -/
noncomputable def la (w : Reads F) (k : ℕ) (hk : k < 16) : FVec F S32x512 .f32 :=
  Tile.logA (Tile.gate (rows w k hk) w.r0 w.r1 w.br) w.sp

/-- The scaled input on chunk `k`. -/
noncomputable def inp (w : Reads F) (k : ℕ) (hk : k < 16) : FVec F S32x512 .f32 :=
  Tile.inp (la w k hk) (Tile.gate (rows w k hk) w.i0 w.i1 w.bi) (rows w k hk)

/-- The rows of chunk `k`. -/
def rect32 (k : ℕ) (hk : k < 16) : Rect S512x512 := Rect.unit ![32 * k, 0] S32x512.size (inb32 hk)

/-- The rows of group `k`. -/
def rect8 (k : ℕ) (hk : k < 64) : Rect S512x512 := Rect.unit ![8 * k, 0] S8x512.size (inb8 hk)

/-- The stores of the first `n` chunks into the products' scratch, last first. -/
noncomputable def listA (w : Reads F) : (n : ℕ) → n ≤ 16 → List (View.Piece (Elt F) S512x512 .f32)
  | 0, _ => []
  | n + 1, h => ⟨rect32 n h, Tile.scanA (exp (la w n h))⟩ :: listA w n (Nat.le_of_succ_le h)

/-- The stores of the first `n` chunks into the sums' scratch, last first. -/
noncomputable def listU (w : Reads F) : (n : ℕ) → n ≤ 16 → List (View.Piece (Elt F) S512x512 .f32)
  | 0, _ => []
  | n + 1, h => ⟨rect32 n h, Tile.scanU (exp (la w n h)) (inp w n h)⟩ :: listU w n (Nat.le_of_succ_le h)

/-- The rows of a group from the state before it. -/
noncomputable def group (h a u : Vec F S8x512 .f32) : FVec F S8x512 .f32 := addf (mulf a h) u

/-- The state after a group: its last row, eight times. -/
noncomputable def last (h : FVec F S8x512 .f32) : FVec F S8x512 .f32 :=
  broadcastTo S8x512 (shapeCast S1x512 (extractStridedSlice S1x512 ![7, 0] h slices_S8x512_o7_0_S1x512) shapeCasts_S1x512_S1x512)
    broadcasts_S1x512_S8x512

/-- The stores into the sums' scratch after `n` groups, and the state after them. -/
noncomputable def groups (w : Reads F) (ma mu : Memref sig .tc .vmem S512x512 .f32) :
    (n : ℕ) → n ≤ 64 → List (View.Piece (Elt F) S512x512 .f32) × Vec F S8x512 .f32
  | 0, _ => (listU w 16 (Nat.le_refl 16), w.h0)
  | n + 1, h =>
    let p := groups w ma mu n (Nat.le_of_succ_le h)
    let x := group p.2 (ma.view.readCov (listA w 16 (Nat.le_refl 16)) (rect8 n h).toLoadRect) (mu.view.readCov p.1 (rect8 n h).toLoadRect)
    (⟨rect8 n h, shapeCast S8x512 x shapeCasts_S8x512_S8x512⟩ :: p.1, last x)

/-- The stores of the first `n` chunks into the gated output, last first. -/
noncomputable def listY (w : Reads F) (ma mu : Memref sig .tc .vmem S512x512 .f32) :
    (n : ℕ) → n ≤ 16 → List (View.Piece (Elt F) S512x512 .bf16)
  | 0, _ => []
  | n + 1, h =>
    let g := extractStridedSlice S32x512 ![32 * n, 0] w.g (slices32 h)
    ⟨rect32 n h, truncf .bf16 (mulf (mu.view.readCov (groups w ma mu 64 (Nat.le_refl 64)).1 (rect32 n h).toLoadRect) (mulf g (logistic g)))
      bitsLt_bf16_f32⟩ :: listY w ma mu n (Nat.le_of_succ_le h)

/-- The recurrent part's reads from a point's vectors, the rows kept of the point before it and the state it left. -/
noncomputable def readsOf (x : Vec F S512x1024 .f32) (g : Vec F S1x1024 .f32) (w : Vec F S1024x1024 .bf16)
    (c3 c2 c1 c0 cb : Vec F S1x512 .f32) (r0 r1 : Vec F S256x256 .bf16) (br : Vec F S1x512 .f32) (i0 i1 : Vec F S256x256 .bf16)
    (bi lam : Vec F S1x512 .f32) (tail h0 : Vec F S8x512 .f32) : Reads F where
  cv := k0_pay13 (k0_pay7 x g w) tail (iota Kind.tc S8x512 32 [0] iota_S8x512_d0_w32) (k0_pay12 c3) cb c2 c1 c0
  r0 := r0
  r1 := r1
  br := br
  i0 := i0
  i1 := i1
  bi := bi
  sp := k0_pay17 lam
  h0 := h0
  g := k0_pay8 x g w

end Cert.KernelIdeal.Trace
-- ==== Proof.Scan.lean ====
module

public import proofs.«01_k».proof.Proof.Trace
public import Idealize.ShloMosaic.Lib.Pipeline.ValueKit
public import Idealize.ShloMosaic.Lib.Pointwise

@[expose] public section

set_option maxRecDepth 16384

/-! What the recurrent part of a grid point stores, row by row: the recurrence run from the state before the first row. -/
namespace Cert.KernelIdeal.Scan

open Idealize.ShloMosaic Cert.KernelIdeal.Gen Cert.KernelIdeal.Trace

/-- A gate of one row: the row against two 256-wide blocks of weights, the bias, the logistic. -/
noncomputable def gateRow (x : Fin 512 → EReal) (w0 w1 : Vec Ideal S256x256 .bf16) (b : Vec Ideal S1x512 .f32) (c : Fin 512) : EReal :=
  Ideal.logistic ((if h : c.val < 256 then ∑ k : Fin 256, x ⟨k.val, by omega⟩ * w0 (ix2 k ⟨c.val, h⟩)
    else ∑ k : Fin 256, x ⟨256 + k.val, by omega⟩ * w1 (ix2 k ⟨c.val - 256, by omega⟩)) + b (ix2 0 c))

/-- The decay's logarithm at a row. -/
noncomputable def logRow (w : Reads Ideal) (c : Fin 512) (r : ℕ) : EReal :=
  if h : r < 512 then (Ideal.ofBits .f32 0xC1000000#32 * gateRow (fun k => w.cv (ix2 ⟨r, h⟩ k)) w.r0 w.r1 w.br c) * w.sp (ix2 0 c) else 0

/-- The decay at a row. -/
noncomputable def dec (w : Reads Ideal) (c : Fin 512) (r : ℕ) : EReal := Ideal.exp (logRow w c r)

/-- The scaled input at a row. -/
noncomputable def add (w : Reads Ideal) (c : Fin 512) (r : ℕ) : EReal :=
  if h : r < 512 then
    Ideal.sqrt ((0 - Ideal.tanh (logRow w c r)) * (Ideal.exp (logRow w c r) * Ideal.exp (logRow w c r) + 1))
      * (gateRow (fun k => w.cv (ix2 ⟨r, h⟩ k)) w.i0 w.i1 w.bi c * w.cv (ix2 ⟨r, h⟩ c))
  else 0

theorem rows_apply (w : Reads Ideal) (k : ℕ) (hk : k < 16) (i : Fin 32) (c : Fin 512) :
    rows w k hk (ix2 i c) = w.cv (ix2 ⟨32 * k + i.val, by omega⟩ c) := by
  pointwise [rows]

theorem la_apply (w : Reads Ideal) (k : ℕ) (hk : k < 16) (i : Fin 32) (c : Fin 512) :
    la w k hk (ix2 i c) = logRow w c (32 * k + i.val) := by
  rw [la, Tile.logA_apply, Tile.gate_apply, logRow, dif_pos (by omega : 32 * k + i.val < 512)]
  simp only [rows_apply, gateRow]

theorem inp_apply (w : Reads Ideal) (k : ℕ) (hk : k < 16) (i : Fin 32) (c : Fin 512) :
    inp w k hk (ix2 i c) = add w c (32 * k + i.val) := by
  rw [inp, Tile.inp_apply, Tile.gate_apply, add, dif_pos (by omega : 32 * k + i.val < 512)]
  simp only [rows_apply, gateRow, la_apply]

theorem emb_rect32 (k : ℕ) (hk : k < 16) (i : Fin 32) (c : Fin 512) :
    (rect32 k hk).emb (ix2 i c : S32x512.Idx) = (ix2 ⟨32 * k + i.val, by omega⟩ c : S512x512.Idx) := by
  funext a
  apply Fin.ext
  fin_cases a
  · show 32 * k + 1 * i.val = 32 * k + i.val; omega
  · show 0 + 1 * c.val = c.val; omega

theorem emb_rect8 (k : ℕ) (hk : k < 64) (i : Fin 8) (c : Fin 512) :
    (rect8 k hk).emb (ix2 i c : S8x512.Idx) = (ix2 ⟨8 * k + i.val, by omega⟩ c : S512x512.Idx) := by
  funext a
  apply Fin.ext
  fin_cases a
  · show 8 * k + 1 * i.val = 8 * k + i.val; omega
  · show 0 + 1 * c.val = c.val; omega

theorem not_mem_rect32 (k : ℕ) (hk : k < 16) (r c : Fin 512) (h : r.val < 32 * k ∨ 32 * k + 32 ≤ r.val) : (ix2 r c : S512x512.Idx) ∉ (rect32 k hk).set := by
  intro hm
  have h0 := (Rect.mem_set_unit.mp hm) 0
  have h1 : 32 * k ≤ r.val := h0.1
  have h2 : r.val < 32 * k + 32 := h0.2
  omega

theorem not_mem_rect8 (k : ℕ) (hk : k < 64) (r c : Fin 512) (h : r.val < 8 * k ∨ 8 * k + 8 ≤ r.val) : (ix2 r c : S512x512.Idx) ∉ (rect8 k hk).set := by
  intro hm
  have h0 := (Rect.mem_set_unit.mp hm) 0
  have h1 : 8 * k ≤ r.val := h0.1
  have h2 : r.val < 8 * k + 8 := h0.2
  omega

/-- A store of 32 rows read at one of its rows, and off them. -/
theorem canon_rect32 {e : EltTy} (k : ℕ) (hk : k < 16) (v : S32x512.Idx → Elt Ideal e) (L : List (View.Piece (Elt Ideal) S512x512 e)) (r c : Fin 512) :
    View.canon (⟨rect32 k hk, v⟩ :: L) (ix2 r c : S512x512.Idx) =
      if h : 32 * k ≤ r.val ∧ r.val < 32 * k + 32 then v (ix2 ⟨r.val - 32 * k, by omega⟩ c) else View.canon L (ix2 r c : S512x512.Idx) := by
  split
  · rename_i h
    have e := emb_rect32 k hk ⟨r.val - 32 * k, by omega⟩ c
    have e2 : (ix2 r c : S512x512.Idx) = (rect32 k hk).emb (ix2 ⟨r.val - 32 * k, by omega⟩ c : S32x512.Idx) := by
      rw [e]; congr 1; apply Fin.ext; show r.val = 32 * k + (r.val - 32 * k); omega
    rw [e2]
    exact View.canon_cons_emb (rect32 k hk) v L _
  · exact View.canon_cons_of_not_mem _ L (not_mem_rect32 k hk r c (by omega))

/-- A store of eight rows read at one of its rows, and off them. -/
theorem canon_rect8 {e : EltTy} (k : ℕ) (hk : k < 64) (v : S8x512.Idx → Elt Ideal e) (L : List (View.Piece (Elt Ideal) S512x512 e)) (r c : Fin 512) :
    View.canon (⟨rect8 k hk, v⟩ :: L) (ix2 r c : S512x512.Idx) =
      if h : 8 * k ≤ r.val ∧ r.val < 8 * k + 8 then v (ix2 ⟨r.val - 8 * k, by omega⟩ c) else View.canon L (ix2 r c : S512x512.Idx) := by
  split
  · rename_i h
    have e := emb_rect8 k hk ⟨r.val - 8 * k, by omega⟩ c
    have e2 : (ix2 r c : S512x512.Idx) = (rect8 k hk).emb (ix2 ⟨r.val - 8 * k, by omega⟩ c : S8x512.Idx) := by
      rw [e]; congr 1; apply Fin.ext; show r.val = 8 * k + (r.val - 8 * k); omega
    rw [e2]
    exact View.canon_cons_emb (rect8 k hk) v L _
  · exact View.canon_cons_of_not_mem _ L (not_mem_rect8 k hk r c (by omega))

/-- The products' scratch after the chunks: each group's own scan. -/
theorem canon_listA (w : Reads Ideal) (c : Fin 512) : ∀ (n : ℕ) (h : n ≤ 16) (r : Fin 512), r.val < 32 * n →
    View.canon (listA w n h) (ix2 r c : S512x512.Idx) = RgMath.scanA (fun j => dec w c (r.val / 8 * 8 + j)) (r.val % 8)
  | 0, _, r, hr => by omega
  | n + 1, h, r, hr => by
    rw [listA, canon_rect32]
    split
    · rename_i h'
      rw [Tile.scanA_apply _ _ _ (fun j => dec w c (r.val / 8 * 8 + j))]
      · congr 1; show (r.val - 32 * n) % 8 = r.val % 8; omega
      · intro j
        show _ = Ideal.exp (la w n h (ix2 _ c))
        rw [la_apply, dec]
        congr 2
        show r.val / 8 * 8 + j.val = 32 * n + ((r.val - 32 * n) / 8 * 8 + j.val)
        omega
    · exact canon_listA w c n _ r (by omega)

/-- The sums' scratch after the chunks. -/
theorem canon_listU (w : Reads Ideal) (c : Fin 512) : ∀ (n : ℕ) (h : n ≤ 16) (r : Fin 512), r.val < 32 * n →
    View.canon (listU w n h) (ix2 r c : S512x512.Idx) =
      RgMath.scanU (fun j => dec w c (r.val / 8 * 8 + j)) (fun j => add w c (r.val / 8 * 8 + j)) (r.val % 8)
  | 0, _, r, hr => by omega
  | n + 1, h, r, hr => by
    rw [listU, canon_rect32]
    split
    · rename_i h'
      rw [Tile.scanU_apply _ _ _ _ (fun j => dec w c (r.val / 8 * 8 + j)) (fun j => add w c (r.val / 8 * 8 + j))]
      · congr 1; show (r.val - 32 * n) % 8 = r.val % 8; omega
      · intro j
        show _ = Ideal.exp (la w n h (ix2 _ c))
        rw [la_apply, dec]
        congr 2
        show r.val / 8 * 8 + j.val = 32 * n + ((r.val - 32 * n) / 8 * 8 + j.val)
        omega
      · intro j
        rw [inp_apply]
        congr 1
        show r.val / 8 * 8 + j.val = 32 * n + ((r.val - 32 * n) / 8 * 8 + j.val)
        omega
    · exact canon_listU w c n _ r (by omega)

theorem group_apply (h a u : Vec Ideal S8x512 .f32) (j : Fin 8) (c : Fin 512) :
    group h a u (ix2 j c) = a (ix2 j c) * h (ix2 j c) + u (ix2 j c) := by
  pointwise [group]

theorem last_apply (h : FVec Ideal S8x512 .f32) (j : Fin 8) (c : Fin 512) : last h (ix2 j c) = h (ix2 7 c) := by
  pointwise [last]

theorem dec_nonneg (w : Reads Ideal) (c : Fin 512) (r : ℕ) : 0 ≤ dec w c r := RgMath.exp_nonneg _

theorem ofBits_neg8 : Ideal.ofBits .f32 0xC1000000#32 = ((-8 : ℝ) : EReal) := by
  simp [Ideal.ofBits, Ideal.ieee, -EReal.coe_mul, -EReal.coe_neg]; norm_num

theorem logRow_nonpos (w : Reads Ideal) (c : Fin 512) (hsp : 0 ≤ w.sp (ix2 0 c)) (r : ℕ) : logRow w c r ≤ 0 := by
  unfold logRow
  split
  · rw [ofBits_neg8]; exact RgMath.log_a_nonpos _ _ (RgMath.logistic_nonneg _) hsp
  · exact le_refl _

theorem dec_le_one (w : Reads Ideal) (c : Fin 512) (hsp : 0 ≤ w.sp (ix2 0 c)) (r : ℕ) : dec w c r ≤ 1 :=
  RgMath.exp_le_one _ (logRow_nonpos w c hsp r)

/-- The sums' scratch and the state after `n` groups: the recurrence's rows up to there. -/
theorem groups_apply (w : Reads Ideal) (ma mu : Memref sig .tc .vmem S512x512 .f32) (c : Fin 512) (hsp : 0 ≤ w.sp (ix2 0 c)) (h0 : EReal)
    (hh : ∀ j : Fin 8, w.h0 (ix2 j c) = h0) : ∀ (n : ℕ) (h : n ≤ 64),
    (∀ r : Fin 512, View.canon (groups w ma mu n h).1 (ix2 r c : S512x512.Idx) = if r.val < 8 * n then RgMath.steps (dec w c) (add w c) h0 (r.val + 1)
        else RgMath.scanU (fun j => dec w c (r.val / 8 * 8 + j)) (fun j => add w c (r.val / 8 * 8 + j)) (r.val % 8)) ∧
      ∀ j : Fin 8, (groups w ma mu n h).2 (ix2 j c) = RgMath.steps (dec w c) (add w c) h0 (8 * n)
  | 0, _ => by
    refine ⟨fun r => ?_, fun j => ?_⟩
    · rw [if_neg (by omega)]; exact canon_listU w c 16 _ r (by omega)
    · exact hh j
  | n + 1, h => by
    obtain ⟨ih1, ih2⟩ := groups_apply w ma mu c hsp h0 hh n (Nat.le_of_succ_le h)
    have key : ∀ i : Fin 8, group (groups w ma mu n (Nat.le_of_succ_le h)).2
        (ma.view.readCov (listA w 16 (Nat.le_refl 16)) (rect8 n h).toLoadRect)
        (mu.view.readCov (groups w ma mu n (Nat.le_of_succ_le h)).1 (rect8 n h).toLoadRect) (ix2 i c)
        = RgMath.steps (dec w c) (add w c) h0 (8 * n + i.val + 1) := by
      intro i
      refine (group_apply _ _ _ i c).trans ?_
      rw [ih2, View.readCov_eq_canon', View.readCov_eq_canon']
      show View.canon _ ((rect8 n h).emb (ix2 i c : S8x512.Idx)) * _ + View.canon _ ((rect8 n h).emb (ix2 i c : S8x512.Idx)) = _
      rw [emb_rect8, canon_listA w c 16 _ _ (by show 8 * n + i.val < _; omega), ih1, if_neg (by show ¬ 8 * n + i.val < 8 * n; omega)]
      have e1 : (8 * n + i.val) / 8 * 8 = 8 * n := by omega
      have e2 : (8 * n + i.val) % 8 = i.val := by omega
      show RgMath.scanA (fun j => dec w c ((8 * n + i.val) / 8 * 8 + j)) ((8 * n + i.val) % 8) * _ +
        RgMath.scanU (fun j => dec w c ((8 * n + i.val) / 8 * 8 + j)) (fun j => add w c ((8 * n + i.val) / 8 * 8 + j)) ((8 * n + i.val) % 8) = _
      rw [e1, e2, RgMath.scan_eq (fun j => ⟨dec_nonneg w c _, dec_le_one w c hsp _⟩) _ i.isLt, RgMath.steps_add]
      rfl
    refine ⟨fun r => ?_, fun j => ?_⟩
    · refine (canon_rect8 (e := .f32) n h _ _ r c).trans ?_
      split
      · rename_i h'
        rw [if_pos (by omega), show ∀ x : FVec Ideal S8x512 .f32, shapeCast S8x512 x shapeCasts_S8x512_S8x512 = x from fun x => shapeCast_self _ _, key]
        congr 1
        show 8 * n + (r.val - 8 * n) + 1 = _
        omega
      · rename_i h'
        rw [ih1]
        congr 1
        apply propext; constructor <;> intro hh <;> omega
    · exact (last_apply _ j c).trans (key 7)

/-- The gated output's rows. -/
theorem canon_listY (w : Reads Ideal) (ma mu : Memref sig .tc .vmem S512x512 .f32) (c : Fin 512) (hsp : 0 ≤ w.sp (ix2 0 c)) (h0 : EReal)
    (hh : ∀ j : Fin 8, w.h0 (ix2 j c) = h0) : ∀ (n : ℕ) (h : n ≤ 16) (r : Fin 512), r.val < 32 * n →
    View.canon (listY w ma mu n h) (ix2 r c : S512x512.Idx) =
      RgMath.steps (dec w c) (add w c) h0 (r.val + 1) * (w.g (ix2 r c) * Ideal.logistic (w.g (ix2 r c)))
  | 0, _, r, hr => by omega
  | n + 1, h, r, hr => by
    rw [listY]
    refine (canon_rect32 (e := .bf16) n h _ _ r c).trans ?_
    split
    · rename_i h'
      have key : ∀ i : Fin 32, (mu.view.readCov (groups w ma mu 64 (Nat.le_refl 64)).1 (rect32 n h).toLoadRect) (ix2 i c)
          = RgMath.steps (dec w c) (add w c) h0 (32 * n + i.val + 1) := by
        intro i
        rw [View.readCov_eq_canon']
        show View.canon _ ((rect32 n h).emb (ix2 i c : S32x512.Idx)) = _
        rw [emb_rect32, (groups_apply w ma mu c hsp h0 hh 64 _).1, if_pos (by show 32 * n + i.val < _; omega)]
      have g : ∀ i : Fin 32, extractStridedSlice S32x512 ![32 * n, 0] w.g (slices32 h) (ix2 i c) = w.g (ix2 ⟨32 * n + i.val, by omega⟩ c) := by
        intro i; pointwise
      pointwise
      rw [key]
      have e : (⟨32 * n + (r.val - 32 * n), by omega⟩ : Fin 512) = r := by apply Fin.ext; show 32 * n + (r.val - 32 * n) = _; omega
      simp only [g, e, show 32 * n + (r.val - 32 * n) = r.val by omega]
    · exact canon_listY w ma mu c hsp h0 hh n _ r (by omega)

end Cert.KernelIdeal.Scan
-- ==== Proof.Spec.lean ====
module

public import proofs.«01_k».proof.Proof.RgMath
public import Idealize.ShloMosaic.Lib.Pointwise

@[expose] public section

/-! What the layer's front computes, in extended reals: the normalised input, its projection, the causal convolution, the two
    gates, the decay and the input of the recurrence, the recurrence, and the gated rows. A sequence's positions are plain
    numbers, so that the recurrence is one on the naturals. -/
namespace Cert.Spec

open Idealize.ShloMosaic

/-- The arguments that matter, entry by entry. -/
structure Args where
  x : Fin 4 → Fin 8192 → Fin 1024 → EReal
  g : Fin 1024 → EReal
  w : Fin 1024 → Fin 2840 → EReal
  cw : Fin 4 → Fin 512 → EReal
  cb : Fin 512 → EReal
  wr : Fin 8 → Fin 64 → Fin 64 → EReal
  br : Fin 512 → EReal
  wi : Fin 8 → Fin 64 → Fin 64 → EReal
  bi : Fin 512 → EReal
  lam : Fin 512 → EReal

variable (A : Args) (b : Fin 4)

/-- The input at a position, and zero past the sequence's end. -/
noncomputable def xN (s : ℕ) (d : Fin 1024) : EReal := if h : s < 8192 then A.x b ⟨s, h⟩ d else 0

/-- The normalised input. -/
noncomputable def nrm (s : ℕ) (d : Fin 1024) : EReal :=
  xN A b s d * Ideal.rsqrt (Ideal.div (∑ e, xN A b s e * xN A b s e) (Ideal.ofBits FTy.f32 1149239296#32) + Ideal.ofBits FTy.f32 897988541#32) * A.g d

/-- The projection. -/
noncomputable def z (s : ℕ) (j : Fin 2840) : EReal := ∑ d, nrm A b s d * A.w d j

/-- The recurrent part's input. -/
noncomputable def rgx (s : ℕ) (j : Fin 512) : EReal := z A b s ⟨j.val, by omega⟩

/-- The recurrent part's output gate. -/
noncomputable def rgg (s : ℕ) (j : Fin 512) : EReal := z A b s ⟨512 + j.val, by omega⟩

/-- The input `k` positions earlier, and zero before the start. -/
noncomputable def tap (k s : ℕ) (j : Fin 512) : EReal := if k ≤ s then rgx A b (s - k) j else 0

/-- The causal convolution. -/
noncomputable def conv (s : ℕ) (j : Fin 512) : EReal :=
  rgx A b s j * A.cw 3 j + A.cb j + tap A b 1 s j * A.cw 2 j + tap A b 2 s j * A.cw 1 j + tap A b 3 s j * A.cw 0 j

/-- A gate: the position's convolved block against the block's weights, the bias, the logistic. -/
noncomputable def gate (wt : Fin 8 → Fin 64 → Fin 64 → EReal) (bias : Fin 512 → EReal) (s : ℕ) (j : Fin 512) : EReal :=
  Ideal.logistic ((∑ k : Fin 64, conv A b s ⟨64 * (j.val / 64) + k.val, by omega⟩ * wt ⟨j.val / 64, by omega⟩ k ⟨j.val % 64, by omega⟩) + bias j)

/-- The decay's factor. -/
noncomputable def sp (j : Fin 512) : EReal := RgMath.softplus (0 - A.lam j) (0 - FloatOps.absf (F := Ideal) (φ := .f32) (0 - A.lam j))

/-- The decay's logarithm. -/
noncomputable def la (s : ℕ) (j : Fin 512) : EReal := (Ideal.ofBits .f32 0xC1000000#32 * gate A b A.wr A.br s j) * sp A j

/-- The decay. -/
noncomputable def dec (j : Fin 512) (s : ℕ) : EReal := Ideal.exp (la A b s j)

/-- The recurrence's input. -/
noncomputable def add (j : Fin 512) (s : ℕ) : EReal :=
  Ideal.sqrt (-Ideal.expm1 (2 * la A b s j)) * (gate A b A.wi A.bi s j * conv A b s j)

/-- The state before position `n`. -/
noncomputable def state (j : Fin 512) (n : ℕ) : EReal := RgMath.steps (dec A b j) (add A b j) 0 n

/-- The gated output. -/
noncomputable def ya (s : ℕ) (j : Fin 512) : EReal := state A b j (s + 1) * (rgg A b s j * Ideal.logistic (rgg A b s j))

end Cert.Spec
-- ==== Proof.Point.lean ====
module

public import proofs.«01_k».proof.Proof.Scan
public import proofs.«01_k».proof.Proof.Spec

@[expose] public section

set_option maxRecDepth 16384

/-! What the recurrent part of one grid point computes, from what its reads are: the rows from position `p` on. -/
namespace Cert.KernelIdeal.Point

open Idealize.ShloMosaic Cert.KernelIdeal.Gen Cert.KernelIdeal.Trace

/-- The reads of a grid point whose first row is position `p` of sequence `b`. -/
structure Given (A : Spec.Args) (b : Fin 4) (p : ℕ) (x : Vec Ideal S512x1024 .f32) (g : Vec Ideal S1x1024 .f32) (w : Vec Ideal S1024x1024 .bf16)
    (c3 c2 c1 c0 cb : Vec Ideal S1x512 .f32) (r0 r1 : Vec Ideal S256x256 .bf16) (br : Vec Ideal S1x512 .f32) (i0 i1 : Vec Ideal S256x256 .bf16)
    (bi lam : Vec Ideal S1x512 .f32) (tail h0 : Vec Ideal S8x512 .f32) : Prop where
  x : ∀ r d, x (ix2 r d) = Spec.xN A b (p + r.val) d
  g : ∀ d, g (ix2 0 d) = A.g d
  w : ∀ (d j : Fin 1024), w (ix2 d j) = A.w d ⟨j.val, by omega⟩
  c3 : ∀ j, c3 (ix2 0 j) = A.cw 3 j
  c2 : ∀ j, c2 (ix2 0 j) = A.cw 2 j
  c1 : ∀ j, c1 (ix2 0 j) = A.cw 1 j
  c0 : ∀ j, c0 (ix2 0 j) = A.cw 0 j
  cb : ∀ j, cb (ix2 0 j) = A.cb j
  r0 : ∀ k j : Fin 256, r0 (ix2 k j) = if k.val / 64 = j.val / 64 then A.wr ⟨k.val / 64, by omega⟩ ⟨k.val % 64, by omega⟩ ⟨j.val % 64, by omega⟩ else (0 : EReal)
  r1 : ∀ k j : Fin 256, r1 (ix2 k j) = if k.val / 64 = j.val / 64 then A.wr ⟨4 + k.val / 64, by omega⟩ ⟨k.val % 64, by omega⟩ ⟨j.val % 64, by omega⟩ else (0 : EReal)
  br : ∀ j, br (ix2 0 j) = A.br j
  i0 : ∀ k j : Fin 256, i0 (ix2 k j) = if k.val / 64 = j.val / 64 then A.wi ⟨k.val / 64, by omega⟩ ⟨k.val % 64, by omega⟩ ⟨j.val % 64, by omega⟩ else (0 : EReal)
  i1 : ∀ k j : Fin 256, i1 (ix2 k j) = if k.val / 64 = j.val / 64 then A.wi ⟨4 + k.val / 64, by omega⟩ ⟨k.val % 64, by omega⟩ ⟨j.val % 64, by omega⟩ else (0 : EReal)
  bi : ∀ j, bi (ix2 0 j) = A.bi j
  lam : ∀ j, lam (ix2 0 j) = A.lam j
  tail : ∀ (k : Fin 8) j, tail (ix2 k j) = if 8 ≤ p + k.val then Spec.rgx A b (p + k.val - 8) j else (0 : EReal)
  h0 : ∀ (k : Fin 8) j, h0 (ix2 k j) = Spec.state A b j p

/-- The normalised rows. -/
theorem nrm_eq {A : Spec.Args} {b : Fin 4} {p : ℕ} {x : Vec Ideal S512x1024 .f32} {g : Vec Ideal S1x1024 .f32}
    (hx : ∀ r d, x (ix2 r d) = Spec.xN A b (p + r.val) d) (hg : ∀ d, g (ix2 0 d) = A.g d) (r : Fin 512) (d : Fin 1024) :
    k0_pay5 x g (ix2 r d) = Spec.nrm A b (p + r.val) d := by
  have e : k0_pay5 x g (ix2 r d) = (x (ix2 r d) * Ideal.rsqrt (Ideal.div (∑ k, x (ix2 r k) * x (ix2 r k)) (Ideal.ofBits FTy.f32 1149239296#32) + Ideal.ofBits FTy.f32 897988541#32) * g (ix2 0 d) : EReal) := by
    pointwise [k0_pay5]
  rw [e, Spec.nrm]
  simp only [hx, hg]

/-- A 256-wide block of block-diagonal weights against a row: only the row's own 64 entries count. -/
theorem block_sum (f : ℕ → EReal) (w : ℕ → ℕ → EReal) (j : Fin 256) :
    (∑ k : Fin 256, f k.val * (if k.val / 64 = j.val / 64 then w (k.val / 64) (k.val % 64) else 0)) =
      ∑ k : Fin 64, f (64 * (j.val / 64) + k.val) * w (j.val / 64) k.val := by
  have e : ∀ F : ℕ → EReal, (∑ k : Fin 256, F k.val) = ∑ a : Fin 4, ∑ k : Fin 64, F (64 * a.val + k.val) := by
    intro F
    rw [← Equiv.sum_comp (finProdFinEquiv (m := 4) (n := 64)) (fun k : Fin (4 * 64) => F k.val), Fintype.sum_prod_type]
    refine Finset.sum_congr rfl fun a _ => Finset.sum_congr rfl fun k _ => congrArg F ?_
    show k.val + 64 * a.val = 64 * a.val + k.val
    omega
  rw [e (fun k => f k * (if k / 64 = j.val / 64 then w (k / 64) (k % 64) else 0))]
  rw [Finset.sum_eq_single (⟨j.val / 64, by omega⟩ : Fin 4)]
  · refine Finset.sum_congr rfl fun k _ => ?_
    have h1 : (64 * (j.val / 64) + k.val) / 64 = j.val / 64 := by omega
    have h2 : (64 * (j.val / 64) + k.val) % 64 = k.val := by omega
    show f _ * (if (64 * (j.val / 64) + k.val) / 64 = j.val / 64 then w ((64 * (j.val / 64) + k.val) / 64) ((64 * (j.val / 64) + k.val) % 64) else 0) = _
    rw [h1, h2, if_pos rfl]
  · intro a _ ha
    refine Finset.sum_eq_zero fun k _ => ?_
    have h1 : (64 * a.val + k.val) / 64 = a.val := by omega
    show f _ * (if (64 * a.val + k.val) / 64 = j.val / 64 then _ else 0) = 0
    rw [if_neg (by rw [h1]; exact fun h => ha (Fin.ext h)), mul_zero]
  · intro h; exact absurd (Finset.mem_univ _) h

/-- A gate's row from block-diagonal weights. -/
theorem gateRow_eq (A : Spec.Args) (b : Fin 4) (s : ℕ) (wt : Fin 8 → Fin 64 → Fin 64 → EReal) (bias : Fin 512 → EReal)
    (w0 w1 : Vec Ideal S256x256 .bf16) (bv : Vec Ideal S1x512 .f32) (x : Fin 512 → EReal) (hx : ∀ k, x k = Spec.conv A b s k)
    (h0 : ∀ k j : Fin 256, w0 (ix2 k j) = if k.val / 64 = j.val / 64 then wt ⟨k.val / 64, by omega⟩ ⟨k.val % 64, by omega⟩ ⟨j.val % 64, by omega⟩ else (0 : EReal))
    (h1 : ∀ k j : Fin 256, w1 (ix2 k j) = if k.val / 64 = j.val / 64 then wt ⟨4 + k.val / 64, by omega⟩ ⟨k.val % 64, by omega⟩ ⟨j.val % 64, by omega⟩ else (0 : EReal))
    (hb : ∀ j, bv (ix2 0 j) = bias j) (c : Fin 512) : Scan.gateRow x w0 w1 bv c = Spec.gate A b wt bias s c := by
  rw [Scan.gateRow, Spec.gate, hb]
  refine congrArg (fun q => Ideal.logistic (q + bias c)) ?_
  by_cases hc : c.val < 256
  · rw [dif_pos hc]
    refine Eq.trans ?_ ((block_sum (fun k => if h : k < 512 then Spec.conv A b s ⟨k, h⟩ else 0)
      (fun a k => if h : a < 8 ∧ k < 64 then wt ⟨a, h.1⟩ ⟨k, h.2⟩ ⟨c.val % 64, by omega⟩ else 0) ⟨c.val, hc⟩).trans ?_)
    · refine Finset.sum_congr rfl fun k _ => ?_
      rw [h0, hx, dif_pos (show k.val < 512 by omega), dif_pos (⟨by omega, by omega⟩ : k.val / 64 < 8 ∧ k.val % 64 < 64)]
    · refine Finset.sum_congr rfl fun k _ => ?_
      rw [dif_pos (show 64 * (c.val / 64) + k.val < 512 by omega), dif_pos (⟨by omega, by omega⟩ : c.val / 64 < 8 ∧ k.val < 64)]
  · rw [dif_neg hc]
    refine Eq.trans ?_ ((block_sum (fun k => if h : 256 + k < 512 then Spec.conv A b s ⟨256 + k, h⟩ else 0)
      (fun a k => if h : 4 + a < 8 ∧ k < 64 then wt ⟨4 + a, h.1⟩ ⟨k, h.2⟩ ⟨c.val % 64, by omega⟩ else 0) ⟨c.val - 256, by omega⟩).trans ?_)
    · refine Finset.sum_congr rfl fun k _ => ?_
      rw [h1, hx, dif_pos (show 256 + k.val < 512 by omega), dif_pos (⟨by omega, by omega⟩ : 4 + k.val / 64 < 8 ∧ k.val % 64 < 64)]
      have : (c.val - 256) % 64 = c.val % 64 := by omega
      simp only [this]
    · refine Finset.sum_congr rfl fun k _ => ?_
      have e1 : 256 + (64 * ((c.val - 256) / 64) + k.val) = 64 * (c.val / 64) + k.val := by omega
      have e2 : 4 + (c.val - 256) / 64 = c.val / 64 := by omega
      simp only [e1, e2]
      rw [dif_pos (show 64 * (c.val / 64) + k.val < 512 by omega), dif_pos (⟨by omega, by omega⟩ : c.val / 64 < 8 ∧ k.val < 64)]

variable {A : Spec.Args} {b : Fin 4} {p : ℕ} {x : Vec Ideal S512x1024 .f32} {g : Vec Ideal S1x1024 .f32} {w : Vec Ideal S1024x1024 .bf16}
    {c3 c2 c1 c0 cb : Vec Ideal S1x512 .f32} {r0 r1 : Vec Ideal S256x256 .bf16} {br : Vec Ideal S1x512 .f32} {i0 i1 : Vec Ideal S256x256 .bf16}
    {bi lam : Vec Ideal S1x512 .f32} {tail h0 : Vec Ideal S8x512 .f32}

theorem rgx_eq (hx : ∀ r d, x (ix2 r d) = Spec.xN A b (p + r.val) d) (hg : ∀ d, g (ix2 0 d) = A.g d)
    (hw : ∀ (d j : Fin 1024), w (ix2 d j) = A.w d ⟨j.val, by omega⟩) (r : Fin 512) (j : Fin 512) :
    k0_pay7 x g w (ix2 r j) = Spec.rgx A b (p + r.val) j := by
  have e : k0_pay7 x g w (ix2 r j) = (∑ d, k0_pay5 x g (ix2 r d) * w (ix2 d ⟨j.val, by omega⟩) : EReal) := by
    pointwise [k0_pay7, k0_pay6]
  rw [e, Spec.rgx, Spec.z]
  refine Finset.sum_congr rfl fun d _ => ?_
  rw [nrm_eq hx hg, hw]

theorem rgg_eq (hx : ∀ r d, x (ix2 r d) = Spec.xN A b (p + r.val) d) (hg : ∀ d, g (ix2 0 d) = A.g d)
    (hw : ∀ (d j : Fin 1024), w (ix2 d j) = A.w d ⟨j.val, by omega⟩) (r : Fin 512) (j : Fin 512) :
    k0_pay8 x g w (ix2 r j) = Spec.rgg A b (p + r.val) j := by
  have e : k0_pay8 x g w (ix2 r j) = (∑ d, k0_pay5 x g (ix2 r d) * w (ix2 d ⟨512 + j.val, by omega⟩) : EReal) := by
    pointwise [k0_pay8, k0_pay6]
  rw [e, Spec.rgg, Spec.z]
  refine Finset.sum_congr rfl fun d _ => ?_
  rw [nrm_eq hx hg, hw]

theorem sp_eq (hl : ∀ j, lam (ix2 0 j) = A.lam j) (j : Fin 512) : k0_pay17 lam (ix2 0 j) = Spec.sp A j := by
  have e : k0_pay17 lam (ix2 0 j) = (if (0 - lam (ix2 0 j) : EReal) ≠ 0 - lam (ix2 0 j) then (0 - lam (ix2 0 j) : EReal)
      else max (0 - lam (ix2 0 j)) 0 + Ideal.log1p (Ideal.exp (0 - FloatOps.absf (F := Ideal) (φ := .f32) (0 - lam (ix2 0 j) : EReal)))) := by
    pointwise [k0_pay17]
  rw [e, if_neg (fun h => h rfl), hl]
  rfl

/-- The row `k` rows up, from the rows kept of the point before where it lies before this point's first row. -/
theorem tap_eq (k : ℕ) (hk : k ≤ 3) (X : Fin 512 → EReal) (T : Fin 8 → EReal) (j : Fin 512)
    (hX : ∀ r, X r = Spec.rgx A b (p + r.val) j) (hT : ∀ i, T i = if 8 ≤ p + i.val then Spec.rgx A b (p + i.val - 8) j else 0) (r : Fin 512)
    (h1 : (r.val + 8 - k) % 8 < 8) (h2 : (r.val + 512 - k) % 512 < 512) (h3 : (8 + (r.val - 8) + 512 - k) % 512 < 512) :
    (if h : r.val < 8 then Scalar.select (IntOp.cmpi CmpIPredicate.slt (BitVec.ofNat 32 r.val) (BitVec.ofNat 32 k)) (T ⟨(r.val + 8 - k) % 8, h1⟩)
        (X ⟨(r.val + 512 - k) % 512, h2⟩) else X ⟨(8 + (r.val - 8) + 512 - k) % 512, h3⟩) = Spec.tap A b k (p + r.val) j := by
  have key : k ≤ r.val → Spec.tap A b k (p + r.val) j = Spec.rgx A b (p + (r.val - k)) j := fun h => by
    rw [Spec.tap, if_pos (by omega), show p + r.val - k = p + (r.val - k) by omega]
  by_cases h8 : r.val < 8
  · rw [dif_pos h8]
    have hc : IntOp.cmpi CmpIPredicate.slt (BitVec.ofNat 32 r.val) (BitVec.ofNat 32 k) = if r.val < k then 1#1 else 0#1 := by
      have : ∀ (q : Fin 8) (k : Fin 4), IntOp.cmpi CmpIPredicate.slt (BitVec.ofNat 32 q.val) (BitVec.ofNat 32 k.val) = if q.val < k.val then 1#1 else 0#1 := by
        decide
      exact this ⟨r.val, h8⟩ ⟨k, by omega⟩
    rw [hc]
    by_cases hr : r.val < k
    · rw [if_pos hr]
      refine (hT _).trans ?_
      have e : (r.val + 8 - k) % 8 = r.val + 8 - k := Nat.mod_eq_of_lt (by omega)
      show (if 8 ≤ p + (r.val + 8 - k) % 8 then Spec.rgx A b (p + (r.val + 8 - k) % 8 - 8) j else 0) = _
      rw [e, Spec.tap, show p + (r.val + 8 - k) - 8 = p + r.val - k by omega]
      by_cases hp : k ≤ p + r.val
      · rw [if_pos hp, if_pos (by omega)]
      · rw [if_neg hp, if_neg (by omega)]
    · rw [if_neg hr, key (by omega)]
      refine (hX _).trans ?_
      show Spec.rgx A b (p + (r.val + 512 - k) % 512) j = _
      rw [show (r.val + 512 - k) % 512 = r.val - k by omega]
  · rw [dif_neg h8, key (by omega)]
    refine (hX _).trans ?_
    show Spec.rgx A b (p + (8 + (r.val - 8) + 512 - k) % 512) j = _
    rw [show (8 + (r.val - 8) + 512 - k) % 512 = r.val - k by omega]

variable (H : Given A b p x g w c3 c2 c1 c0 cb r0 r1 br i0 i1 bi lam tail h0)
include H

theorem conv_eq (r j : Fin 512) : (readsOf x g w c3 c2 c1 c0 cb r0 r1 br i0 i1 bi lam tail h0).cv (ix2 r j) = Spec.conv A b (p + r.val) j := by
  have hX : ∀ r, k0_pay7 x g w (ix2 r j) = Spec.rgx A b (p + r.val) j := fun r => rgx_eq H.x H.g H.w r j
  have t1 := tap_eq (A := A) (b := b) (p := p) 1 (by omega) (fun r => k0_pay7 x g w (ix2 r j)) (fun i => tail (ix2 i j)) j hX (fun i => H.tail i j) r (by omega) (by omega) (by omega)
  have t2 := tap_eq (A := A) (b := b) (p := p) 2 (by omega) (fun r => k0_pay7 x g w (ix2 r j)) (fun i => tail (ix2 i j)) j hX (fun i => H.tail i j) r (by omega) (by omega) (by omega)
  have t3 := tap_eq (A := A) (b := b) (p := p) 3 (by omega) (fun r => k0_pay7 x g w (ix2 r j)) (fun i => tail (ix2 i j)) j hX (fun i => H.tail i j) r (by omega) (by omega) (by omega)
  rw [Spec.conv, ← t1, ← t2, ← t3, ← hX r, ← H.c3, ← H.c2, ← H.c1, ← H.c0, ← H.cb]
  show k0_pay13 (k0_pay7 x g w) tail (iota Kind.tc S8x512 32 [0] iota_S8x512_d0_w32) (k0_pay12 c3) cb c2 c1 c0 (ix2 r j) = _
  generalize k0_pay7 x g w = X
  pointwise [k0_pay13, k0_pay12]

theorem la_eq (r : Fin 512) (c : Fin 512) :
    Scan.logRow (readsOf x g w c3 c2 c1 c0 cb r0 r1 br i0 i1 bi lam tail h0) c r.val = Spec.la A b (p + r.val) c := by
  rw [Scan.logRow, dif_pos r.isLt, Spec.la]
  have h1 := gateRow_eq A b (p + r.val) A.wr A.br r0 r1 br
    (fun k => (readsOf x g w c3 c2 c1 c0 cb r0 r1 br i0 i1 bi lam tail h0).cv (ix2 r k)) (fun k => conv_eq H r k) H.r0 H.r1 H.br c
  have h2 := sp_eq H.lam c
  exact congrArg₂ (fun u v : EReal => (Ideal.ofBits .f32 0xC1000000#32 * u) * v) h1 h2

theorem dec_eq (r : ℕ) (hr : r < 512) (c : Fin 512) :
    Scan.dec (readsOf x g w c3 c2 c1 c0 cb r0 r1 br i0 i1 bi lam tail h0) c r = Spec.dec A b c (p + r) :=
  congrArg Ideal.exp (la_eq H ⟨r, hr⟩ c)

theorem la_nonpos (s : ℕ) (c : Fin 512) : Spec.la A b s c ≤ 0 := by
  rw [Spec.la, Scan.ofBits_neg8]
  exact RgMath.log_a_nonpos _ _ (RgMath.logistic_nonneg _) (RgMath.softplus_nonneg _ _)

theorem add_eq (r : ℕ) (hr : r < 512) (c : Fin 512) :
    Scan.add (readsOf x g w c3 c2 c1 c0 cb r0 r1 br i0 i1 bi lam tail h0) c r = Spec.add A b c (p + r) := by
  rw [Scan.add, dif_pos hr, Spec.add, la_eq H ⟨r, hr⟩ c, zero_sub, RgMath.tanh_exp _ (la_nonpos H _ _)]
  have h1 := gateRow_eq A b (p + r) A.wi A.bi i0 i1 bi
    (fun k => (readsOf x g w c3 c2 c1 c0 cb r0 r1 br i0 i1 bi lam tail h0).cv (ix2 ⟨r, hr⟩ k)) (fun k => conv_eq H ⟨r, hr⟩ k) H.i0 H.i1 H.bi c
  have h2 := conv_eq H ⟨r, hr⟩ c
  exact congrArg₂ (fun u v : EReal => Ideal.sqrt (-Ideal.expm1 (2 * Spec.la A b (p + r) c)) * (u * v)) h1 h2

/-- The recurrence run from the point's first row. -/
theorem steps_eq (n : ℕ) (hn : n ≤ 512) (c : Fin 512) :
    RgMath.steps (Scan.dec (readsOf x g w c3 c2 c1 c0 cb r0 r1 br i0 i1 bi lam tail h0) c)
      (Scan.add (readsOf x g w c3 c2 c1 c0 cb r0 r1 br i0 i1 bi lam tail h0) c) (Spec.state A b c p) n = Spec.state A b c (p + n) := by
  refine Eq.trans ?_ (RgMath.steps_add (Spec.dec A b c) (Spec.add A b c) 0 p n)
  exact RgMath.steps_congr _ _ (fun k hk => dec_eq H k (by omega) c) (fun k hk => add_eq H k (by omega) c)

theorem sp_nonneg (c : Fin 512) : 0 ≤ (readsOf x g w c3 c2 c1 c0 cb r0 r1 br i0 i1 bi lam tail h0).sp (ix2 0 c) := by
  have h : (readsOf x g w c3 c2 c1 c0 cb r0 r1 br i0 i1 bi lam tail h0).sp (ix2 0 c) = Spec.sp A c := sp_eq H.lam c
  rw [h]; exact RgMath.softplus_nonneg _ _

/-- The gated rows. -/
theorem y_eq (ma mu : Memref sig .tc .vmem S512x512 .f32) (r c : Fin 512) :
    View.canon (listY (readsOf x g w c3 c2 c1 c0 cb r0 r1 br i0 i1 bi lam tail h0) ma mu 16 (Nat.le_refl 16)) (ix2 r c : S512x512.Idx) =
      Spec.ya A b (p + r.val) c := by
  refine (Scan.canon_listY _ ma mu c (sp_nonneg H c) _ (fun k => H.h0 k c) 16 _ r (by omega)).trans ?_
  rw [steps_eq H (r.val + 1) (by omega) c, Spec.ya]
  have hg : (readsOf x g w c3 c2 c1 c0 cb r0 r1 br i0 i1 bi lam tail h0).g (ix2 r c) = Spec.rgg A b (p + r.val) c := rgg_eq H.x H.g H.w r c
  rw [hg]
  rfl

/-- The state left for the next point. -/
theorem state_eq (ma mu : Memref sig .tc .vmem S512x512 .f32) (k : Fin 8) (c : Fin 512) :
    (groups (readsOf x g w c3 c2 c1 c0 cb r0 r1 br i0 i1 bi lam tail h0) ma mu 64 (Nat.le_refl 64)).2 (ix2 k c) = Spec.state A b c (p + 512) :=
  ((Scan.groups_apply _ ma mu c (sp_nonneg H c) _ (fun k => H.h0 k c) 64 _).2 k).trans (steps_eq H 512 (by omega) c)

omit H in
/-- The rows kept for the next point. -/
theorem kept_eq (hx : ∀ r d, x (ix2 r d) = Spec.xN A b (p + r.val) d) (hg : ∀ d, g (ix2 0 d) = A.g d)
    (hw : ∀ (d j : Fin 1024), w (ix2 d j) = A.w d ⟨j.val, by omega⟩) (k : Fin 8) (c : Fin 512) :
    k0_pay15 (k0_pay14 (k0_pay7 x g w)) (ix2 k c) = Spec.rgx A b (p + 504 + k.val) c := by
  have e : k0_pay15 (k0_pay14 (k0_pay7 x g w)) (ix2 k c) = k0_pay7 x g w (ix2 ⟨504 + k.val, by omega⟩ c) := by
    generalize k0_pay7 x g w = X
    pointwise [k0_pay15, k0_pay14]
  rw [e, rgx_eq hx hg hw]
  show Spec.rgx A b (p + (504 + k.val)) c = _
  rw [Nat.add_assoc]

end Cert.KernelIdeal.Point
-- ==== Proof.Host.lean ====
module

public import proofs.«01_k».proof.Proof.Gen.KernelIdeal.Frame.Runs
public import Idealize.ShloMosaic.Lib.Pipeline.ValueKit
public import Idealize.ShloMosaic.Lib.Claim
public import Idealize.ShloMosaic.Lib.Pointwise

@[expose] public section

set_option maxRecDepth 16384

/-! The arrays that the host prepares for the front call, at an index. -/
namespace Cert.KernelIdeal.Host

open Idealize.ShloMosaic Cert.KernelIdeal.Gen Idealize.ShloMosaic.TcCoe Idealize.ShloMosaic.StableHlo

variable (m : (ℓ : Loc nD τ sig) → Buf (Elt Ideal) ℓ) (c : Dev nD)

/-- A diagonal indicator of two block numbers times a value. -/
theorem eye_mul (a b : Fin 8) (v : EReal) :
    FloatOps.uitofp (F := Ideal) FTy.f32 (IntOp.cmpi CmpIPredicate.eq (IntOp.addi (BitVec.ofNat 32 a.val) 0#32) (BitVec.ofNat 32 b.val)) * v
      = if a = b then v else (0 : EReal) := by
  have h : IntOp.cmpi CmpIPredicate.eq (IntOp.addi (BitVec.ofNat 32 a.val) 0#32) (BitVec.ofNat 32 b.val) = if a = b then 1#1 else 0#1 := by
    revert a b; decide
  rw [h]
  by_cases hab : a = b
  · rw [if_pos hab, if_pos hab]
    have : FloatOps.uitofp (F := Ideal) FTy.f32 (1#1) = (1 : EReal) := by
      show ((((1#1 : BitVec 1).toNat : ℕ) : ℝ) : EReal) = 1
      simp
    rw [this]; exact one_mul v
  · rw [if_neg hab, if_neg hab]
    have : FloatOps.uitofp (F := Ideal) FTy.f32 (0#1) = (0 : EReal) := by
      show ((((0#1 : BitVec 1).toNat : ℕ) : ℝ) : EReal) = 0
      simp
    rw [this]; exact zero_mul v

theorem x2 (r : Fin 32768) (d : Fin 1024) :
    V m c main_v45 (ix2 r d) = m ((c : Thread nD τ).loc main_arg0) (ix3 ⟨r.val / 8192, by omega⟩ ⟨r.val % 8192, by omega⟩ d) := by
  simp only [V, hostOps0, hostOps0_1, hostOps0_2, List.flatten_cons, List.flatten_nil, List.append_nil, List.cons_append, List.nil_append]
  after_results_simp; pointwise

theorem norm_g (d : Fin 1024) : V m c main_v48 (ix2 0 d) = m ((c : Thread nD τ).loc main_arg1) (ix1 d) := by
  simp only [V, hostOps0, hostOps0_1, hostOps0_2, List.flatten_cons, List.flatten_nil, List.append_nil, List.cons_append, List.nil_append]
  after_results_simp; pointwise

theorem w_in (d : Fin 1024) (j : Fin 2944) :
    V m c main_v47 (ix2 d j) = if h : j.val < 2840 then m ((c : Thread nD τ).loc main_arg2) (ix2 d ⟨j.val, h⟩) else (0 : EReal) := by
  simp only [V, hostOps0, hostOps0_1, hostOps0_2, List.flatten_cons, List.flatten_nil, List.append_nil, List.cons_append, List.nil_append]
  after_results_simp
  have e : ∀ (x : Vec Ideal S1024x2840 .f32) (z : Vec Ideal S_ .f32) (hz : z = sitofp (F := Ideal) FTy.f32 (constantI S_ 32 0#32 : IVec S_ 32)),
      (truncf (F := Ideal) FTy.bf16 (pad S1024x2944 ![0, 0] ![0, 104] ![0, 0] x z
        pads_S1024x2840_S1024x2944_000_01040 h_S_ : Vec Ideal S1024x2944 .f32) bitsLt_bf16_f32) (ix2 d j)
      = if h : j.val < 2840 then x (ix2 d ⟨j.val, h⟩) else (0 : EReal) := by
    intro x z hz
    subst hz
    pointwise
    split
    · rfl
    · show ((((0#32 : BitVec 32).toInt : ℤ) : ℝ) : EReal) = 0
      simp
  exact e _ _ rfl

theorem conv_b (k : Fin 512) : V m c main_v49 (ix2 0 k) = m ((c : Thread nD τ).loc main_arg4) (ix1 k) := by
  simp only [V, hostOps0, hostOps0_1, hostOps0_2, List.flatten_cons, List.flatten_nil, List.append_nil, List.cons_append, List.nil_append]
  after_results_simp; pointwise

theorem wr (r k : Fin 512) : V m c main_v62 (ix2 r k) = if r.val / 64 = k.val / 64 then
    m ((c : Thread nD τ).loc main_arg5) (ix3 ⟨r.val / 64, by omega⟩ ⟨r.val % 64, by omega⟩ ⟨k.val % 64, by omega⟩) else (0 : EReal) := by
  simp only [V, hostOps0, hostOps0_1, hostOps0_2, List.flatten_cons, List.flatten_nil, List.append_nil, List.cons_append, List.nil_append]
  after_results_simp; pointwise
  refine (eye_mul ⟨r.val / 64, by omega⟩ ⟨k.val / 64, by omega⟩ _).trans ?_
  simp only [Fin.mk.injEq]

theorem br (k : Fin 512) : V m c main_v63 (ix2 0 k) = m ((c : Thread nD τ).loc main_arg6) (ix1 k) := by
  simp only [V, hostOps0, hostOps0_1, hostOps0_2, List.flatten_cons, List.flatten_nil, List.append_nil, List.cons_append, List.nil_append]
  after_results_simp; pointwise

theorem wi (r k : Fin 512) : V m c main_v76 (ix2 r k) = if r.val / 64 = k.val / 64 then
    m ((c : Thread nD τ).loc main_arg7) (ix3 ⟨r.val / 64, by omega⟩ ⟨r.val % 64, by omega⟩ ⟨k.val % 64, by omega⟩) else (0 : EReal) := by
  simp only [V, hostOps0, hostOps0_1, hostOps0_2, List.flatten_cons, List.flatten_nil, List.append_nil, List.cons_append, List.nil_append]
  after_results_simp; pointwise
  refine (eye_mul ⟨r.val / 64, by omega⟩ ⟨k.val / 64, by omega⟩ _).trans ?_
  simp only [Fin.mk.injEq]

theorem bi (k : Fin 512) : V m c main_v77 (ix2 0 k) = m ((c : Thread nD τ).loc main_arg8) (ix1 k) := by
  simp only [V, hostOps0, hostOps0_1, hostOps0_2, List.flatten_cons, List.flatten_nil, List.append_nil, List.cons_append, List.nil_append]
  after_results_simp; pointwise

theorem lam (k : Fin 512) : V m c main_v78 (ix2 0 k) = m ((c : Thread nD τ).loc main_arg9) (ix1 k) := by
  simp only [V, hostOps0, hostOps0_1, hostOps0_2, List.flatten_cons, List.flatten_nil, List.append_nil, List.cons_append, List.nil_append]
  after_results_simp; pointwise

end Cert.KernelIdeal.Host
-- ==== Proof.Reads.lean ====
module

public import proofs.«01_k».proof.Proof.Point
public import proofs.«01_k».proof.Proof.Host
public import proofs.«01_k».proof.Proof.Front
public import Idealize.ShloMosaic.Lib.WholeRead
public import Idealize.ShloMosaic.Lib.Pipeline.ValueKit

@[expose] public section
set_option maxRecDepth 16384

namespace Cert.KernelIdeal.Grid
open Idealize.ShloMosaic Cert.KernelIdeal.Gen Cert.KernelIdeal.Trace Idealize.ShloMosaic.TcCoe

variable (m : (ℓ : Loc nD τ sig) → Buf (Elt Ideal) ℓ) (c : Dev nD)

/-- The arguments that matter, from the memory. -/
noncomputable def args : Spec.Args where
  x b s d := m ((c : Thread nD τ).loc main_arg0) (ix3 b s d)
  g d := m ((c : Thread nD τ).loc main_arg1) (ix1 d)
  w d j := m ((c : Thread nD τ).loc main_arg2) (ix2 d j)
  cw k j := m ((c : Thread nD τ).loc main_arg3) (ix2 k j)
  cb j := m ((c : Thread nD τ).loc main_arg4) (ix1 j)
  wr a k j := m ((c : Thread nD τ).loc main_arg5) (ix3 a k j)
  br j := m ((c : Thread nD τ).loc main_arg6) (ix1 j)
  wi a k j := m ((c : Thread nD τ).loc main_arg7) (ix3 a k j)
  bi j := m ((c : Thread nD τ).loc main_arg8) (ix1 j)
  lam j := m ((c : Thread nD τ).loc main_arg9) (ix1 j)

variable (t : Fin cfg0.N)

theorem t_lt (t : Fin cfg0.N) : t.val < 64 := t.isLt

/-- The sequence of a grid point. -/
def seq (t : Fin cfg0.N) : Fin 4 := ⟨t.val / 16, by have := t_lt t; omega⟩

/-- The first position of a grid point. -/
def pos (t : Fin cfg0.N) : ℕ := 512 * (t.val % 16)

theorem idx0 : ∀ t : Fin cfg0.N, win0_0.index t = ![t.val, 0] := by decide +kernel
theorem idxC : ∀ t : Fin cfg0.N, win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] := by
  decide +kernel

theorem x_blk (r : Fin 512) (d : Fin 1024) : iblk m c 0 t (ix2 r d) = V m c main_v45 (ix2 ⟨t.val * 512 + r.val, by have := t_lt t; omega⟩ d) := by
  blk_ext [iblk, idx0 t]

theorem w_blk (y : S1024x2944.Idx) : iblk m c 2 t y = V m c main_v47 y := by
  blk_ext [iblk, idxC t]

theorem g_blk (y : S1x1024.Idx) : iblk m c 1 t y = V m c main_v48 y := by
  blk_ext [iblk, idxC t]
theorem cw_blk (y : S4x512.Idx) : iblk m c 3 t y = V m c main_arg3 y := by
  blk_ext [iblk, idxC t]
theorem cb_blk (y : S1x512.Idx) : iblk m c 4 t y = V m c main_v49 y := by
  blk_ext [iblk, idxC t]
theorem wr_blk (y : S512x512.Idx) : iblk m c 5 t y = V m c main_v62 y := by
  blk_ext [iblk, idxC t]
theorem br_blk (y : S1x512.Idx) : iblk m c 6 t y = V m c main_v63 y := by
  blk_ext [iblk, idxC t]
theorem wi_blk (y : S512x512.Idx) : iblk m c 7 t y = V m c main_v76 y := by
  blk_ext [iblk, idxC t]
theorem bi_blk (y : S1x512.Idx) : iblk m c 8 t y = V m c main_v77 y := by
  blk_ext [iblk, idxC t]
theorem lam_blk (y : S1x512.Idx) : iblk m c 9 t y = V m c main_v78 y := by
  blk_ext [iblk, idxC t]

/-- A load through a rectangle of a whole buffer, at an index. -/
theorem read2 {A B n k : ℕ} {e : EltTy} {κ : Kind} {sp : Space} {M : Memref sig κ sp ⟨2, ![A, B]⟩ e} (h : M.IsWhole) (X : (⟨2, ![A, B]⟩ : Shape).Idx → Elt Ideal e)
    (o1 o2 : ℕ) (inb : ∀ a, (![o1, o2] : Fin 2 → ℕ) a + (![n, k] : Fin 2 → ℕ) a ≤ (⟨2, ![A, B]⟩ : Shape).size a) (i : Fin n) (j : Fin k)
    (h1 : o1 + i.val < A) (h2 : o2 + j.val < B) :
    View.readAt (Elt Ideal) M.view (Rect.unit (s := ⟨2, ![A, B]⟩) ![o1, o2] ![n, k] inb).toLoadRect (h.unread X) (ix2 i j) = X (ix2 ⟨o1 + i.val, h1⟩ ⟨o2 + j.val, h2⟩) := by
  refine (h.readAt_unread _ _ _).trans (congrArg X ?_)
  funext a
  refine Fin.ext ?_
  fin_cases a
  · show o1 + 1 * i.val = o1 + i.val
    omega
  · show o2 + 1 * j.val = o2 + j.val
    omega

/-- A load of the body. -/
noncomputable abbrev rx : Vec Ideal S512x1024 .f32 := View.readAt (Elt Ideal) (ms0_0 t).view (Rect.unit (s := S512x1024) ![0, 0] S512x1024.size inb_S512x1024_S512x1024_0_0).toLoadRect ((hs0_0 t).unread (iblk m c 0 t))
/-- A load of the body. -/
noncomputable abbrev rg : Vec Ideal S1x1024 .f32 := View.readAt (Elt Ideal) (ms0_1 t).view (Rect.unit (s := S1x1024) ![0, 0] S1x1024.size inb_S1x1024_S1x1024_0_0).toLoadRect ((hs0_1 t).unread (iblk m c 1 t))
/-- A load of the body. -/
noncomputable abbrev rwx : Vec Ideal S1024x1024 .bf16 := View.readAt (Elt Ideal) (ms0_2 t).view (Rect.unit (s := S1024x2944) ![0, 0] S1024x1024.size inb_S1024x2944_S1024x1024_0_0).toLoadRect ((hs0_2 t).unread (iblk m c 2 t))
/-- A load of the body. -/
noncomputable abbrev rc3 : Vec Ideal S1x512 .f32 := View.readAt (Elt Ideal) (ms0_3 t).view (Rect.unit (s := S4x512) ![3, 0] S1x512.size inb_S4x512_S1x512_3_0).toLoadRect ((hs0_3 t).unread (iblk m c 3 t))
/-- A load of the body. -/
noncomputable abbrev rc2 : Vec Ideal S1x512 .f32 := View.readAt (Elt Ideal) (ms0_3 t).view (Rect.unit (s := S4x512) ![2, 0] S1x512.size inb_S4x512_S1x512_2_0).toLoadRect ((hs0_3 t).unread (iblk m c 3 t))
/-- A load of the body. -/
noncomputable abbrev rc1 : Vec Ideal S1x512 .f32 := View.readAt (Elt Ideal) (ms0_3 t).view (Rect.unit (s := S4x512) ![1, 0] S1x512.size inb_S4x512_S1x512_1_0).toLoadRect ((hs0_3 t).unread (iblk m c 3 t))
/-- A load of the body. -/
noncomputable abbrev rc0 : Vec Ideal S1x512 .f32 := View.readAt (Elt Ideal) (ms0_3 t).view (Rect.unit (s := S4x512) ![0, 0] S1x512.size inb_S4x512_S1x512_0_0).toLoadRect ((hs0_3 t).unread (iblk m c 3 t))
/-- A load of the body. -/
noncomputable abbrev rcb : Vec Ideal S1x512 .f32 := View.readAt (Elt Ideal) (ms0_4 t).view (Rect.unit (s := S1x512) ![0, 0] S1x512.size inb_S1x512_S1x512_0_0).toLoadRect ((hs0_4 t).unread (iblk m c 4 t))
/-- A load of the body. -/
noncomputable abbrev rr0 : Vec Ideal S256x256 .bf16 := View.readAt (Elt Ideal) (ms0_5 t).view (Rect.unit (s := S512x512) ![0, 0] S256x256.size inb_S512x512_S256x256_0_0).toLoadRect ((hs0_5 t).unread (iblk m c 5 t))
/-- A load of the body. -/
noncomputable abbrev rr1 : Vec Ideal S256x256 .bf16 := View.readAt (Elt Ideal) (ms0_5 t).view (Rect.unit (s := S512x512) ![256, 256] S256x256.size inb_S512x512_S256x256_256_256).toLoadRect ((hs0_5 t).unread (iblk m c 5 t))
/-- A load of the body. -/
noncomputable abbrev rbr : Vec Ideal S1x512 .f32 := View.readAt (Elt Ideal) (ms0_6 t).view (Rect.unit (s := S1x512) ![0, 0] S1x512.size inb_S1x512_S1x512_0_0).toLoadRect ((hs0_6 t).unread (iblk m c 6 t))
/-- A load of the body. -/
noncomputable abbrev ri0 : Vec Ideal S256x256 .bf16 := View.readAt (Elt Ideal) (ms0_7 t).view (Rect.unit (s := S512x512) ![0, 0] S256x256.size inb_S512x512_S256x256_0_0).toLoadRect ((hs0_7 t).unread (iblk m c 7 t))
/-- A load of the body. -/
noncomputable abbrev ri1 : Vec Ideal S256x256 .bf16 := View.readAt (Elt Ideal) (ms0_7 t).view (Rect.unit (s := S512x512) ![256, 256] S256x256.size inb_S512x512_S256x256_256_256).toLoadRect ((hs0_7 t).unread (iblk m c 7 t))
/-- A load of the body. -/
noncomputable abbrev rbi : Vec Ideal S1x512 .f32 := View.readAt (Elt Ideal) (ms0_8 t).view (Rect.unit (s := S1x512) ![0, 0] S1x512.size inb_S1x512_S1x512_0_0).toLoadRect ((hs0_8 t).unread (iblk m c 8 t))
/-- A load of the body. -/
noncomputable abbrev rlam : Vec Ideal S1x512 .f32 := View.readAt (Elt Ideal) (ms0_9 t).view (Rect.unit (s := S1x512) ![0, 0] S1x512.size inb_S1x512_S1x512_0_0).toLoadRect ((hs0_9 t).unread (iblk m c 9 t))
/-- A load of the body. -/
noncomputable abbrev rw1536 : Vec Ideal S1024x256 .bf16 := View.readAt (Elt Ideal) (ms0_2 t).view (Rect.unit (s := S1024x2944) ![0, 1536] S1024x256.size inb_S1024x2944_S1024x256_0_1536).toLoadRect ((hs0_2 t).unread (iblk m c 2 t))
/-- A load of the body. -/
noncomputable abbrev rw1792 : Vec Ideal S1024x256 .bf16 := View.readAt (Elt Ideal) (ms0_2 t).view (Rect.unit (s := S1024x2944) ![0, 1792] S1024x256.size inb_S1024x2944_S1024x256_0_1792).toLoadRect ((hs0_2 t).unread (iblk m c 2 t))
/-- A load of the body. -/
noncomputable abbrev rw2048 : Vec Ideal S1024x256 .bf16 := View.readAt (Elt Ideal) (ms0_2 t).view (Rect.unit (s := S1024x2944) ![0, 2048] S1024x256.size inb_S1024x2944_S1024x256_0_2048).toLoadRect ((hs0_2 t).unread (iblk m c 2 t))
/-- A load of the body. -/
noncomputable abbrev rw2304 : Vec Ideal S1024x256 .bf16 := View.readAt (Elt Ideal) (ms0_2 t).view (Rect.unit (s := S1024x2944) ![0, 2304] S1024x256.size inb_S1024x2944_S1024x256_0_2304).toLoadRect ((hs0_2 t).unread (iblk m c 2 t))
/-- A load of the body. -/
noncomputable abbrev rw2560 : Vec Ideal S1024x256 .bf16 := View.readAt (Elt Ideal) (ms0_2 t).view (Rect.unit (s := S1024x2944) ![0, 2560] S1024x256.size inb_S1024x2944_S1024x256_0_2560).toLoadRect ((hs0_2 t).unread (iblk m c 2 t))
/-- A load of the body. -/
noncomputable abbrev rw2816 : Vec Ideal S1024x128 .bf16 := View.readAt (Elt Ideal) (ms0_2 t).view (Rect.unit (s := S1024x2944) ![0, 2816] S1024x128.size inb_S1024x2944_S1024x128_0_2816).toLoadRect ((hs0_2 t).unread (iblk m c 2 t))

theorem rx_eq (r : Fin 512) (d : Fin 1024) : rx m c t (ix2 r d) = Spec.xN (args m c) (seq t) (pos t + r.val) d := by
  have ht := t_lt t
  refine (read2 (hs0_0 t) (iblk m c 0 t) 0 0 _ r d (by omega) (by omega)).trans ?_
  refine (x_blk m c t ⟨0 + r.val, by omega⟩ ⟨0 + d.val, by omega⟩).trans ((Host.x2 m c _ _).trans ?_)
  rw [Spec.xN, dif_pos (show pos t + r.val < 8192 by unfold pos; omega)]
  refine congrArg (m ((c : Thread nD τ).loc main_arg0)) ?_
  refine congr (congr (congrArg ix3 (Fin.ext ?_)) (Fin.ext ?_)) (Fin.ext ?_)
  · show (t.val * 512 + (0 + r.val)) / 8192 = t.val / 16
    omega
  · show (t.val * 512 + (0 + r.val)) % 8192 = 512 * (t.val % 16) + r.val
    omega
  · show 0 + d.val = d.val
    omega

theorem rg_eq (d : Fin 1024) : rg m c t (ix2 0 d) = (args m c).g d := by
  refine (read2 (hs0_1 t) (iblk m c 1 t) 0 0 _ 0 d (by omega) (by omega)).trans ((g_blk m c t _).trans ?_)
  refine Eq.trans (congrArg (V m c main_v48) ?_) (Host.norm_g m c d)
  blk_ext

/-- A load of columns of the projection's weights. -/
theorem cols_eq (k off : ℕ) (inb : ∀ a, (![0, off] : Fin 2 → ℕ) a + (![1024, k] : Fin 2 → ℕ) a ≤ (⟨2, ![1024, 2944]⟩ : Shape).size a) (d : Fin 1024) (j : Fin k)
    (hj : off + j.val < 2944) :
    View.readAt (Elt Ideal) (ms0_2 t).view (Rect.unit (s := ⟨2, ![1024, 2944]⟩) ![0, off] ![1024, k] inb).toLoadRect ((hs0_2 t).unread (iblk m c 2 t)) (ix2 d j) =
      if h : off + j.val < 2840 then (args m c).w d ⟨off + j.val, h⟩ else (0 : EReal) := by
  refine (read2 (hs0_2 t) (iblk m c 2 t) 0 off inb d j (by omega) hj).trans ((w_blk m c t _).trans ?_)
  refine Eq.trans (congrArg (V m c main_v47) ?_) (Host.w_in m c d ⟨off + j.val, hj⟩)
  blk_ext

theorem rwx_eq (d j : Fin 1024) : rwx m c t (ix2 d j) = (args m c).w d ⟨j.val, by omega⟩ := by
  refine (cols_eq m c t 1024 0 _ d j (by omega)).trans ((dif_pos (by omega)).trans ?_)
  exact congrArg ((args m c).w d) (Fin.ext (Nat.zero_add _))

/-- A load of a row of the convolution's weights. -/
theorem cw_eq (o : Fin 4) (inb : ∀ a, (![o.val, 0] : Fin 2 → ℕ) a + (![1, 512] : Fin 2 → ℕ) a ≤ (⟨2, ![4, 512]⟩ : Shape).size a) (j : Fin 512) :
    View.readAt (Elt Ideal) (ms0_3 t).view (Rect.unit (s := ⟨2, ![4, 512]⟩) ![o.val, 0] ![1, 512] inb).toLoadRect ((hs0_3 t).unread (iblk m c 3 t)) (ix2 0 j) =
      (args m c).cw o j := by
  refine (read2 (hs0_3 t) (iblk m c 3 t) o.val 0 inb 0 j (by have := o.isLt; show o.val + 0 < 4; omega) (by omega)).trans ((cw_blk m c t _).trans ?_)
  refine Eq.trans (congrArg (V m c main_arg3) ?_) (congrFun (V_main_arg3 m c) (ix2 o j))
  blk_ext

theorem rcb_eq (j : Fin 512) : rcb m c t (ix2 0 j) = (args m c).cb j := by
  refine (read2 (hs0_4 t) (iblk m c 4 t) 0 0 _ 0 j (by omega) (by omega)).trans ((cb_blk m c t _).trans ?_)
  refine Eq.trans (congrArg (V m c main_v49) ?_) (Host.conv_b m c j)
  blk_ext

theorem rbr_eq (j : Fin 512) : rbr m c t (ix2 0 j) = (args m c).br j := by
  refine (read2 (hs0_6 t) (iblk m c 6 t) 0 0 _ 0 j (by omega) (by omega)).trans ((br_blk m c t _).trans ?_)
  refine Eq.trans (congrArg (V m c main_v63) ?_) (Host.br m c j)
  blk_ext

theorem rbi_eq (j : Fin 512) : rbi m c t (ix2 0 j) = (args m c).bi j := by
  refine (read2 (hs0_8 t) (iblk m c 8 t) 0 0 _ 0 j (by omega) (by omega)).trans ((bi_blk m c t _).trans ?_)
  refine Eq.trans (congrArg (V m c main_v77) ?_) (Host.bi m c j)
  blk_ext

theorem rlam_eq (j : Fin 512) : rlam m c t (ix2 0 j) = (args m c).lam j := by
  refine (read2 (hs0_9 t) (iblk m c 9 t) 0 0 _ 0 j (by omega) (by omega)).trans ((lam_blk m c t _).trans ?_)
  refine Eq.trans (congrArg (V m c main_v78) ?_) (Host.lam m c j)
  blk_ext

/-- A block of block-diagonal weights, `a` groups of 64 in. -/
theorem diag_eq (X : Vec Ideal S512x512 .bf16) (W : Fin 8 → Fin 64 → Fin 64 → EReal)
    (hX : ∀ r k : Fin 512, X (ix2 r k) = if r.val / 64 = k.val / 64 then W ⟨r.val / 64, by omega⟩ ⟨r.val % 64, by omega⟩ ⟨k.val % 64, by omega⟩ else (0 : EReal))
    (a : ℕ) (ha : a ≤ 4) (k j : Fin 256) (v : EReal) (h1 : 64 * a + k.val < 512) (h2 : 64 * a + j.val < 512) (hv : v = X (ix2 ⟨64 * a + k.val, h1⟩ ⟨64 * a + j.val, h2⟩)) :
    v = if k.val / 64 = j.val / 64 then W ⟨a + k.val / 64, by omega⟩ ⟨k.val % 64, by omega⟩ ⟨j.val % 64, by omega⟩ else (0 : EReal) := by
  rw [hv, hX]
  have e1 : (64 * a + k.val) / 64 = a + k.val / 64 := by omega
  have e2 : (64 * a + j.val) / 64 = a + j.val / 64 := by omega
  have e3 : (64 * a + k.val) % 64 = k.val % 64 := by omega
  have e4 : (64 * a + j.val) % 64 = j.val % 64 := by omega
  simp only [e1, e2, e3, e4, Nat.add_left_cancel_iff]

theorem rr0_eq (k j : Fin 256) : rr0 m c t (ix2 k j) = if k.val / 64 = j.val / 64 then (args m c).wr ⟨k.val / 64, by omega⟩ ⟨k.val % 64, by omega⟩ ⟨j.val % 64, by omega⟩ else (0 : EReal) := by
  refine (diag_eq (V m c main_v62) (args m c).wr (Host.wr m c) 0 (by omega) k j _ (by omega) (by omega)
    ((read2 (hs0_5 t) (iblk m c 5 t) 0 0 _ k j (by omega) (by omega)).trans (wr_blk m c t _))).trans ?_
  simp only [Nat.zero_add]

theorem rr1_eq (k j : Fin 256) : rr1 m c t (ix2 k j) = if k.val / 64 = j.val / 64 then (args m c).wr ⟨4 + k.val / 64, by omega⟩ ⟨k.val % 64, by omega⟩ ⟨j.val % 64, by omega⟩ else (0 : EReal) :=
  diag_eq (V m c main_v62) (args m c).wr (Host.wr m c) 4 (by omega) k j _ (by omega) (by omega)
    ((read2 (hs0_5 t) (iblk m c 5 t) 256 256 _ k j (by omega) (by omega)).trans (wr_blk m c t _))

theorem ri0_eq (k j : Fin 256) : ri0 m c t (ix2 k j) = if k.val / 64 = j.val / 64 then (args m c).wi ⟨k.val / 64, by omega⟩ ⟨k.val % 64, by omega⟩ ⟨j.val % 64, by omega⟩ else (0 : EReal) := by
  refine (diag_eq (V m c main_v76) (args m c).wi (Host.wi m c) 0 (by omega) k j _ (by omega) (by omega)
    ((read2 (hs0_7 t) (iblk m c 7 t) 0 0 _ k j (by omega) (by omega)).trans (wi_blk m c t _))).trans ?_
  simp only [Nat.zero_add]

theorem ri1_eq (k j : Fin 256) : ri1 m c t (ix2 k j) = if k.val / 64 = j.val / 64 then (args m c).wi ⟨4 + k.val / 64, by omega⟩ ⟨k.val % 64, by omega⟩ ⟨j.val % 64, by omega⟩ else (0 : EReal) :=
  diag_eq (V m c main_v76) (args m c).wi (Host.wi m c) 4 (by omega) k j _ (by omega) (by omega)
    ((read2 (hs0_7 t) (iblk m c 7 t) 256 256 _ k j (by omega) (by omega)).trans (wi_blk m c t _))

/-- A grid point's reads are what `Point` asks for, once the two carried buffers are. -/
theorem given (tail h0 : Vec Ideal S8x512 .f32)
    (ht : ∀ (k : Fin 8) j, tail (ix2 k j) = if 8 ≤ pos t + k.val then Spec.rgx (args m c) (seq t) (pos t + k.val - 8) j else (0 : EReal))
    (hh : ∀ (k : Fin 8) j, h0 (ix2 k j) = Spec.state (args m c) (seq t) j (pos t)) :
    Point.Given (args m c) (seq t) (pos t) (rx m c t) (rg m c t) (rwx m c t) (rc3 m c t) (rc2 m c t) (rc1 m c t) (rc0 m c t) (rcb m c t)
      (rr0 m c t) (rr1 m c t) (rbr m c t) (ri0 m c t) (ri1 m c t) (rbi m c t) (rlam m c t) tail h0 where
  x := rx_eq m c t
  g := rg_eq m c t
  w := rwx_eq m c t
  c3 := cw_eq m c t 3 _
  c2 := cw_eq m c t 2 _
  c1 := cw_eq m c t 1 _
  c0 := cw_eq m c t 0 _
  cb := rcb_eq m c t
  r0 := rr0_eq m c t
  r1 := rr1_eq m c t
  br := rbr_eq m c t
  i0 := ri0_eq m c t
  i1 := ri1_eq m c t
  bi := rbi_eq m c t
  lam := rlam_eq m c t
  tail := ht
  h0 := hh

end Cert.KernelIdeal.Grid
-- ==== Proof.Proj.lean ====
module

public import proofs.«01_k».proof.Proof.Point

@[expose] public section

set_option maxRecDepth 16384

/-! The projections that one grid point stores as they are, transposed, or through the logistic function. -/
namespace Cert.KernelIdeal.Proj

open Idealize.ShloMosaic Cert.KernelIdeal.Gen

variable {A : Spec.Args} {b : Fin 4} {p : ℕ} {x : Vec Ideal S512x1024 .f32} {g : Vec Ideal S1x1024 .f32}
    (hx : ∀ r d, x (ix2 r d) = Spec.xN A b (p + r.val) d) (hg : ∀ d, g (ix2 0 d) = A.g d)
include hx hg

/-- A row of the normalised input against a column of the weights. -/
theorem sum_eq (w : Fin 1024 → EReal) (j : Fin 2840) (hw : ∀ d, w d = A.w d j) (r : Fin 512) (n : Fin 1024 → EReal) (hn : n = fun d => k0_pay5 x g (ix2 r d)) :
    ∑ d, n d * w d = Spec.z A b (p + r.val) j := by
  subst hn
  refine Finset.sum_congr rfl fun d _ => ?_
  exact congrArg₂ (fun u v : EReal => u * v) (Point.nrm_eq hx hg r d) (hw d)

theorem flat_eq (w : Vec Ideal S1024x256 .bf16) (off : ℕ) (hoff : off + 256 ≤ 2840) (hw : ∀ (d : Fin 1024) (j : Fin 256), w (ix2 d j) = A.w d ⟨off + j.val, by omega⟩)
    (r : Fin 512) (j : Fin 256) : k0_pay266 (k0_pay5 x g) w (ix2 r j) = Spec.z A b (p + r.val) ⟨off + j.val, by omega⟩ := by
  refine Eq.trans ?_ (sum_eq hx hg (fun d => w (ix2 d j)) _ (fun d => hw d j) r _ rfl)
  generalize k0_pay5 x g = X
  pointwise [k0_pay266]

theorem low_eq (w : Vec Ideal S1024x256 .bf16) (off : ℕ) (hoff : off + 256 ≤ 2840) (hw : ∀ (d : Fin 1024) (j : Fin 256), w (ix2 d j) = A.w d ⟨off + j.val, by omega⟩)
    (r : Fin 512) (j : Fin 256) : k0_pay349 (k0_pay5 x g) w (ix2 r j) = Spec.z A b (p + r.val) ⟨off + j.val, by omega⟩ := by
  refine Eq.trans ?_ (sum_eq hx hg (fun d => w (ix2 d j)) _ (fun d => hw d j) r _ rfl)
  generalize k0_pay5 x g = X
  pointwise [k0_pay349]

theorem high_eq (w : Vec Ideal S1024x256 .bf16) (off : ℕ) (hoff : off + 256 ≤ 2840) (hw : ∀ (d : Fin 1024) (j : Fin 256), w (ix2 d j) = A.w d ⟨off + j.val, by omega⟩)
    (r : Fin 512) (j : Fin 256) : k0_pay428 (k0_pay5 x g) w (ix2 r j) = Spec.z A b (p + r.val) ⟨off + j.val, by omega⟩ := by
  refine Eq.trans ?_ (sum_eq hx hg (fun d => w (ix2 d j)) _ (fun d => hw d j) r _ rfl)
  generalize k0_pay5 x g = X
  pointwise [k0_pay428]

/-- The upper half of a 256-wide projection, transposed. -/
theorem vs_eq (w : Vec Ideal S1024x256 .bf16) (off : ℕ) (hoff : off + 256 ≤ 2840) (hw : ∀ (d : Fin 1024) (j : Fin 256), w (ix2 d j) = A.w d ⟨off + j.val, by omega⟩)
    (i : Fin 128) (r : Fin 512) : k0_pay436 (k0_pay140 (k0_pay5 x g) w) (ix3 0 i r) = Spec.z A b (p + r.val) ⟨off + (128 + i.val), by omega⟩ := by
  refine Eq.trans ?_ (sum_eq hx hg (fun d => w (ix2 d ⟨128 + i.val, by omega⟩)) _ (fun d => hw d _) r _ rfl)
  generalize k0_pay5 x g = X
  pointwise [k0_pay436, k0_pay140]

theorem vw_eq (w : Vec Ideal S1024x256 .bf16) (off : ℕ) (hoff : off + 256 ≤ 2840) (hw : ∀ (d : Fin 1024) (j : Fin 256), w (ix2 d j) = A.w d ⟨off + j.val, by omega⟩)
    (i : Fin 128) (r : Fin 512) : k0_pay456 (k0_pay203 (k0_pay5 x g) w) (ix3 0 i r) = Spec.z A b (p + r.val) ⟨off + (128 + i.val), by omega⟩ := by
  refine Eq.trans ?_ (sum_eq hx hg (fun d => w (ix2 d ⟨128 + i.val, by omega⟩)) _ (fun d => hw d _) r _ rfl)
  generalize k0_pay5 x g = X
  pointwise [k0_pay456, k0_pay203]

/-- The gates, over the weights' last 24 columns and the columns of zeros past them. -/
theorem gt_eq (w : Vec Ideal S1024x128 .bf16) (hw : ∀ (d : Fin 1024) (j : Fin 128), w (ix2 d j) = if h : 2816 + j.val < 2840 then A.w d ⟨2816 + j.val, h⟩ else (0 : EReal))
    (i : Fin 128) (r : Fin 512) : k0_pay441 (k0_pay5 x g) w (ix3 0 i r) = Ideal.logistic (if h : i.val < 24 then Spec.z A b (p + r.val) ⟨2816 + i.val, by omega⟩ else 0) := by
  have e : k0_pay441 (k0_pay5 x g) w (ix3 0 i r) = Ideal.logistic (∑ d : Fin 1024, ((k0_pay5 x g (ix2 r d) * w (ix2 d i) : EReal))) := by
    generalize k0_pay5 x g = X
    pointwise [k0_pay441]
  rw [e]
  refine congrArg Ideal.logistic ?_
  by_cases h : i.val < 24
  · rw [dif_pos h]
    exact sum_eq hx hg (fun d => w (ix2 d i)) _ (fun d => (hw d i).trans (dif_pos (by omega))) r _ rfl
  · rw [dif_neg h]
    refine Finset.sum_eq_zero fun d _ => ?_
    rw [(hw d i).trans (dif_neg (by omega))]
    exact mul_zero _

end Cert.KernelIdeal.Proj
-- ==== Proof.TraceA.lean ====
module

public import proofs.«01_k».proof.Proof.Trace
public import proofs.«01_k».proof.Proof.Gen.KernelIdeal.Frame.RunA

@[expose] public section

set_option maxRecDepth 16384

/-! The stores of a first grid point of a sequence, as the recursions of `Trace`. -/
namespace Cert.KernelIdeal.TraceA

open Idealize.ShloMosaic Cert.KernelIdeal.Gen Cert.KernelIdeal.Trace

variable {F : FTy → Type} [FloatOps F]
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2944 .bf16) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x128 .bf16) (harg18 : arg18.IsWhole) (arg19 : Memref sig .tc .vmem S512x512 .bf16) (harg19 : arg19.IsWhole) (arg20 : Memref sig .tc .vmem S1x512x512 .bf16) (harg20 : arg20.IsWhole) (arg21 : Memref sig .tc .vmem S1x512x128 .bf16) (harg21 : arg21.IsWhole) (arg22 : Memref sig .tc .vmem S1x128x512 .bf16) (harg22 : arg22.IsWhole) (arg23 : Memref sig .tc .vmem S1x512x128 .bf16) (harg23 : arg23.IsWhole) (arg24 : Memref sig .tc .vmem S1x128x512 .bf16) (harg24 : arg24.IsWhole) (arg25 : Memref sig .tc .vmem S1x128x512 .f32) (harg25 : arg25.IsWhole) (arg26 : Memref sig .tc .vmem S512x256 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (arg30 : Memref sig .tc .vmem S512x512 .f32) (harg30 : arg30.IsWhole) (arg31 : Memref sig .tc .vmem S512x512 .f32) (harg31 : arg31.IsWhole) (hc0 : cond0_0 i)
    (x0 : Vec F S512x1024 .f32) (x1 : Vec F S1x1024 .f32) (x2 : Vec F S1024x2944 .bf16) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32) (x10 : Vec F S512x128 .f32) (x11 : Vec F S512x128 .f32) (x12 : Vec F S512x128 .f32) (x13 : Vec F S1x128 .f32) (x14 : Vec F S1x128 .f32) (x15 : Vec F S1x128 .f32) (x16 : Vec F S128x128 .bf16)

/-- The gated output's stores. -/
theorem stores_y : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).1 = listY (readsOf (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2)) (View.readAt (Elt F) arg5.view (Rect.unit (s := S4x512) ![3, 0] S1x512.size inb_S4x512_S1x512_3_0).toLoadRect (harg5.unread x3)) (View.readAt (Elt F) arg5.view (Rect.unit (s := S4x512) ![2, 0] S1x512.size inb_S4x512_S1x512_2_0).toLoadRect (harg5.unread x3)) (View.readAt (Elt F) arg5.view (Rect.unit (s := S4x512) ![1, 0] S1x512.size inb_S4x512_S1x512_1_0).toLoadRect (harg5.unread x3)) (View.readAt (Elt F) arg5.view (Rect.unit (s := S4x512) ![0, 0] S1x512.size inb_S4x512_S1x512_0_0).toLoadRect (harg5.unread x3)) (View.readAt (Elt F) arg6.view (Rect.unit (s := S1x512) ![0, 0] S1x512.size inb_S1x512_S1x512_0_0).toLoadRect (harg6.unread x4)) (View.readAt (Elt F) arg7.view (Rect.unit (s := S512x512) ![0, 0] S256x256.size inb_S512x512_S256x256_0_0).toLoadRect (harg7.unread x5)) (View.readAt (Elt F) arg7.view (Rect.unit (s := S512x512) ![256, 256] S256x256.size inb_S512x512_S256x256_256_256).toLoadRect (harg7.unread x5)) (View.readAt (Elt F) arg8.view (Rect.unit (s := S1x512) ![0, 0] S1x512.size inb_S1x512_S1x512_0_0).toLoadRect (harg8.unread x6)) (View.readAt (Elt F) arg9.view (Rect.unit (s := S512x512) ![0, 0] S256x256.size inb_S512x512_S256x256_0_0).toLoadRect (harg9.unread x7)) (View.readAt (Elt F) arg9.view (Rect.unit (s := S512x512) ![256, 256] S256x256.size inb_S512x512_S256x256_256_256).toLoadRect (harg9.unread x7)) (View.readAt (Elt F) arg10.view (Rect.unit (s := S1x512) ![0, 0] S1x512.size inb_S1x512_S1x512_0_0).toLoadRect (harg10.unread x8)) (View.readAt (Elt F) arg11.view (Rect.unit (s := S1x512) ![0, 0] S1x512.size inb_S1x512_S1x512_0_0).toLoadRect (harg11.unread x9)) (arg28.view.readCov [⟨Rect.unit ![0, 0] S8x512.size inb_S8x512_S8x512_0_0, k0_pay3⟩] (Rect.unit ![0, 0] S8x512.size inb_S8x512_S8x512_0_0).toLoadRect) (arg29.view.readCov [⟨Rect.unit ![0, 0] S8x512.size inb_S8x512_S8x512_0_0, k0_pay4⟩] (Rect.unit ![0, 0] S8x512.size inb_S8x512_S8x512_0_0).toLoadRect)) arg30 arg31 16 (Nat.le_refl 16) := by
  sl_kernel_rfl

/-- The rows kept for the next point: the store on top. -/
theorem stores_tail : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).2.2.2.2.2.2.2.2.2.1 = ⟨Rect.unit ![0, 0] S8x512.size inb_S8x512_S8x512_0_0, k0_pay15 (k0_pay14 (k0_pay7 (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2))))⟩ :: [⟨Rect.unit ![0, 0] S8x512.size inb_S8x512_S8x512_0_0, k0_pay3⟩] := by
  sl_kernel_rfl

/-- The state kept for the next point: the store on top. -/
theorem stores_state : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16).2.2.2.2.2.2.2.2.2.2.1 = ⟨Rect.unit ![0, 0] S8x512.size inb_S8x512_S8x512_0_0, shapeCast S8x512 (groups (readsOf (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2)) (View.readAt (Elt F) arg5.view (Rect.unit (s := S4x512) ![3, 0] S1x512.size inb_S4x512_S1x512_3_0).toLoadRect (harg5.unread x3)) (View.readAt (Elt F) arg5.view (Rect.unit (s := S4x512) ![2, 0] S1x512.size inb_S4x512_S1x512_2_0).toLoadRect (harg5.unread x3)) (View.readAt (Elt F) arg5.view (Rect.unit (s := S4x512) ![1, 0] S1x512.size inb_S4x512_S1x512_1_0).toLoadRect (harg5.unread x3)) (View.readAt (Elt F) arg5.view (Rect.unit (s := S4x512) ![0, 0] S1x512.size inb_S4x512_S1x512_0_0).toLoadRect (harg5.unread x3)) (View.readAt (Elt F) arg6.view (Rect.unit (s := S1x512) ![0, 0] S1x512.size inb_S1x512_S1x512_0_0).toLoadRect (harg6.unread x4)) (View.readAt (Elt F) arg7.view (Rect.unit (s := S512x512) ![0, 0] S256x256.size inb_S512x512_S256x256_0_0).toLoadRect (harg7.unread x5)) (View.readAt (Elt F) arg7.view (Rect.unit (s := S512x512) ![256, 256] S256x256.size inb_S512x512_S256x256_256_256).toLoadRect (harg7.unread x5)) (View.readAt (Elt F) arg8.view (Rect.unit (s := S1x512) ![0, 0] S1x512.size inb_S1x512_S1x512_0_0).toLoadRect (harg8.unread x6)) (View.readAt (Elt F) arg9.view (Rect.unit (s := S512x512) ![0, 0] S256x256.size inb_S512x512_S256x256_0_0).toLoadRect (harg9.unread x7)) (View.readAt (Elt F) arg9.view (Rect.unit (s := S512x512) ![256, 256] S256x256.size inb_S512x512_S256x256_256_256).toLoadRect (harg9.unread x7)) (View.readAt (Elt F) arg10.view (Rect.unit (s := S1x512) ![0, 0] S1x512.size inb_S1x512_S1x512_0_0).toLoadRect (harg10.unread x8)) (View.readAt (Elt F) arg11.view (Rect.unit (s := S1x512) ![0, 0] S1x512.size inb_S1x512_S1x512_0_0).toLoadRect (harg11.unread x9)) (arg28.view.readCov [⟨Rect.unit ![0, 0] S8x512.size inb_S8x512_S8x512_0_0, k0_pay3⟩] (Rect.unit ![0, 0] S8x512.size inb_S8x512_S8x512_0_0).toLoadRect) (arg29.view.readCov [⟨Rect.unit ![0, 0] S8x512.size inb_S8x512_S8x512_0_0, k0_pay4⟩] (Rect.unit ![0, 0] S8x512.size inb_S8x512_S8x512_0_0).toLoadRect)) arg30 arg31 64 (Nat.le_refl 64)).2 shapeCasts_S8x512_S8x512⟩ :: [⟨Rect.unit ![0, 0] S8x512.size inb_S8x512_S8x512_0_0, k0_pay4⟩] := by
  sl_kernel_rfl

end Cert.KernelIdeal.TraceA
-- ==== Proof.TraceB.lean ====
module

public import proofs.«01_k».proof.Proof.Trace
public import proofs.«01_k».proof.Proof.Gen.KernelIdeal.Frame.RunB

@[expose] public section

set_option maxRecDepth 16384

/-! The stores of a later grid point of a sequence, as the recursions of `Trace`. -/
namespace Cert.KernelIdeal.TraceB

open Idealize.ShloMosaic Cert.KernelIdeal.Gen Cert.KernelIdeal.Trace

variable {F : FTy → Type} [FloatOps F]
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2944 .bf16) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x128 .bf16) (harg18 : arg18.IsWhole) (arg19 : Memref sig .tc .vmem S512x512 .bf16) (harg19 : arg19.IsWhole) (arg20 : Memref sig .tc .vmem S1x512x512 .bf16) (harg20 : arg20.IsWhole) (arg21 : Memref sig .tc .vmem S1x512x128 .bf16) (harg21 : arg21.IsWhole) (arg22 : Memref sig .tc .vmem S1x128x512 .bf16) (harg22 : arg22.IsWhole) (arg23 : Memref sig .tc .vmem S1x512x128 .bf16) (harg23 : arg23.IsWhole) (arg24 : Memref sig .tc .vmem S1x128x512 .bf16) (harg24 : arg24.IsWhole) (arg25 : Memref sig .tc .vmem S1x128x512 .f32) (harg25 : arg25.IsWhole) (arg26 : Memref sig .tc .vmem S512x256 .f32) (harg26 : arg26.IsWhole) (arg27 : Memref sig .tc .vmem S512x512 .f32) (harg27 : arg27.IsWhole) (arg28 : Memref sig .tc .vmem S8x512 .f32) (harg28 : arg28.IsWhole) (arg29 : Memref sig .tc .vmem S8x512 .f32) (harg29 : arg29.IsWhole) (arg30 : Memref sig .tc .vmem S512x512 .f32) (harg30 : arg30.IsWhole) (arg31 : Memref sig .tc .vmem S512x512 .f32) (harg31 : arg31.IsWhole) (hc0 : ¬cond0_0 i)
    (x0 : Vec F S512x1024 .f32) (x1 : Vec F S1x1024 .f32) (x2 : Vec F S1024x2944 .bf16) (x3 : Vec F S4x512 .f32) (x4 : Vec F S1x512 .f32) (x5 : Vec F S512x512 .bf16) (x6 : Vec F S1x512 .f32) (x7 : Vec F S512x512 .bf16) (x8 : Vec F S1x512 .f32) (x9 : Vec F S1x512 .f32) (x10 : Vec F S512x128 .f32) (x11 : Vec F S512x128 .f32) (x12 : Vec F S512x128 .f32) (x13 : Vec F S1x128 .f32) (x14 : Vec F S1x128 .f32) (x15 : Vec F S1x128 .f32) (x16 : Vec F S128x128 .bf16) (xs0 : Vec F S8x512 .f32) (xs1 : Vec F S8x512 .f32)

/-- The gated output's stores. -/
theorem stores_y : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xs0 xs1).1 = listY (readsOf (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2)) (View.readAt (Elt F) arg5.view (Rect.unit (s := S4x512) ![3, 0] S1x512.size inb_S4x512_S1x512_3_0).toLoadRect (harg5.unread x3)) (View.readAt (Elt F) arg5.view (Rect.unit (s := S4x512) ![2, 0] S1x512.size inb_S4x512_S1x512_2_0).toLoadRect (harg5.unread x3)) (View.readAt (Elt F) arg5.view (Rect.unit (s := S4x512) ![1, 0] S1x512.size inb_S4x512_S1x512_1_0).toLoadRect (harg5.unread x3)) (View.readAt (Elt F) arg5.view (Rect.unit (s := S4x512) ![0, 0] S1x512.size inb_S4x512_S1x512_0_0).toLoadRect (harg5.unread x3)) (View.readAt (Elt F) arg6.view (Rect.unit (s := S1x512) ![0, 0] S1x512.size inb_S1x512_S1x512_0_0).toLoadRect (harg6.unread x4)) (View.readAt (Elt F) arg7.view (Rect.unit (s := S512x512) ![0, 0] S256x256.size inb_S512x512_S256x256_0_0).toLoadRect (harg7.unread x5)) (View.readAt (Elt F) arg7.view (Rect.unit (s := S512x512) ![256, 256] S256x256.size inb_S512x512_S256x256_256_256).toLoadRect (harg7.unread x5)) (View.readAt (Elt F) arg8.view (Rect.unit (s := S1x512) ![0, 0] S1x512.size inb_S1x512_S1x512_0_0).toLoadRect (harg8.unread x6)) (View.readAt (Elt F) arg9.view (Rect.unit (s := S512x512) ![0, 0] S256x256.size inb_S512x512_S256x256_0_0).toLoadRect (harg9.unread x7)) (View.readAt (Elt F) arg9.view (Rect.unit (s := S512x512) ![256, 256] S256x256.size inb_S512x512_S256x256_256_256).toLoadRect (harg9.unread x7)) (View.readAt (Elt F) arg10.view (Rect.unit (s := S1x512) ![0, 0] S1x512.size inb_S1x512_S1x512_0_0).toLoadRect (harg10.unread x8)) (View.readAt (Elt F) arg11.view (Rect.unit (s := S1x512) ![0, 0] S1x512.size inb_S1x512_S1x512_0_0).toLoadRect (harg11.unread x9)) (View.readAt (Elt F) arg28.view (Rect.unit (s := S8x512) ![0, 0] S8x512.size inb_S8x512_S8x512_0_0).toLoadRect (harg28.unread xs0)) (View.readAt (Elt F) arg29.view (Rect.unit (s := S8x512) ![0, 0] S8x512.size inb_S8x512_S8x512_0_0).toLoadRect (harg29.unread xs1))) arg30 arg31 16 (Nat.le_refl 16) := by
  sl_kernel_rfl

/-- The rows kept for the next point: the store on top. -/
theorem stores_tail : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xs0 xs1).2.2.2.2.2.2.2.2.2.1 = ⟨Rect.unit ![0, 0] S8x512.size inb_S8x512_S8x512_0_0, k0_pay15 (k0_pay14 (k0_pay7 (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2))))⟩ :: [] := by
  sl_kernel_rfl

/-- The state kept for the next point: the store on top. -/
theorem stores_state : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 xs0 xs1).2.2.2.2.2.2.2.2.2.2.1 = ⟨Rect.unit ![0, 0] S8x512.size inb_S8x512_S8x512_0_0, shapeCast S8x512 (groups (readsOf (View.readAt (Elt F) arg2.view (Rect.unit (s := S512x1024) ![0, 0] S512x1024.size inb_S512x1024_S512x1024_0_0).toLoadRect (harg2.unread x0)) (View.readAt (Elt F) arg3.view (Rect.unit (s := S1x1024) ![0, 0] S1x1024.size inb_S1x1024_S1x1024_0_0).toLoadRect (harg3.unread x1)) (View.readAt (Elt F) arg4.view (Rect.unit (s := S1024x2944) ![0, 0] S1024x1024.size inb_S1024x2944_S1024x1024_0_0).toLoadRect (harg4.unread x2)) (View.readAt (Elt F) arg5.view (Rect.unit (s := S4x512) ![3, 0] S1x512.size inb_S4x512_S1x512_3_0).toLoadRect (harg5.unread x3)) (View.readAt (Elt F) arg5.view (Rect.unit (s := S4x512) ![2, 0] S1x512.size inb_S4x512_S1x512_2_0).toLoadRect (harg5.unread x3)) (View.readAt (Elt F) arg5.view (Rect.unit (s := S4x512) ![1, 0] S1x512.size inb_S4x512_S1x512_1_0).toLoadRect (harg5.unread x3)) (View.readAt (Elt F) arg5.view (Rect.unit (s := S4x512) ![0, 0] S1x512.size inb_S4x512_S1x512_0_0).toLoadRect (harg5.unread x3)) (View.readAt (Elt F) arg6.view (Rect.unit (s := S1x512) ![0, 0] S1x512.size inb_S1x512_S1x512_0_0).toLoadRect (harg6.unread x4)) (View.readAt (Elt F) arg7.view (Rect.unit (s := S512x512) ![0, 0] S256x256.size inb_S512x512_S256x256_0_0).toLoadRect (harg7.unread x5)) (View.readAt (Elt F) arg7.view (Rect.unit (s := S512x512) ![256, 256] S256x256.size inb_S512x512_S256x256_256_256).toLoadRect (harg7.unread x5)) (View.readAt (Elt F) arg8.view (Rect.unit (s := S1x512) ![0, 0] S1x512.size inb_S1x512_S1x512_0_0).toLoadRect (harg8.unread x6)) (View.readAt (Elt F) arg9.view (Rect.unit (s := S512x512) ![0, 0] S256x256.size inb_S512x512_S256x256_0_0).toLoadRect (harg9.unread x7)) (View.readAt (Elt F) arg9.view (Rect.unit (s := S512x512) ![256, 256] S256x256.size inb_S512x512_S256x256_256_256).toLoadRect (harg9.unread x7)) (View.readAt (Elt F) arg10.view (Rect.unit (s := S1x512) ![0, 0] S1x512.size inb_S1x512_S1x512_0_0).toLoadRect (harg10.unread x8)) (View.readAt (Elt F) arg11.view (Rect.unit (s := S1x512) ![0, 0] S1x512.size inb_S1x512_S1x512_0_0).toLoadRect (harg11.unread x9)) (View.readAt (Elt F) arg28.view (Rect.unit (s := S8x512) ![0, 0] S8x512.size inb_S8x512_S8x512_0_0).toLoadRect (harg28.unread xs0)) (View.readAt (Elt F) arg29.view (Rect.unit (s := S8x512) ![0, 0] S8x512.size inb_S8x512_S8x512_0_0).toLoadRect (harg29.unread xs1))) arg30 arg31 64 (Nat.le_refl 64)).2 shapeCasts_S8x512_S8x512⟩ :: [] := by
  sl_kernel_rfl

end Cert.KernelIdeal.TraceB
-- ==== Proof.Grid.lean ====
module

public import proofs.«01_k».proof.Proof.Reads
public import proofs.«01_k».proof.Proof.Proj
public import proofs.«01_k».proof.Proof.TraceA
public import proofs.«01_k».proof.Proof.TraceB

@[expose] public section

set_option maxRecDepth 16384

/-! What every grid point leaves: the rows of the recurrence and the projections, and the two buffers it hands to the next point. -/
namespace Cert.KernelIdeal.Grid

open Idealize.ShloMosaic Cert.KernelIdeal.Gen Cert.KernelIdeal.Trace Cert.KernelIdeal.Front Idealize.ShloMosaic.TcCoe

variable (m : (ℓ : Loc nD τ sig) → Buf (Elt Ideal) ℓ) (c : Dev nD) (t : Fin cfg0.N)

/-- A store over all of a buffer is what the buffer holds. -/
theorem canon_whole {s : Shape} {e : EltTy} (off : Fin s.rank → ℕ) (h0 : ∀ a, off a = 0) (inb : ∀ a, off a + s.size a ≤ s.size a)
    (w : (Rect.unit off s.size inb).shape.Idx → Elt Ideal e) (L : List (View.Piece (Elt Ideal) s e)) (y : s.Idx) :
    View.canon (⟨Rect.unit off s.size inb, w⟩ :: L) y = w y := by
  have h : (Rect.unit off s.size inb).emb y = y := by
    funext a
    refine Fin.ext ?_
    show off a + 1 * (y a).val = (y a).val
    rw [h0 a]; omega
  exact (congrArg (View.canon (⟨Rect.unit off s.size inb, w⟩ :: L)) h.symm).trans (View.canon_cons_emb _ w L y)

theorem off2 : ∀ a : Fin 2, (![0, 0] : Fin 2 → ℕ) a = 0 := by decide
theorem off3 : ∀ a : Fin 3, (![0, 0, 0] : Fin 3 → ℕ) a = 0 := by decide

/-- The carried rows a point starts from. -/
def TailOk (tail : Vec Ideal S8x512 .f32) : Prop :=
  ∀ (k : Fin 8) (j : Fin 512), tail (ix2 k j) = if 8 ≤ pos t + k.val then Spec.rgx (args m c) (seq t) (pos t + k.val - 8) j else (0 : EReal)

/-- The state a point starts from. -/
def StateOk (h0 : Vec Ideal S8x512 .f32) : Prop :=
  ∀ (k : Fin 8) (j : Fin 512), h0 (ix2 k j) = Spec.state (args m c) (seq t) j (pos t)

/-- What a point leaves. -/
structure Left (o : Outs Ideal) : Prop where
  ya : ∀ r j : Fin 512, o.1 (ix2 r j) = Spec.ya (args m c) (seq t) (pos t + r.val) j
  vst : ∀ (i : Fin 128) (r : Fin 512), o.2.2.2.1 (ix3 0 i r) = Spec.z (args m c) (seq t) (pos t + r.val) ⟨1920 + i.val, by omega⟩
  vwt : ∀ (i : Fin 128) (r : Fin 512), o.2.2.2.2.2.1 (ix3 0 i r) = Spec.z (args m c) (seq t) (pos t + r.val) ⟨2176 + i.val, by omega⟩
  gt : ∀ (i : Fin 128) (r : Fin 512), o.2.2.2.2.2.2.1 (ix3 0 i r) =
    Ideal.logistic (if h : i.val < 24 then Spec.z (args m c) (seq t) (pos t + r.val) ⟨2816 + i.val, by omega⟩ else 0)
  kcvc : ∀ (r : Fin 512) (j : Fin 256), o.2.2.2.2.2.2.2.1 (ix2 r j) = Spec.z (args m c) (seq t) (pos t + r.val) ⟨1536 + j.val, by omega⟩
  ng : ∀ (r : Fin 512) (j : Fin 512), o.2.2.2.2.2.2.2.2.1 (ix2 r j) = Spec.z (args m c) (seq t) (pos t + r.val) ⟨2304 + j.val, by omega⟩
  tail : ∀ (k : Fin 8) (j : Fin 512), o.2.2.2.2.2.2.2.2.2.1 (ix2 k j) = Spec.rgx (args m c) (seq t) (pos t + 504 + k.val) j
  state : ∀ (k : Fin 8) (j : Fin 512), o.2.2.2.2.2.2.2.2.2.2 (ix2 k j) = Spec.state (args m c) (seq t) j (pos t + 512)

theorem cols256 (off : ℕ) (hoff : off + 256 ≤ 2840) (inb : ∀ a, (![0, off] : Fin 2 → ℕ) a + (![1024, 256] : Fin 2 → ℕ) a ≤ (⟨2, ![1024, 2944]⟩ : Shape).size a) (d : Fin 1024) (j : Fin 256) :
    View.readAt (Elt Ideal) (ms0_2 t).view (Rect.unit (s := ⟨2, ![1024, 2944]⟩) ![0, off] ![1024, 256] inb).toLoadRect ((hs0_2 t).unread (iblk m c 2 t)) (ix2 d j) =
      (args m c).w d ⟨off + j.val, by omega⟩ :=
  (cols_eq m c t 256 off inb d j (by omega)).trans (dif_pos (by omega))

/-- The stores of the projections' blocks. -/
theorem vst_of (r : Fin 512) (i : Fin 128) (L : List (View.Piece (Elt Ideal) S1x128x512 .bf16)) (inb)
    (hL : L = [⟨Rect.unit (s := S1x128x512) ![0, 0, 0] S1x128x512.size inb, k0_pay436 (k0_pay140 (k0_pay5 (rx m c t) (rg m c t)) (rw1792 m c t))⟩]) :
    View.canon L (ix3 0 i r : S1x128x512.Idx) = Spec.z (args m c) (seq t) (pos t + r.val) ⟨1920 + i.val, by omega⟩ := by
  subst hL
  refine (canon_whole (s := S1x128x512) _ off3 _ _ _ _).trans ?_
  refine (Proj.vs_eq (rx_eq m c t) (rg_eq m c t) _ 1792 (by omega) (cols256 m c t 1792 (by omega) _) i r).trans ?_
  exact congrArg (Spec.z (args m c) (seq t) (pos t + r.val)) (Fin.ext (by show 1792 + (128 + i.val) = 1920 + i.val; omega))

theorem vwt_of (r : Fin 512) (i : Fin 128) (L : List (View.Piece (Elt Ideal) S1x128x512 .bf16)) (inb)
    (hL : L = [⟨Rect.unit (s := S1x128x512) ![0, 0, 0] S1x128x512.size inb, k0_pay456 (k0_pay203 (k0_pay5 (rx m c t) (rg m c t)) (rw2048 m c t))⟩]) :
    View.canon L (ix3 0 i r : S1x128x512.Idx) = Spec.z (args m c) (seq t) (pos t + r.val) ⟨2176 + i.val, by omega⟩ := by
  subst hL
  refine (canon_whole (s := S1x128x512) _ off3 _ _ _ _).trans ?_
  refine (Proj.vw_eq (rx_eq m c t) (rg_eq m c t) _ 2048 (by omega) (cols256 m c t 2048 (by omega) _) i r).trans ?_
  exact congrArg (Spec.z (args m c) (seq t) (pos t + r.val)) (Fin.ext (by show 2048 + (128 + i.val) = 2176 + i.val; omega))

theorem gt_of (r : Fin 512) (i : Fin 128) (L : List (View.Piece (Elt Ideal) S1x128x512 .f32)) (inb)
    (hL : L = [⟨Rect.unit (s := S1x128x512) ![0, 0, 0] S1x128x512.size inb, k0_pay441 (k0_pay5 (rx m c t) (rg m c t)) (rw2816 m c t)⟩]) :
    View.canon L (ix3 0 i r : S1x128x512.Idx) =
      Ideal.logistic (if h : i.val < 24 then Spec.z (args m c) (seq t) (pos t + r.val) ⟨2816 + i.val, by omega⟩ else 0) := by
  subst hL
  refine (canon_whole (s := S1x128x512) _ off3 _ _ _ _).trans ?_
  exact Proj.gt_eq (rx_eq m c t) (rg_eq m c t) _ (fun d j => cols_eq m c t 128 2816 _ d j (by omega)) i r

theorem kcvc_of (r : Fin 512) (j : Fin 256) (L : List (View.Piece (Elt Ideal) S512x256 .f32)) (inb)
    (hL : L = [⟨Rect.unit (s := S512x256) ![0, 0] S512x256.size inb, k0_pay266 (k0_pay5 (rx m c t) (rg m c t)) (rw1536 m c t)⟩]) :
    View.canon L (ix2 r j : S512x256.Idx) = Spec.z (args m c) (seq t) (pos t + r.val) ⟨1536 + j.val, by omega⟩ := by
  subst hL
  refine (canon_whole (s := S512x256) _ off2 _ _ _ _).trans ?_
  exact Proj.flat_eq (rx_eq m c t) (rg_eq m c t) _ 1536 (by omega) (cols256 m c t 1536 (by omega) _) r j

theorem ng_of (r : Fin 512) (j : Fin 512) (L : List (View.Piece (Elt Ideal) S512x512 .f32)) (inb inb')
    (hL : L = [⟨Rect.unit (s := S512x512) ![0, 256] S512x256.size inb', k0_pay428 (k0_pay5 (rx m c t) (rg m c t)) (rw2560 m c t)⟩,
      ⟨Rect.unit (s := S512x512) ![0, 0] S512x256.size inb, k0_pay349 (k0_pay5 (rx m c t) (rg m c t)) (rw2304 m c t)⟩]) :
    View.canon L (ix2 r j : S512x512.Idx) = Spec.z (args m c) (seq t) (pos t + r.val) ⟨2304 + j.val, by omega⟩ := by
  subst hL
  by_cases h : j.val < 256
  · refine (View.canon_cons_of_not_mem _ _ ?_).trans ?_
    · intro hm
      have := ((Rect.mem_set_unit (inb := inb')).1 hm 1).1
      have : 256 ≤ j.val := this
      omega
    · have e : (ix2 r j : S512x512.Idx) = (Rect.unit (s := S512x512) ![0, 0] S512x256.size inb).emb (ix2 r ⟨j.val, h⟩ : S512x256.Idx) := by
        funext a
        refine Fin.ext ?_
        fin_cases a
        · show r.val = 0 + 1 * r.val
          omega
        · show j.val = 0 + 1 * j.val
          omega
      rw [e]
      refine (View.canon_cons_emb _ _ _ _).trans ?_
      exact Proj.low_eq (rx_eq m c t) (rg_eq m c t) _ 2304 (by omega) (cols256 m c t 2304 (by omega) _) r ⟨j.val, h⟩
  · have e : (ix2 r j : S512x512.Idx) = (Rect.unit (s := S512x512) ![0, 256] S512x256.size inb').emb (ix2 r ⟨j.val - 256, by omega⟩ : S512x256.Idx) := by
      funext a
      refine Fin.ext ?_
      fin_cases a
      · show r.val = 0 + 1 * r.val
        omega
      · show j.val = 256 + 1 * (j.val - 256)
        omega
    rw [e]
    refine (View.canon_cons_emb _ _ _ _).trans ?_
    refine (Proj.high_eq (rx_eq m c t) (rg_eq m c t) _ 2560 (by omega) (cols256 m c t 2560 (by omega) _) r ⟨j.val - 256, by omega⟩).trans ?_
    exact congrArg (Spec.z (args m c) (seq t) (pos t + r.val)) (Fin.ext (by show 2560 + (j.val - 256) = 2304 + j.val; omega))

theorem tail_of (k : Fin 8) (j : Fin 512) (L L' : List (View.Piece (Elt Ideal) S8x512 .f32)) (inb)
    (hL : L = ⟨Rect.unit (s := S8x512) ![0, 0] S8x512.size inb, k0_pay15 (k0_pay14 (k0_pay7 (rx m c t) (rg m c t) (rwx m c t)))⟩ :: L') :
    View.canon L (ix2 k j : S8x512.Idx) = Spec.rgx (args m c) (seq t) (pos t + 504 + k.val) j := by
  subst hL
  exact (canon_whole (s := S8x512) _ off2 _ _ _ _).trans (Point.kept_eq (rx_eq m c t) (rg_eq m c t) (rwx_eq m c t) k j)

/-- The recurrent part's reads. -/
noncomputable abbrev reads (tail h0 : Vec Ideal S8x512 .f32) : Reads Ideal :=
  readsOf (rx m c t) (rg m c t) (rwx m c t) (rc3 m c t) (rc2 m c t) (rc1 m c t) (rc0 m c t) (rcb m c t)
      (rr0 m c t) (rr1 m c t) (rbr m c t) (ri0 m c t) (ri1 m c t) (rbi m c t) (rlam m c t) tail h0

theorem cast8 (x : Vec Ideal S8x512 .f32) (k : Fin 8) (j : Fin 512) : shapeCast S8x512 x shapeCasts_S8x512_S8x512 (ix2 k j) = x (ix2 k j) := by
  pointwise

theorem state_of (tail h0 : Vec Ideal S8x512 .f32) (ht : TailOk m c t tail) (hh : StateOk m c t h0) (ma mu : Memref sig .tc .vmem S512x512 .f32)
    (k : Fin 8) (j : Fin 512) (L L' : List (View.Piece (Elt Ideal) S8x512 .f32)) (inb)
    (hL : L = ⟨Rect.unit (s := S8x512) ![0, 0] S8x512.size inb, shapeCast S8x512 (groups (reads m c t tail h0) ma mu 64 (Nat.le_refl 64)).2 shapeCasts_S8x512_S8x512⟩ :: L') :
    View.canon L (ix2 k j : S8x512.Idx) = Spec.state (args m c) (seq t) j (pos t + 512) := by
  subst hL
  refine (canon_whole (s := S8x512) _ off2 _ _ _ _).trans ((cast8 _ k j).trans ?_)
  exact Point.state_eq (given m c t tail h0 ht hh) ma mu k j

theorem y_of (tail h0 : Vec Ideal S8x512 .f32) (ht : TailOk m c t tail) (hh : StateOk m c t h0) (ma mu : Memref sig .tc .vmem S512x512 .f32)
    (r j : Fin 512) (L : List (View.Piece (Elt Ideal) S512x512 .bf16)) (hL : L = listY (reads m c t tail h0) ma mu 16 (Nat.le_refl 16)) :
    View.canon L (ix2 r j : S512x512.Idx) = Spec.ya (args m c) (seq t) (pos t + r.val) j := by
  subst hL
  exact Point.y_eq (given m c t tail h0 ht hh) ma mu r j

/-- The carried buffers of a sequence's first point: zeros. -/
noncomputable abbrev zTail : Vec Ideal S8x512 .f32 := scM0_0.view.readCov [⟨Rect.unit (s := S8x512) ![0, 0] S8x512.size inb_S8x512_S8x512_0_0, k0_pay3 (F := Ideal)⟩]
  (Rect.unit (s := S8x512) ![0, 0] S8x512.size inb_S8x512_S8x512_0_0).toLoadRect
noncomputable abbrev zState : Vec Ideal S8x512 .f32 := scM0_1.view.readCov [⟨Rect.unit (s := S8x512) ![0, 0] S8x512.size inb_S8x512_S8x512_0_0, k0_pay4 (F := Ideal)⟩]
  (Rect.unit (s := S8x512) ![0, 0] S8x512.size inb_S8x512_S8x512_0_0).toLoadRect

theorem zTail_ok (h0 : t.val % 16 = 0) : TailOk m c t zTail := by
  intro k j
  have hp : pos t = 0 := by unfold pos; omega
  rw [if_neg (by omega)]
  refine (congrFun (View.readCov_cons_toLoadRect (Val := Elt Ideal) scM0_0.view (Rect.unit (s := S8x512) ![0, 0] S8x512.size inb_S8x512_S8x512_0_0) (k0_pay3 (F := Ideal)) []) (ix2 k j)).trans ?_
  pointwise [k0_pay3]

theorem zState_ok (h0 : t.val % 16 = 0) : StateOk m c t zState := by
  intro k j
  have hp : pos t = 0 := by unfold pos; omega
  rw [hp]
  refine (congrFun (View.readCov_cons_toLoadRect (Val := Elt Ideal) scM0_1.view (Rect.unit (s := S8x512) ![0, 0] S8x512.size inb_S8x512_S8x512_0_0) (k0_pay4 (F := Ideal)) []) (ix2 k j)).trans ?_
  show k0_pay4 (F := Ideal) (ix2 k j) = (0 : EReal)
  pointwise [k0_pay4]

/-! The projections' stores. -/

theorem storesA_vst (h0 : t.val % 16 = 0) : (runA m c t h0).2.2.2.1 = [⟨Rect.unit (s := S1x128x512) ![0, 0, 0] S1x128x512.size inb_S1x128x512_S1x128x512_0_0_0, k0_pay436 (k0_pay140 (k0_pay5 (rx m c t) (rg m c t)) (rw1792 m c t))⟩] := by
  sl_kernel_rfl
theorem storesA_vwt (h0 : t.val % 16 = 0) : (runA m c t h0).2.2.2.2.2.1 = [⟨Rect.unit (s := S1x128x512) ![0, 0, 0] S1x128x512.size inb_S1x128x512_S1x128x512_0_0_0, k0_pay456 (k0_pay203 (k0_pay5 (rx m c t) (rg m c t)) (rw2048 m c t))⟩] := by
  sl_kernel_rfl
theorem storesA_gt (h0 : t.val % 16 = 0) : (runA m c t h0).2.2.2.2.2.2.1 = [⟨Rect.unit (s := S1x128x512) ![0, 0, 0] S1x128x512.size inb_S1x128x512_S1x128x512_0_0_0, k0_pay441 (k0_pay5 (rx m c t) (rg m c t)) (rw2816 m c t)⟩] := by
  sl_kernel_rfl
theorem storesA_kcvc (h0 : t.val % 16 = 0) : (runA m c t h0).2.2.2.2.2.2.2.1 = [⟨Rect.unit (s := S512x256) ![0, 0] S512x256.size inb_S512x256_S512x256_0_0, k0_pay266 (k0_pay5 (rx m c t) (rg m c t)) (rw1536 m c t)⟩] := by
  sl_kernel_rfl
theorem storesA_ng (h0 : t.val % 16 = 0) : (runA m c t h0).2.2.2.2.2.2.2.2.1 = [⟨Rect.unit (s := S512x512) ![0, 256] S512x256.size inb_S512x512_S512x256_0_256, k0_pay428 (k0_pay5 (rx m c t) (rg m c t)) (rw2560 m c t)⟩,
      ⟨Rect.unit (s := S512x512) ![0, 0] S512x256.size inb_S512x512_S512x256_0_0, k0_pay349 (k0_pay5 (rx m c t) (rg m c t)) (rw2304 m c t)⟩] := by
  sl_kernel_rfl

/-! The recurrent part's stores. -/

theorem storesA_y (h0 : t.val % 16 = 0) : (runA m c t h0).1 = listY (reads m c t zTail zState) scM0_2 scM0_3 16 (Nat.le_refl 16) :=
  TraceA.stores_y ..
theorem storesA_tail (h0 : t.val % 16 = 0) : (runA m c t h0).2.2.2.2.2.2.2.2.2.1 =
    ⟨Rect.unit (s := S8x512) ![0, 0] S8x512.size inb_S8x512_S8x512_0_0, k0_pay15 (k0_pay14 (k0_pay7 (rx m c t) (rg m c t) (rwx m c t)))⟩ :: [⟨Rect.unit (s := S8x512) ![0, 0] S8x512.size inb_S8x512_S8x512_0_0, k0_pay3 (F := Ideal)⟩] :=
  TraceA.stores_tail ..
theorem storesA_state (h0 : t.val % 16 = 0) : (runA m c t h0).2.2.2.2.2.2.2.2.2.2.1 =
    ⟨Rect.unit (s := S8x512) ![0, 0] S8x512.size inb_S8x512_S8x512_0_0, shapeCast S8x512 (groups (reads m c t zTail zState) scM0_2 scM0_3 64 (Nat.le_refl 64)).2 shapeCasts_S8x512_S8x512⟩ :: [⟨Rect.unit (s := S8x512) ![0, 0] S8x512.size inb_S8x512_S8x512_0_0, k0_pay4 (F := Ideal)⟩] :=
  TraceA.stores_state ..

/-- A sequence's first point. -/
theorem left_A (h0 : t.val % 16 = 0) : Left m c t (outsA m c t h0) := by
  constructor
  · intro r j
    rw [outsA]
    dsimp only
    refine (View.read_writes_junk_apply_eq_canon VO0_17 (ix2 r j) (runA m c t h0).1).trans ?_
    exact y_of m c t zTail zState (zTail_ok m c t h0) (zState_ok m c t h0) scM0_2 scM0_3 r j _ (storesA_y m c t h0)
  · intro i r
    rw [outsA]
    dsimp only
    refine (View.read_writes_junk_apply_eq_canon VO0_20 (ix3 0 i r) (runA m c t h0).2.2.2.1).trans ?_
    exact vst_of m c t r i _ _ (storesA_vst m c t h0)
  · intro i r
    rw [outsA]
    dsimp only
    refine (View.read_writes_junk_apply_eq_canon VO0_22 (ix3 0 i r) (runA m c t h0).2.2.2.2.2.1).trans ?_
    exact vwt_of m c t r i _ _ (storesA_vwt m c t h0)
  · intro i r
    rw [outsA]
    dsimp only
    refine (View.read_writes_junk_apply_eq_canon VO0_23 (ix3 0 i r) (runA m c t h0).2.2.2.2.2.2.1).trans ?_
    exact gt_of m c t r i _ _ (storesA_gt m c t h0)
  · intro r j
    rw [outsA]
    dsimp only
    refine (View.read_writes_junk_apply_eq_canon VO0_24 (ix2 r j) (runA m c t h0).2.2.2.2.2.2.2.1).trans ?_
    exact kcvc_of m c t r j _ _ (storesA_kcvc m c t h0)
  · intro r j
    rw [outsA]
    dsimp only
    refine (View.read_writes_junk_apply_eq_canon VO0_25 (ix2 r j) (runA m c t h0).2.2.2.2.2.2.2.2.1).trans ?_
    exact ng_of m c t r j _ _ _ (storesA_ng m c t h0)
  · intro k j
    rw [outsA]
    dsimp only
    refine (View.read_writes_junk_apply_eq_canon VS0_0 (ix2 k j) (runA m c t h0).2.2.2.2.2.2.2.2.2.1).trans ?_
    exact tail_of m c t k j _ _ _ (storesA_tail m c t h0)
  · intro k j
    rw [outsA]
    dsimp only
    refine (View.read_writes_junk_apply_eq_canon VS0_1 (ix2 k j) (runA m c t h0).2.2.2.2.2.2.2.2.2.2.1).trans ?_
    exact state_of m c t zTail zState (zTail_ok m c t h0) (zState_ok m c t h0) scM0_2 scM0_3 k j _ _ _ (storesA_state m c t h0)

/-- The carried buffers of any other point, as it reads them. -/
noncomputable abbrev cTail (xs0 : Vec Ideal S8x512 .f32) : Vec Ideal S8x512 .f32 := View.readAt (Elt Ideal) scM0_0.view (Rect.unit (s := S8x512) ![0, 0] S8x512.size inb_S8x512_S8x512_0_0).toLoadRect
  ((Memref.isWhole_whole _ : scM0_0.IsWhole).unread xs0)
noncomputable abbrev cState (xs1 : Vec Ideal S8x512 .f32) : Vec Ideal S8x512 .f32 := View.readAt (Elt Ideal) scM0_1.view (Rect.unit (s := S8x512) ![0, 0] S8x512.size inb_S8x512_S8x512_0_0).toLoadRect
  ((Memref.isWhole_whole _ : scM0_1.IsWhole).unread xs1)

theorem cTail_ok (xs0 : Vec Ideal S8x512 .f32) (h : TailOk m c t xs0) : TailOk m c t (cTail xs0) := fun k j =>
  (read2 _ xs0 0 0 _ k j (by omega) (by omega)).trans ((congrArg xs0 (by blk_ext)).trans (h k j))
theorem cState_ok (xs1 : Vec Ideal S8x512 .f32) (h : StateOk m c t xs1) : StateOk m c t (cState xs1) := fun k j =>
  (read2 _ xs1 0 0 _ k j (by omega) (by omega)).trans ((congrArg xs1 (by blk_ext)).trans (h k j))

/-! The projections' stores. -/

theorem storesB_vst (h0 : ¬t.val % 16 = 0) (xs0 xs1 : Vec Ideal S8x512 .f32) : (runB m c t h0 xs0 xs1).2.2.2.1 = [⟨Rect.unit (s := S1x128x512) ![0, 0, 0] S1x128x512.size inb_S1x128x512_S1x128x512_0_0_0, k0_pay436 (k0_pay140 (k0_pay5 (rx m c t) (rg m c t)) (rw1792 m c t))⟩] := by
  sl_kernel_rfl
theorem storesB_vwt (h0 : ¬t.val % 16 = 0) (xs0 xs1 : Vec Ideal S8x512 .f32) : (runB m c t h0 xs0 xs1).2.2.2.2.2.1 = [⟨Rect.unit (s := S1x128x512) ![0, 0, 0] S1x128x512.size inb_S1x128x512_S1x128x512_0_0_0, k0_pay456 (k0_pay203 (k0_pay5 (rx m c t) (rg m c t)) (rw2048 m c t))⟩] := by
  sl_kernel_rfl
theorem storesB_gt (h0 : ¬t.val % 16 = 0) (xs0 xs1 : Vec Ideal S8x512 .f32) : (runB m c t h0 xs0 xs1).2.2.2.2.2.2.1 = [⟨Rect.unit (s := S1x128x512) ![0, 0, 0] S1x128x512.size inb_S1x128x512_S1x128x512_0_0_0, k0_pay441 (k0_pay5 (rx m c t) (rg m c t)) (rw2816 m c t)⟩] := by
  sl_kernel_rfl
theorem storesB_kcvc (h0 : ¬t.val % 16 = 0) (xs0 xs1 : Vec Ideal S8x512 .f32) : (runB m c t h0 xs0 xs1).2.2.2.2.2.2.2.1 = [⟨Rect.unit (s := S512x256) ![0, 0] S512x256.size inb_S512x256_S512x256_0_0, k0_pay266 (k0_pay5 (rx m c t) (rg m c t)) (rw1536 m c t)⟩] := by
  sl_kernel_rfl
theorem storesB_ng (h0 : ¬t.val % 16 = 0) (xs0 xs1 : Vec Ideal S8x512 .f32) : (runB m c t h0 xs0 xs1).2.2.2.2.2.2.2.2.1 = [⟨Rect.unit (s := S512x512) ![0, 256] S512x256.size inb_S512x512_S512x256_0_256, k0_pay428 (k0_pay5 (rx m c t) (rg m c t)) (rw2560 m c t)⟩,
      ⟨Rect.unit (s := S512x512) ![0, 0] S512x256.size inb_S512x512_S512x256_0_0, k0_pay349 (k0_pay5 (rx m c t) (rg m c t)) (rw2304 m c t)⟩] := by
  sl_kernel_rfl

/-! The recurrent part's stores. -/

theorem storesB_y (h0 : ¬t.val % 16 = 0) (xs0 xs1 : Vec Ideal S8x512 .f32) : (runB m c t h0 xs0 xs1).1 = listY (reads m c t (cTail xs0) (cState xs1)) scM0_2 scM0_3 16 (Nat.le_refl 16) :=
  TraceB.stores_y ..
theorem storesB_tail (h0 : ¬t.val % 16 = 0) (xs0 xs1 : Vec Ideal S8x512 .f32) : (runB m c t h0 xs0 xs1).2.2.2.2.2.2.2.2.2.1 =
    ⟨Rect.unit (s := S8x512) ![0, 0] S8x512.size inb_S8x512_S8x512_0_0, k0_pay15 (k0_pay14 (k0_pay7 (rx m c t) (rg m c t) (rwx m c t)))⟩ :: [] :=
  TraceB.stores_tail ..
theorem storesB_state (h0 : ¬t.val % 16 = 0) (xs0 xs1 : Vec Ideal S8x512 .f32) : (runB m c t h0 xs0 xs1).2.2.2.2.2.2.2.2.2.2.1 =
    ⟨Rect.unit (s := S8x512) ![0, 0] S8x512.size inb_S8x512_S8x512_0_0, shapeCast S8x512 (groups (reads m c t (cTail xs0) (cState xs1)) scM0_2 scM0_3 64 (Nat.le_refl 64)).2 shapeCasts_S8x512_S8x512⟩ :: [] :=
  TraceB.stores_state ..

/-- Any other point. -/
theorem left_B (h0 : ¬t.val % 16 = 0) (xs0 xs1 : Vec Ideal S8x512 .f32) (ht : TailOk m c t xs0) (hh : StateOk m c t xs1) : Left m c t (outsB m c t h0 xs0 xs1) := by
  constructor
  · intro r j
    rw [outsB]
    dsimp only
    refine (View.read_writes_junk_apply_eq_canon VO0_17 (ix2 r j) (runB m c t h0 xs0 xs1).1).trans ?_
    exact y_of m c t (cTail xs0) (cState xs1) (cTail_ok m c t xs0 ht) (cState_ok m c t xs1 hh) scM0_2 scM0_3 r j _ (storesB_y m c t h0 xs0 xs1)
  · intro i r
    rw [outsB]
    dsimp only
    refine (View.read_writes_junk_apply_eq_canon VO0_20 (ix3 0 i r) (runB m c t h0 xs0 xs1).2.2.2.1).trans ?_
    exact vst_of m c t r i _ _ (storesB_vst m c t h0 xs0 xs1)
  · intro i r
    rw [outsB]
    dsimp only
    refine (View.read_writes_junk_apply_eq_canon VO0_22 (ix3 0 i r) (runB m c t h0 xs0 xs1).2.2.2.2.2.1).trans ?_
    exact vwt_of m c t r i _ _ (storesB_vwt m c t h0 xs0 xs1)
  · intro i r
    rw [outsB]
    dsimp only
    refine (View.read_writes_junk_apply_eq_canon VO0_23 (ix3 0 i r) (runB m c t h0 xs0 xs1).2.2.2.2.2.2.1).trans ?_
    exact gt_of m c t r i _ _ (storesB_gt m c t h0 xs0 xs1)
  · intro r j
    rw [outsB]
    dsimp only
    refine (View.read_writes_junk_apply_eq_canon VO0_24 (ix2 r j) (runB m c t h0 xs0 xs1).2.2.2.2.2.2.2.1).trans ?_
    exact kcvc_of m c t r j _ _ (storesB_kcvc m c t h0 xs0 xs1)
  · intro r j
    rw [outsB]
    dsimp only
    refine (View.read_writes_junk_apply_eq_canon VO0_25 (ix2 r j) (runB m c t h0 xs0 xs1).2.2.2.2.2.2.2.2.1).trans ?_
    exact ng_of m c t r j _ _ _ (storesB_ng m c t h0 xs0 xs1)
  · intro k j
    rw [outsB]
    dsimp only
    refine (View.read_writes_junk_apply_eq_canon VS0_0 (ix2 k j) (runB m c t h0 xs0 xs1).2.2.2.2.2.2.2.2.2.1).trans ?_
    exact tail_of m c t k j _ _ _ (storesB_tail m c t h0 xs0 xs1)
  · intro k j
    rw [outsB]
    dsimp only
    refine (View.read_writes_junk_apply_eq_canon VS0_1 (ix2 k j) (runB m c t h0 xs0 xs1).2.2.2.2.2.2.2.2.2.2.1).trans ?_
    exact state_of m c t (cTail xs0) (cState xs1) (cTail_ok m c t xs0 ht) (cState_ok m c t xs1 hh) scM0_2 scM0_3 k j _ _ _ (storesB_state m c t h0 xs0 xs1)

/-- Every point. -/
theorem left : ∀ (n : ℕ) (hn : n < cfg0.N), Left m c ⟨n, hn⟩ (outsAt0 m c n hn) := by
  intro n
  induction n with
  | zero => exact fun hn => (outsAt0_A m c ⟨0, hn⟩ (Nat.zero_mod _)) ▸ left_A m c ⟨0, hn⟩ (Nat.zero_mod _)
  | succ n ih =>
    intro hn
    by_cases h0 : (n + 1) % 16 = 0
    · rw [show outsAt0 m c (n + 1) hn = outsA m c ⟨n + 1, hn⟩ h0 from outsAt0_A m c ⟨n + 1, hn⟩ h0]
      exact left_A m c ⟨n + 1, hn⟩ h0
    · rw [show outsAt0 m c (n + 1) hn = _ from outsAt0_B m c ⟨n + 1, hn⟩ h0]
      have h := ih (Nat.lt_of_succ_lt hn)
      have hs : seq ⟨n, Nat.lt_of_succ_lt hn⟩ = seq ⟨n + 1, hn⟩ := Fin.ext (by show n / 16 = (n + 1) / 16; omega)
      have hp : pos ⟨n + 1, hn⟩ = pos ⟨n, Nat.lt_of_succ_lt hn⟩ + 512 := by show 512 * ((n + 1) % 16) = 512 * (n % 16) + 512; omega
      refine left_B m c ⟨n + 1, hn⟩ h0 _ _ (fun k j => ?_) (fun k j => ?_)
      · refine (h.tail k j).trans ?_
        rw [hp, hs, if_pos (by omega)]
        congr 1
        omega
      · refine (h.state k j).trans ?_
        rw [hp, hs]

end Cert.KernelIdeal.Grid
-- ==== Proof.Final.lean ====
module

public import proofs.«01_k».proof.Proof.Grid

@[expose] public section

set_option maxRecDepth 16384

/-! The six results' arrays after the run. -/
namespace Cert.KernelIdeal.Grid

open Idealize.ShloMosaic Cert.KernelIdeal.Gen Cert.KernelIdeal.Front Idealize.ShloMosaic.TcCoe

variable (m : (ℓ : Loc nD τ sig) → Buf (Elt Ideal) ℓ) (c : Dev nD)

theorem idxR : ∀ t : Fin cfg0.N, win0_17.index t = ![t.val, 0] ∧ win0_24.index t = ![t.val, 0] ∧ win0_25.index t = ![t.val, 0] := by decide +kernel
theorem idxT : ∀ t : Fin cfg0.N, win0_20.index t = ![t.val / 16, 0, t.val % 16] ∧ win0_22.index t = ![t.val / 16, 0, t.val % 16] ∧
    win0_23.index t = ![t.val / 16, 0, t.val % 16] := by decide +kernel

/-- Two axes, at any index. -/
theorem at2 {A B : ℕ} {e : EltTy} (o : (⟨2, ![A, B]⟩ : Shape).Idx → Elt Ideal e) (f : Fin A → Fin B → Elt Ideal e) (h : ∀ r j, o (ix2 r j) = f r j)
    (y : (⟨2, ![A, B]⟩ : Shape).Idx) : o y = f (y 0) (y 1) := by
  have e : y = ix2 (y 0) (y 1) := by
    funext a
    fin_cases a <;> rfl
  exact (congrArg o e).trans (h _ _)

/-- Three axes, the first of size one, at any index. -/
theorem at3 {A B : ℕ} {e : EltTy} (o : (⟨3, ![1, A, B]⟩ : Shape).Idx → Elt Ideal e) (f : Fin A → Fin B → Elt Ideal e) (h : ∀ i r, o (ix3 0 i r) = f i r)
    (y : (⟨3, ![1, A, B]⟩ : Shape).Idx) : o y = f (y 1) (y 2) := by
  have e : y = ix3 0 (y 1) (y 2) := by
    funext a
    fin_cases a
    · exact Subsingleton.elim (α := Fin 1) _ _
    · rfl
    · rfl
  exact (congrArg o e).trans (h _ _)

/-- A row of the flattened sequences, from the grid point and the row in its block. -/
theorem row_eq (t : Fin cfg0.N) (r : ℕ) (hr : r < 512) (h : (t.val * 512 + r) / 8192 < 4) :
    seq t = ⟨(t.val * 512 + r) / 8192, h⟩ ∧ pos t + r = (t.val * 512 + r) % 8192 := by
  have ht := t_lt t
  refine ⟨Fin.ext ?_, ?_⟩
  · show t.val / 16 = (t.val * 512 + r) / 8192
    omega
  · show 512 * (t.val % 16) + r = (t.val * 512 + r) % 8192
    omega

theorem out_ya (r : Fin 32768) (j : Fin 512) : (dats m 0 c).arrAt 17 cfg0.N (ix2 r j) = Spec.ya (args m c) ⟨r.val / 8192, by omega⟩ (r.val % 8192) j := by
  have e : (dats m 0 c).arrAt 17 cfg0.N = fun y : S32768x512.Idx => Spec.ya (args m c) ⟨(y 0).val / 8192, by have : (y 0).val < 32768 := (y 0).isLt; omega⟩ ((y 0).val % 8192) (y 1) := by
    refine (dats m 0 c).arrAt_eq_of_covers 17 _ (by decide +kernel) fun t hf y => ?_
    have hj : (win0_17.blk t).view.emb y 1 = y 1 := Fin.ext (by blk_simp [idxR t])
    blk_simp [idxR t]
    rw [after0_17, hj]
    refine (at2 (A := 512) (B := 512) _ _ (left m c t.val t.isLt).ya y).trans ?_
    obtain ⟨h1, h2⟩ := row_eq t (y 0).val (y 0).isLt (by have := t_lt t; have : (y 0).val < 512 := (y 0).isLt; omega)
    rw [← h1, ← h2]
  exact congrFun e _

theorem out_kcvc (r : Fin 32768) (j : Fin 256) : (dats m 0 c).arrAt 24 cfg0.N (ix2 r j) = Spec.z (args m c) ⟨r.val / 8192, by omega⟩ (r.val % 8192) ⟨1536 + j.val, by omega⟩ := by
  have e : (dats m 0 c).arrAt 24 cfg0.N = fun y : S32768x256.Idx => Spec.z (args m c) ⟨(y 0).val / 8192, by have : (y 0).val < 32768 := (y 0).isLt; omega⟩ ((y 0).val % 8192)
      ⟨1536 + (y 1).val, by have : (y 1).val < 256 := (y 1).isLt; omega⟩ := by
    refine (dats m 0 c).arrAt_eq_of_covers 24 _ (by decide +kernel) fun t hf y => ?_
    blk_simp [idxR t]
    rw [after0_24]
    refine (at2 (A := 512) (B := 256) _ _ (left m c t.val t.isLt).kcvc y).trans ?_
    obtain ⟨h1, h2⟩ := row_eq t (y 0).val (y 0).isLt (by have := t_lt t; have : (y 0).val < 512 := (y 0).isLt; omega)
    rw [← h1, ← h2]
  exact congrFun e _

theorem out_ng (r : Fin 32768) (j : Fin 512) : (dats m 0 c).arrAt 25 cfg0.N (ix2 r j) = Spec.z (args m c) ⟨r.val / 8192, by omega⟩ (r.val % 8192) ⟨2304 + j.val, by omega⟩ := by
  have e : (dats m 0 c).arrAt 25 cfg0.N = fun y : S32768x512.Idx => Spec.z (args m c) ⟨(y 0).val / 8192, by have : (y 0).val < 32768 := (y 0).isLt; omega⟩ ((y 0).val % 8192)
      ⟨2304 + (y 1).val, by have : (y 1).val < 512 := (y 1).isLt; omega⟩ := by
    refine (dats m 0 c).arrAt_eq_of_covers 25 _ (by decide +kernel) fun t hf y => ?_
    blk_simp [idxR t]
    rw [after0_25]
    refine (at2 (A := 512) (B := 512) _ _ (left m c t.val t.isLt).ng y).trans ?_
    obtain ⟨h1, h2⟩ := row_eq t (y 0).val (y 0).isLt (by have := t_lt t; have : (y 0).val < 512 := (y 0).isLt; omega)
    rw [← h1, ← h2]
  exact congrFun e _

theorem out_vst (b : Fin 4) (j : Fin 128) (s : Fin 8192) : (dats m 0 c).arrAt 20 cfg0.N (ix3 b j s) = Spec.z (args m c) b s.val ⟨1920 + j.val, by omega⟩ := by
  have e : (dats m 0 c).arrAt 20 cfg0.N = fun y : S4x128x8192.Idx => Spec.z (args m c) (y 0) (y 2).val ⟨1920 + (y 1).val, by have : (y 1).val < 128 := (y 1).isLt; omega⟩ := by
    refine (dats m 0 c).arrAt_eq_of_covers 20 _ (by decide +kernel) fun t hf y => ?_
    have hb : (win0_20.blk t).view.emb y 0 = seq t := Fin.ext (by blk_simp [idxT t]; rfl)
    blk_simp [idxT t]
    rw [after0_20, hb, Nat.mul_comm]
    exact at3 (A := 128) (B := 512) _ _ (left m c t.val t.isLt).vst y
  exact congrFun e _

theorem out_vwt (b : Fin 4) (j : Fin 128) (s : Fin 8192) : (dats m 0 c).arrAt 22 cfg0.N (ix3 b j s) = Spec.z (args m c) b s.val ⟨2176 + j.val, by omega⟩ := by
  have e : (dats m 0 c).arrAt 22 cfg0.N = fun y : S4x128x8192.Idx => Spec.z (args m c) (y 0) (y 2).val ⟨2176 + (y 1).val, by have : (y 1).val < 128 := (y 1).isLt; omega⟩ := by
    refine (dats m 0 c).arrAt_eq_of_covers 22 _ (by decide +kernel) fun t hf y => ?_
    have hb : (win0_22.blk t).view.emb y 0 = seq t := Fin.ext (by blk_simp [idxT t]; rfl)
    blk_simp [idxT t]
    rw [after0_22, hb, Nat.mul_comm]
    exact at3 (A := 128) (B := 512) _ _ (left m c t.val t.isLt).vwt y
  exact congrFun e _

theorem out_gt (b : Fin 4) (j : Fin 128) (s : Fin 8192) : (dats m 0 c).arrAt 23 cfg0.N (ix3 b j s) =
    Ideal.logistic (if h : j.val < 24 then Spec.z (args m c) b s.val ⟨2816 + j.val, by omega⟩ else 0) := by
  have e : (dats m 0 c).arrAt 23 cfg0.N = fun y : S4x128x8192.Idx => Ideal.logistic (if h : (y 1).val < 24 then Spec.z (args m c) (y 0) (y 2).val ⟨2816 + (y 1).val, by omega⟩ else 0) := by
    refine (dats m 0 c).arrAt_eq_of_covers 23 _ (by decide +kernel) fun t hf y => ?_
    have hb : (win0_23.blk t).view.emb y 0 = seq t := Fin.ext (by blk_simp [idxT t]; rfl)
    blk_simp [idxT t]
    rw [after0_23, hb, Nat.mul_comm]
    exact at3 (A := 128) (B := 512) _ _ (left m c t.val t.isLt).gt y
  exact congrFun e _

end Cert.KernelIdeal.Grid
-- ==== Proof.SpecHeads.lean ====
module

public import proofs.«01_k».proof.Proof.Spec

@[expose] public section

/-! What the front computes for the query and the two keys: a head's 64 entries are normalised by their mean square and scaled, and the
    first 16 are rotated by an angle that grows with the position. -/
namespace Cert.Spec

open Idealize.ShloMosaic

/-- The angle of pair `d` at position `s`. -/
noncomputable def ang (s d : ℕ) : EReal :=
  FloatOps.sitofp (F := Ideal) FTy.f32 (BitVec.ofNat 32 s) * Ideal.pow (Ideal.ofBits FTy.f32 1223959552#32)
    (Ideal.div (-FloatOps.sitofp (F := Ideal) FTy.f32 (BitVec.ofNat 32 d)) (Ideal.ofBits FTy.f32 1090519040#32))

/-- A head's entry, normalised and scaled. -/
noncomputable def headNorm (v g : ℕ → EReal) (d : ℕ) : EReal :=
  v d * Ideal.rsqrt (Ideal.div (∑ k : Fin 64, v k.val * v k.val) (Ideal.ofBits FTy.f32 1115684864#32) + Ideal.ofBits FTy.f32 897988541#32) * g d

/-- The rotation. -/
noncomputable def rope (y : ℕ → EReal) (s d : ℕ) : EReal :=
  if d < 8 then y d * Ideal.cos (ang s d) - y (d + 8) * Ideal.sin (ang s d)
  else if d < 16 then y d * Ideal.cos (ang s (d - 8)) + y (d - 8) * Ideal.sin (ang s (d - 8))
  else y d

variable (A : Args) (b : Fin 4)

/-- The projection at a plain column number, and zero past the last column. -/
noncomputable def zN (s n : ℕ) : EReal := if h : n < 2840 then z A b s ⟨n, h⟩ else 0

theorem zN_of (s n : ℕ) (h : n < 2840) : zN A b s n = z A b s ⟨n, h⟩ := dif_pos h

/-- Entry `d` of the head whose first column is `off`. -/
noncomputable def headAt (off : ℕ) (g : ℕ → EReal) (s d : ℕ) : EReal := rope (headNorm (fun k => zN A b s (off + k)) g) s d

theorem eps_pos : ∃ r : ℝ, 0 < r ∧ Ideal.ofBits FTy.f32 897988541#32 = (r : EReal) := by
  refine ⟨_, ?_, by simp [Ideal.ofBits, Ideal.ieee, -EReal.coe_mul, -EReal.coe_neg]; rfl⟩
  positivity

theorem c1024 : Ideal.ofBits FTy.f32 1149239296#32 = ((1024 : ℝ) : EReal) := by
  simp [Ideal.ofBits, Ideal.ieee, -EReal.coe_mul, -EReal.coe_neg]; norm_num

theorem c64 : Ideal.ofBits FTy.f32 1115684864#32 = ((64 : ℝ) : EReal) := by
  simp [Ideal.ofBits, Ideal.ieee, -EReal.coe_mul, -EReal.coe_neg]; norm_num

theorem c64inv : Ideal.ofBits FTy.f32 1015021568#32 = ((1 / 64 : ℝ) : EReal) := by
  simp [Ideal.ofBits, Ideal.ieee, -EReal.coe_mul, -EReal.coe_neg]; norm_num

/-- A real value. -/
def Real' (v : EReal) : Prop := ∃ r : ℝ, v = (r : EReal)

theorem real_sum {ι : Type} [Fintype ι] (f : ι → EReal) (h : ∀ i, Real' (f i)) : Real' (∑ i, f i) := by
  choose r hr using h
  refine ⟨∑ i, r i, ?_⟩
  simp only [hr]
  induction (Finset.univ : Finset ι) using Finset.cons_induction with
  | empty => simp
  | cons a s ha ih => rw [Finset.sum_cons, Finset.sum_cons, ih, EReal.coe_add]

theorem real_mul {v w : EReal} (hv : Real' v) (hw : Real' w) : Real' (v * w) := by
  obtain ⟨r, rfl⟩ := hv
  obtain ⟨q, rfl⟩ := hw
  exact ⟨r * q, (EReal.coe_mul r q).symm⟩

theorem sq_nonneg' (v : EReal) : 0 ≤ v * v := by
  induction v with
  | bot => simp
  | top => simp
  | coe r => exact_mod_cast mul_self_nonneg r

theorem rsqrt_coe (r : ℝ) : Ideal.rsqrt (r : EReal) = if r < 0 then ⊥ else if r = 0 then ⊤ else (((Real.sqrt r)⁻¹ : ℝ) : EReal) := rfl

theorem rsqrt_top : Ideal.rsqrt ⊤ = 0 := rfl

/-- An entry of the input times its row's scale is real, whatever the row. -/
theorem scaled_real (v : Fin 1024 → EReal) (d : Fin 1024) :
    Real' (v d * Ideal.rsqrt (Ideal.div (∑ e, v e * v e) (Ideal.ofBits FTy.f32 1149239296#32) + Ideal.ofBits FTy.f32 897988541#32)) := by
  obtain ⟨eps, hp, he⟩ := eps_pos
  rw [c1024, he]
  have h0 : ((1024 : ℝ) : EReal) ≠ 0 := by norm_num
  by_cases h : ∀ e, Real' (v e)
  · obtain ⟨q, hq⟩ := real_sum (fun e => v e * v e) fun e => real_mul (h e) (h e)
    have hn : 0 ≤ q := by
      have : (0 : EReal) ≤ ∑ e, v e * v e := Finset.sum_nonneg fun e _ => sq_nonneg' _
      rw [hq] at this
      exact_mod_cast this
    rw [hq, Ideal.div, if_neg h0, ← EReal.coe_inv, ← EReal.coe_mul, ← EReal.coe_add]
    have hpos : 0 < q * (1024 : ℝ)⁻¹ + eps := by positivity
    refine real_mul (h d) ?_
    rw [rsqrt_coe, if_neg (not_lt.2 hpos.le), if_neg hpos.ne']
    exact ⟨_, rfl⟩
  · push Not at h
    obtain ⟨e, he'⟩ := h
    have ht : v e * v e = ⊤ := by
      induction hv : v e with
      | bot => simp
      | top => simp
      | coe r => exact absurd ⟨r, hv⟩ he'
    have hs : ∑ e, v e * v e = ⊤ := by
      refine top_le_iff.1 (ht ▸ ?_)
      exact Finset.single_le_sum (f := fun e => v e * v e) (fun i _ => sq_nonneg' (v i)) (Finset.mem_univ e)
    rw [hs, Ideal.div, if_neg h0, ← EReal.coe_inv, EReal.top_mul_coe_of_pos (by norm_num), EReal.top_add_coe]
    rw [rsqrt_top, mul_zero]
    exact ⟨0, rfl⟩

/-- The arguments that have to be real for the query and the keys. -/
def Fin' : Prop := (∀ d, Real' (A.g d)) ∧ ∀ d j, Real' (A.w d j)

theorem zN_real (h : Fin' A) (s n : ℕ) : Real' (zN A b s n) := by
  unfold zN
  split
  · exact real_sum _ fun d => real_mul (real_mul (scaled_real (fun e => xN A b s e) d) (h.1 d)) (h.2 d _)
  · exact ⟨0, rfl⟩

end Cert.Spec
-- ==== Proof.Heads.lean ====
module

public import proofs.«01_k».proof.Proof.Grid
public import proofs.«01_k».proof.Proof.SpecHeads

@[expose] public section
set_option maxRecDepth 16384

/-! The query and the two keys of a grid point: two heads at a time, their mean squares by one product with a table of ones on two blocks. -/
namespace Cert.KernelIdeal.Heads
open Idealize.ShloMosaic Cert.KernelIdeal.Gen Idealize.ShloMosaic.TcCoe

section generic
variable {F : FTy → Type} [FloatOps F]
variable (ra rm rp : Vec F S512x128 .f32) (v : FVec F S512x128 .f32) (gn : Vec F S1x128 .f32) (ind : Vec F S128x128 .bf16)

/-- The heads' mean squares plus the small constant, both heads of a block at once. -/
noncomputable def mean : FVec F S512x128 .f32 :=
  addf (mulf (addf
      (matmul dot_S512x128_S128x128_S512x128_1_0_0_1_n_n none (truncf .bf16 (mulf v v) bitsLt_bf16_f32) (shapeCast S128x128 ind shapeCasts_S128x128_S128x128) (constant S512x128 .f32 0x00000000#32))
      (matmul dot_S512x128_S128x128_S512x128_1_0_0_1_n_n none (truncf .bf16 (subf (mulf v v) (extf .f32 (truncf .bf16 (mulf v v) bitsLt_bf16_f32) bitsLt_bf16_f32)) bitsLt_bf16_f32)
        (shapeCast S128x128 ind shapeCasts_S128x128_S128x128) (constant S512x128 .f32 0x00000000#32)))
    (broadcast S512x128 (Scalar.ofBits .f32 0x3C800000#32))) (broadcast S512x128 (Scalar.ofBits .f32 0x358637BD#32))

/-- The normalised heads. -/
noncomputable def normed : FVec F S512x128 .f32 :=
  mulf (mulf v (rsqrt (mean v ind))) (broadcastTo S512x128 (shapeCast S1x128 gn shapeCasts_S1x128_S1x128) broadcasts_S1x128_S512x128)

/-- The rotation by position. -/
noncomputable def turned (y : FVec F S512x128 .f32) : FVec F S512x128 .f32 :=
  addf (addf (mulf y (shapeCast S512x128 ra shapeCasts_S512x128_S512x128))
      (mulf (dynamicRotate 1 120#32 none y rotates_S512x128_d1) (shapeCast S512x128 rm shapeCasts_S512x128_S512x128)))
    (mulf (dynamicRotate 1 8#32 none y rotates_S512x128_d1) (shapeCast S512x128 rp shapeCasts_S512x128_S512x128))

/-- A block of two heads of a key. -/
noncomputable def key : FVec F S1x512x128 .bf16 :=
  shapeCast S1x512x128 (truncf .bf16 (turned ra rm rp (normed v gn ind)) bitsLt_bf16_f32) shapeCasts_S512x128_S1x512x128

/-- A block of two heads of the query, scaled and transposed. -/
noncomputable def query : FVec F S1x128x512 .bf16 :=
  shapeCast S1x128x512 (truncf .bf16 (transpose S128x512 [1, 0] (mulf (turned ra rm rp (normed v gn ind)) (broadcast S512x128 (Scalar.ofBits .f32 0x3E38AA3B#32)))
    transposes_S512x128_p1_0_S128x512) bitsLt_bf16_f32) shapeCasts_S128x512_S1x128x512

/-- The two halves of a projected block. -/
noncomputable abbrev lowHalf (z : FVec F S512x256 .f32) : FVec F S512x128 .f32 := extractStridedSlice S512x128 ![0, 0] z slices_S512x256_o0_0_S512x128
noncomputable abbrev highHalf (z : FVec F S512x256 .f32) : FVec F S512x128 .f32 := extractStridedSlice S512x128 ![0, 128] z slices_S512x256_o0_128_S512x128
end generic

theorem mean_at (v : FVec Ideal S512x128 .f32) (ind : Vec Ideal S128x128 .bf16) (r : Fin 512) (j : Fin 128) :
    mean v ind (ix2 r j) = (((∑ k, v (ix2 r k) * v (ix2 r k) * ind (ix2 k j)) + ∑ k, (v (ix2 r k) * v (ix2 r k) - v (ix2 r k) * v (ix2 r k)) * ind (ix2 k j))
      * Ideal.ofBits FTy.f32 1015021568#32 + Ideal.ofBits FTy.f32 897988541#32 : EReal) := by
  pointwise [mean]

theorem normed_at (v : FVec Ideal S512x128 .f32) (gn : Vec Ideal S1x128 .f32) (ind : Vec Ideal S128x128 .bf16) (r : Fin 512) (j : Fin 128) :
    normed v gn ind (ix2 r j) = (v (ix2 r j) * Ideal.rsqrt (mean v ind (ix2 r j)) * gn (ix2 0 j) : EReal) := by
  rw [normed]
  generalize mean v ind = M
  pointwise
theorem turned_at (ra rm rp y : Vec Ideal S512x128 .f32) (r : Fin 512) (j : Fin 128) :
    turned ra rm rp y (ix2 r j) = (y (ix2 r j) * ra (ix2 r j) + y (ix2 r ⟨(j.val + 128 - 120) % 128, Nat.mod_lt _ (by decide)⟩) * rm (ix2 r j)
      + y (ix2 r ⟨(j.val + 128 - 8) % 128, Nat.mod_lt _ (by decide)⟩) * rp (ix2 r j) : EReal) := by
  pointwise [turned]

theorem key_at (ra rm rp : Vec Ideal S512x128 .f32) (v : FVec Ideal S512x128 .f32) (gn : Vec Ideal S1x128 .f32) (ind : Vec Ideal S128x128 .bf16) (r : Fin 512) (j : Fin 128) :
    key ra rm rp v gn ind (ix3 0 r j) = turned ra rm rp (normed v gn ind) (ix2 r j) := by
  rw [key]
  generalize turned ra rm rp (normed v gn ind) = M
  pointwise
theorem query_at (ra rm rp : Vec Ideal S512x128 .f32) (v : FVec Ideal S512x128 .f32) (gn : Vec Ideal S1x128 .f32) (ind : Vec Ideal S128x128 .bf16) (r : Fin 512) (j : Fin 128) :
    query ra rm rp v gn ind (ix3 0 j r) = (turned ra rm rp (normed v gn ind) (ix2 r j) * Ideal.ofBits FTy.f32 0x3E38AA3B#32 : EReal) := by
  rw [query]
  generalize turned ra rm rp (normed v gn ind) = M
  pointwise

/-- Two blocks of 64: only the lane's own block counts. -/
theorem block_sum (f : ℕ → EReal) (j : Fin 128) :
    (∑ k : Fin 128, f k.val * (if k.val / 64 = j.val / 64 then 1 else 0)) = ∑ k : Fin 64, f (64 * (j.val / 64) + k.val) := by
  have e : ∀ F : ℕ → EReal, (∑ k : Fin 128, F k.val) = ∑ a : Fin 2, ∑ k : Fin 64, F (64 * a.val + k.val) := by
    intro F
    rw [← Equiv.sum_comp (finProdFinEquiv (m := 2) (n := 64)) (fun k : Fin (2 * 64) => F k.val), Fintype.sum_prod_type]
    refine Finset.sum_congr rfl fun a _ => Finset.sum_congr rfl fun k _ => congrArg F ?_
    show k.val + 64 * a.val = 64 * a.val + k.val
    omega
  rw [e (fun k => f k * (if k / 64 = j.val / 64 then 1 else 0)), Finset.sum_eq_single (⟨j.val / 64, by omega⟩ : Fin 2)]
  · refine Finset.sum_congr rfl fun k _ => ?_
    have h1 : (64 * (j.val / 64) + k.val) / 64 = j.val / 64 := by omega
    show f _ * (if (64 * (j.val / 64) + k.val) / 64 = j.val / 64 then 1 else 0) = _
    rw [h1, if_pos rfl, mul_one]
  · intro a _ ha
    refine Finset.sum_eq_zero fun k _ => ?_
    have h1 : (64 * a.val + k.val) / 64 = a.val := by omega
    show f _ * (if (64 * a.val + k.val) / 64 = j.val / 64 then 1 else 0) = 0
    rw [if_neg (by rw [h1]; exact fun h => ha (Fin.ext h)), mul_zero]
  · intro h; exact absurd (Finset.mem_univ _) h

/-- What a block of two heads is made of: real columns `off …` of the projection, gains `g`, the block table and the three rotation tables. -/
structure Given (A : Spec.Args) (b : Fin 4) (p off : ℕ) (g : ℕ → EReal) (ra rm rp : Vec Ideal S512x128 .f32) (v : FVec Ideal S512x128 .f32) (gn : Vec Ideal S1x128 .f32)
    (ind : Vec Ideal S128x128 .bf16) : Prop where
  v : ∀ (r : Fin 512) (j : Fin 128), v (ix2 r j) = Spec.zN A b (p + r.val) (off + j.val)
  gn : ∀ j : Fin 128, gn (ix2 0 j) = g (j.val % 64)
  ind : ∀ k j : Fin 128, ind (ix2 k j) = if k.val / 64 = j.val / 64 then (1 : EReal) else 0
  ra : ∀ (r : Fin 512) (j : Fin 128), ra (ix2 r j) = if j.val % 64 < 8 then Ideal.cos (Spec.ang (p + r.val) (j.val % 64))
    else if j.val % 64 < 16 then Ideal.cos (Spec.ang (p + r.val) (j.val % 64 - 8)) else (1 : EReal)
  rm : ∀ (r : Fin 512) (j : Fin 128), rm (ix2 r j) = if j.val % 64 < 8 then -Ideal.sin (Spec.ang (p + r.val) (j.val % 64)) else (0 : EReal)
  rp : ∀ (r : Fin 512) (j : Fin 128), rp (ix2 r j) = if j.val % 64 < 8 then (0 : EReal)
    else if j.val % 64 < 16 then Ideal.sin (Spec.ang (p + r.val) (j.val % 64 - 8)) else 0

section point
variable {A : Spec.Args} {b : Fin 4} {p off : ℕ} {g : ℕ → EReal} {ra rm rp : Vec Ideal S512x128 .f32} {v : FVec Ideal S512x128 .f32} {gn : Vec Ideal S1x128 .f32}
    {ind : Vec Ideal S128x128 .bf16} (G : Given A b p off g ra rm rp v gn ind) (hA : Spec.Fin' A)
include G hA

theorem mean_eq (r : Fin 512) (j : Fin 128) : mean v ind (ix2 r j) =
    Ideal.div (∑ k : Fin 64, Spec.zN A b (p + r.val) (off + 64 * (j.val / 64) + k.val) * Spec.zN A b (p + r.val) (off + 64 * (j.val / 64) + k.val))
      (Ideal.ofBits FTy.f32 1115684864#32) + Ideal.ofBits FTy.f32 897988541#32 := by
  rw [mean_at]
  simp only [G.v, G.ind]
  have h2 : ∑ k : Fin 128, (Spec.zN A b (p + r.val) (off + k.val) * Spec.zN A b (p + r.val) (off + k.val) - Spec.zN A b (p + r.val) (off + k.val) * Spec.zN A b (p + r.val) (off + k.val))
      * (if k.val / 64 = j.val / 64 then (1 : EReal) else 0) = 0 := by
    refine Finset.sum_eq_zero fun k _ => ?_
    obtain ⟨q, hq⟩ := Spec.zN_real A b hA (p + r.val) (off + k.val)
    rw [hq, ← EReal.coe_mul, ← EReal.coe_sub, sub_self, EReal.coe_zero, zero_mul]
  rw [h2, add_zero, block_sum (fun k => Spec.zN A b (p + r.val) (off + k) * Spec.zN A b (p + r.val) (off + k)) j, Spec.c64, Spec.c64inv, Ideal.div, if_neg (by norm_num)]
  simp only [← Nat.add_assoc]
  refine congrArg (fun c : EReal => _ * c + _) ?_
  rw [← EReal.coe_inv]
  norm_num

theorem normed_eq (r : Fin 512) (j : Fin 128) : normed v gn ind (ix2 r j) =
    Spec.headNorm (fun k => Spec.zN A b (p + r.val) (off + 64 * (j.val / 64) + k)) g (j.val % 64) := by
  rw [normed_at, mean_eq G hA, G.v, G.gn, Spec.headNorm]
  have : off + 64 * (j.val / 64) + j.val % 64 = off + j.val := by omega
  rw [this]

theorem turned_eq (r : Fin 512) (j : Fin 128) : turned ra rm rp (normed v gn ind) (ix2 r j) =
    Spec.headAt A b (off + 64 * (j.val / 64)) g (p + r.val) (j.val % 64) := by
  rw [turned_at, G.ra, G.rm, G.rp, Spec.headAt, Spec.rope]
  simp only [normed_eq G hA]
  by_cases h1 : j.val % 64 < 8
  · simp only [if_pos h1, mul_zero, add_zero]
    have e1 : (j.val + 128 - 120) % 128 / 64 = j.val / 64 := by omega
    have e2 : (j.val + 128 - 120) % 128 % 64 = j.val % 64 + 8 := by omega
    rw [e1, e2, mul_neg, ← sub_eq_add_neg]
  · by_cases h2 : j.val % 64 < 16
    · simp only [if_neg h1, if_pos h2, mul_zero, add_zero]
      have e1 : (j.val + 128 - 8) % 128 / 64 = j.val / 64 := by omega
      have e2 : (j.val + 128 - 8) % 128 % 64 = j.val % 64 - 8 := by omega
      rw [e1, e2]
    · simp only [if_neg h1, if_neg h2, mul_zero, add_zero, mul_one]

theorem key_eq (r : Fin 512) (j : Fin 128) : key ra rm rp v gn ind (ix3 0 r j) =
    Spec.headAt A b (off + 64 * (j.val / 64)) g (p + r.val) (j.val % 64) := (key_at ..).trans (turned_eq G hA r j)

theorem query_eq (r : Fin 512) (j : Fin 128) : query ra rm rp v gn ind (ix3 0 j r) =
    Spec.headAt A b (off + 64 * (j.val / 64)) g (p + r.val) (j.val % 64) * Ideal.ofBits FTy.f32 0x3E38AA3B#32 :=
  (query_at ..).trans (congrArg (fun y : EReal => y * _) (turned_eq G hA r j))
end point

end Cert.KernelIdeal.Heads
-- ==== Proof.HostHeads.lean ====
module

public import proofs.«01_k».proof.Proof.Grid
public import proofs.«01_k».proof.Proof.SpecHeads

@[expose] public section
set_option maxRecDepth 16384

/-! The tables that the host prepares for the query and the keys, at an index. -/
namespace Cert.KernelIdeal.Host

open Idealize.ShloMosaic Cert.KernelIdeal.Gen Idealize.ShloMosaic.TcCoe Idealize.ShloMosaic.StableHlo

variable (m : (ℓ : Loc nD τ sig) → Buf (Elt Ideal) ℓ) (c : Dev nD)

theorem eye2 (a b : Fin 2) :
    FloatOps.uitofp (F := Ideal) FTy.bf16 (IntOp.cmpi CmpIPredicate.eq (IntOp.addi (BitVec.ofNat 32 a.val) 0#32) (BitVec.ofNat 32 b.val)) = if a = b then (1 : EReal) else 0 := by
  have h : IntOp.cmpi CmpIPredicate.eq (IntOp.addi (BitVec.ofNat 32 a.val) 0#32) (BitVec.ofNat 32 b.val) = if a = b then 1#1 else 0#1 := by
    revert a b; decide
  rw [h]
  by_cases hab : a = b
  · rw [if_pos hab, if_pos hab]
    show ((((1#1 : BitVec 1).toNat : ℕ) : ℝ) : EReal) = 1
    simp
  · rw [if_neg hab, if_neg hab]
    show ((((0#1 : BitVec 1).toNat : ℕ) : ℝ) : EReal) = 0
    simp

theorem rotA (s : Fin 8192) (j : Fin 128) : V m c main_v25 (ix2 s j) = if j.val % 64 < 8 then Ideal.cos (Spec.ang s.val (j.val % 64))
    else if j.val % 64 < 16 then Ideal.cos (Spec.ang s.val (j.val % 64 - 8)) else (1 : EReal) := by
  simp only [V, hostOps0, hostOps0_1, hostOps0_2, List.flatten_cons, List.flatten_nil, List.append_nil, List.cons_append, List.nil_append]
  after_results_simp
  pointwise
  split
  · rename_i h
    after_results_simp
    pointwise
    rfl
  · rename_i h
    split
    · rename_i h2
      after_results_simp
      pointwise
      exact (if_pos (by omega)).symm
    · rename_i h2
      after_results_simp
      pointwise
      exact (if_neg (by omega)).symm

theorem rotM (s : Fin 8192) (j : Fin 128) : V m c main_v28 (ix2 s j) = if j.val % 64 < 8 then -Ideal.sin (Spec.ang s.val (j.val % 64)) else (0 : EReal) := by
  simp only [V, hostOps0, hostOps0_1, hostOps0_2, List.flatten_cons, List.flatten_nil, List.append_nil, List.cons_append, List.nil_append]
  after_results_simp
  pointwise
  split
  · rename_i h
    after_results_simp
    pointwise
    rfl
  · rename_i h
    after_results_simp
    pointwise

theorem rotP (s : Fin 8192) (j : Fin 128) : V m c main_v31 (ix2 s j) = if j.val % 64 < 8 then (0 : EReal)
    else if j.val % 64 < 16 then Ideal.sin (Spec.ang s.val (j.val % 64 - 8)) else 0 := by
  simp only [V, hostOps0, hostOps0_1, hostOps0_2, List.flatten_cons, List.flatten_nil, List.append_nil, List.cons_append, List.nil_append]
  after_results_simp
  pointwise
  split
  · rename_i h
    after_results_simp
    pointwise
  · rename_i h
    split
    · rename_i h2
      after_results_simp
      pointwise
      exact (if_pos (by omega)).symm
    · rename_i h2
      after_results_simp
      pointwise
      exact (if_neg (by omega)).symm

theorem ind (k j : Fin 128) : V m c main_v44 (ix2 k j) = if k.val / 64 = j.val / 64 then (1 : EReal) else 0 := by
  simp only [V, hostOps0, hostOps0_1, hostOps0_2, List.flatten_cons, List.flatten_nil, List.append_nil, List.cons_append, List.nil_append]
  after_results_simp
  pointwise
  refine (eye2 ⟨k.val / 64, by omega⟩ ⟨j.val / 64, by omega⟩).trans ?_
  simp only [Fin.mk.injEq]

theorem gainQ (j : Fin 128) : V m c main_v82 (ix2 0 j) = m ((c : Thread nD τ).loc main_arg10) (ix1 ⟨j.val % 64, by omega⟩) := by
  simp only [V, hostOps0, hostOps0_1, hostOps0_2, List.flatten_cons, List.flatten_nil, List.append_nil, List.cons_append, List.nil_append]
  after_results_simp; pointwise

theorem gainS (j : Fin 128) : V m c main_v88 (ix2 0 j) = m ((c : Thread nD τ).loc main_arg11) (ix2 1 ⟨j.val % 64, by omega⟩) := by
  simp only [V, hostOps0, hostOps0_1, hostOps0_2, List.flatten_cons, List.flatten_nil, List.append_nil, List.cons_append, List.nil_append]
  after_results_simp; pointwise

theorem gainW (j : Fin 128) : V m c main_v94 (ix2 0 j) = m ((c : Thread nD τ).loc main_arg11) (ix2 2 ⟨j.val % 64, by omega⟩) := by
  simp only [V, hostOps0, hostOps0_1, hostOps0_2, List.flatten_cons, List.flatten_nil, List.append_nil, List.cons_append, List.nil_append]
  after_results_simp; pointwise

end Cert.KernelIdeal.Host
-- ==== Proof.HeadsGrid.lean ====
module

public import proofs.«01_k».proof.Proof.Heads
public import proofs.«01_k».proof.Proof.HostHeads
public import proofs.«01_k».proof.Proof.Final

@[expose] public section
set_option maxRecDepth 16384

/-! The query and the two keys of every grid point, and their arrays after the run. -/
namespace Cert.KernelIdeal.Grid

open Idealize.ShloMosaic Cert.KernelIdeal.Gen Cert.KernelIdeal.Front Cert.KernelIdeal.Heads Idealize.ShloMosaic.TcCoe

variable (m : (ℓ : Loc nD τ sig) → Buf (Elt Ideal) ℓ) (c : Dev nD) (t : Fin cfg0.N)

/-- A load of the body. -/
noncomputable abbrev rw1024 : Vec Ideal S1024x256 .bf16 := View.readAt (Elt Ideal) (ms0_2 t).view (Rect.unit (s := S1024x2944) ![0, 1024] S1024x256.size inb_S1024x2944_S1024x256_0_1024).toLoadRect ((hs0_2 t).unread (iblk m c 2 t))
/-- A load of the body. -/
noncomputable abbrev rw1280 : Vec Ideal S1024x256 .bf16 := View.readAt (Elt Ideal) (ms0_2 t).view (Rect.unit (s := S1024x2944) ![0, 1280] S1024x256.size inb_S1024x2944_S1024x256_0_1280).toLoadRect ((hs0_2 t).unread (iblk m c 2 t))
/-- A load of the body. -/
noncomputable abbrev rra : Vec Ideal S512x128 .f32 := View.readAt (Elt Ideal) (ms0_10 t).view (Rect.unit (s := S512x128) ![0, 0] S512x128.size inb_S512x128_S512x128_0_0).toLoadRect ((hs0_10 t).unread (iblk m c 10 t))
/-- A load of the body. -/
noncomputable abbrev rrm : Vec Ideal S512x128 .f32 := View.readAt (Elt Ideal) (ms0_11 t).view (Rect.unit (s := S512x128) ![0, 0] S512x128.size inb_S512x128_S512x128_0_0).toLoadRect ((hs0_11 t).unread (iblk m c 11 t))
/-- A load of the body. -/
noncomputable abbrev rrp : Vec Ideal S512x128 .f32 := View.readAt (Elt Ideal) (ms0_12 t).view (Rect.unit (s := S512x128) ![0, 0] S512x128.size inb_S512x128_S512x128_0_0).toLoadRect ((hs0_12 t).unread (iblk m c 12 t))
/-- A load of the body. -/
noncomputable abbrev rgq : Vec Ideal S1x128 .f32 := View.readAt (Elt Ideal) (ms0_13 t).view (Rect.unit (s := S1x128) ![0, 0] S1x128.size inb_S1x128_S1x128_0_0).toLoadRect ((hs0_13 t).unread (iblk m c 13 t))
/-- A load of the body. -/
noncomputable abbrev rgs : Vec Ideal S1x128 .f32 := View.readAt (Elt Ideal) (ms0_14 t).view (Rect.unit (s := S1x128) ![0, 0] S1x128.size inb_S1x128_S1x128_0_0).toLoadRect ((hs0_14 t).unread (iblk m c 14 t))
/-- A load of the body. -/
noncomputable abbrev rgw : Vec Ideal S1x128 .f32 := View.readAt (Elt Ideal) (ms0_15 t).view (Rect.unit (s := S1x128) ![0, 0] S1x128.size inb_S1x128_S1x128_0_0).toLoadRect ((hs0_15 t).unread (iblk m c 15 t))
/-- A load of the body. -/
noncomputable abbrev rind : Vec Ideal S128x128 .bf16 := View.readAt (Elt Ideal) (ms0_16 t).view (Rect.unit (s := S128x128) ![0, 0] S128x128.size inb_S128x128_S128x128_0_0).toLoadRect ((hs0_16 t).unread (iblk m c 16 t))

theorem idxP : ∀ t : Fin cfg0.N, win0_10.index t = ![t.val % 16, 0] ∧ win0_11.index t = ![t.val % 16, 0] ∧ win0_12.index t = ![t.val % 16, 0] := by decide +kernel
theorem idxG : ∀ t : Fin cfg0.N, win0_13.index t = ![0, 0] ∧ win0_14.index t = ![0, 0] ∧ win0_15.index t = ![0, 0] ∧ win0_16.index t = ![0, 0] := by decide +kernel

theorem ra_blk (r : Fin 512) (j : Fin 128) : iblk m c 10 t (ix2 r j) = V m c main_v25 (ix2 ⟨t.val % 16 * 512 + r.val, by omega⟩ j) := by
  blk_ext [iblk, idxP t]
theorem rm_blk (r : Fin 512) (j : Fin 128) : iblk m c 11 t (ix2 r j) = V m c main_v28 (ix2 ⟨t.val % 16 * 512 + r.val, by omega⟩ j) := by
  blk_ext [iblk, idxP t]
theorem rp_blk (r : Fin 512) (j : Fin 128) : iblk m c 12 t (ix2 r j) = V m c main_v31 (ix2 ⟨t.val % 16 * 512 + r.val, by omega⟩ j) := by
  blk_ext [iblk, idxP t]
theorem gq_blk (y : S1x128.Idx) : iblk m c 13 t y = V m c main_v82 y := by
  blk_ext [iblk, idxG t]
theorem gs_blk (y : S1x128.Idx) : iblk m c 14 t y = V m c main_v88 y := by
  blk_ext [iblk, idxG t]
theorem gw_blk (y : S1x128.Idx) : iblk m c 15 t y = V m c main_v94 y := by
  blk_ext [iblk, idxG t]
theorem ind_blk (y : S128x128.Idx) : iblk m c 16 t y = V m c main_v44 y := by
  blk_ext [iblk, idxG t]

/-- The gains, by plain numbers. -/
noncomputable def gainQ (k : ℕ) : EReal := m ((c : Thread nD τ).loc main_arg10) (ix1 ⟨k % 64, Nat.mod_lt _ (by decide)⟩)
noncomputable def gainS (k : ℕ) : EReal := m ((c : Thread nD τ).loc main_arg11) (ix2 1 ⟨k % 64, Nat.mod_lt _ (by decide)⟩)
noncomputable def gainW (k : ℕ) : EReal := m ((c : Thread nD τ).loc main_arg11) (ix2 2 ⟨k % 64, Nat.mod_lt _ (by decide)⟩)

theorem posLt (r : Fin 512) : t.val % 16 * 512 + r.val < 8192 := by omega
theorem posEq (r : ℕ) : t.val % 16 * 512 + r = pos t + r := by unfold pos; omega

theorem rra_eq (r : Fin 512) (j : Fin 128) : rra m c t (ix2 r j) = if j.val % 64 < 8 then Ideal.cos (Spec.ang (pos t + r.val) (j.val % 64))
    else if j.val % 64 < 16 then Ideal.cos (Spec.ang (pos t + r.val) (j.val % 64 - 8)) else (1 : EReal) := by
  refine (read2 (hs0_10 t) (iblk m c 10 t) 0 0 _ r j (by omega) (by omega)).trans ((ra_blk m c t _ _).trans ?_)
  refine Eq.trans (congrArg (V m c main_v25) ?_) ((Host.rotA m c ⟨t.val % 16 * 512 + r.val, by omega⟩ j).trans ?_)
  · blk_ext
  · simp only [posEq]

theorem rrm_eq (r : Fin 512) (j : Fin 128) : rrm m c t (ix2 r j) = if j.val % 64 < 8 then -Ideal.sin (Spec.ang (pos t + r.val) (j.val % 64)) else (0 : EReal) := by
  refine (read2 (hs0_11 t) (iblk m c 11 t) 0 0 _ r j (by omega) (by omega)).trans ((rm_blk m c t _ _).trans ?_)
  refine Eq.trans (congrArg (V m c main_v28) ?_) ((Host.rotM m c ⟨t.val % 16 * 512 + r.val, by omega⟩ j).trans ?_)
  · blk_ext
  · simp only [posEq]

theorem rrp_eq (r : Fin 512) (j : Fin 128) : rrp m c t (ix2 r j) = if j.val % 64 < 8 then (0 : EReal)
    else if j.val % 64 < 16 then Ideal.sin (Spec.ang (pos t + r.val) (j.val % 64 - 8)) else 0 := by
  refine (read2 (hs0_12 t) (iblk m c 12 t) 0 0 _ r j (by omega) (by omega)).trans ((rp_blk m c t _ _).trans ?_)
  refine Eq.trans (congrArg (V m c main_v31) ?_) ((Host.rotP m c ⟨t.val % 16 * 512 + r.val, by omega⟩ j).trans ?_)
  · blk_ext
  · simp only [posEq]

theorem rgq_eq (j : Fin 128) : rgq m c t (ix2 0 j) = gainQ m c (j.val % 64) := by
  refine (read2 (hs0_13 t) (iblk m c 13 t) 0 0 _ 0 j (by omega) (by omega)).trans ((gq_blk m c t _).trans ?_)
  refine Eq.trans (congrArg (V m c main_v82) ?_) ((Host.gainQ m c j).trans ?_)
  · blk_ext
  · simp only [gainQ, Nat.mod_mod]

theorem rgs_eq (j : Fin 128) : rgs m c t (ix2 0 j) = gainS m c (j.val % 64) := by
  refine (read2 (hs0_14 t) (iblk m c 14 t) 0 0 _ 0 j (by omega) (by omega)).trans ((gs_blk m c t _).trans ?_)
  refine Eq.trans (congrArg (V m c main_v88) ?_) ((Host.gainS m c j).trans ?_)
  · blk_ext
  · simp only [gainS, Nat.mod_mod]

theorem rgw_eq (j : Fin 128) : rgw m c t (ix2 0 j) = gainW m c (j.val % 64) := by
  refine (read2 (hs0_15 t) (iblk m c 15 t) 0 0 _ 0 j (by omega) (by omega)).trans ((gw_blk m c t _).trans ?_)
  refine Eq.trans (congrArg (V m c main_v94) ?_) ((Host.gainW m c j).trans ?_)
  · blk_ext
  · simp only [gainW, Nat.mod_mod]

theorem rind_eq (k j : Fin 128) : rind m c t (ix2 k j) = if k.val / 64 = j.val / 64 then (1 : EReal) else 0 := by
  refine (read2 (hs0_16 t) (iblk m c 16 t) 0 0 _ k j (by omega) (by omega)).trans ((ind_blk m c t _).trans ?_)
  refine Eq.trans (congrArg (V m c main_v44) ?_) (Host.ind m c k j)
  blk_ext

/-- A projected block of 256 columns. -/
noncomputable abbrev proj (w : Vec Ideal S1024x256 .bf16) : FVec Ideal S512x256 .f32 := k0_pay16 (k0_pay5 (rx m c t) (rg m c t)) w

theorem proj_eq (w : Vec Ideal S1024x256 .bf16) (off : ℕ) (hoff : off + 256 ≤ 2840) (hw : ∀ (d : Fin 1024) (j : Fin 256), w (ix2 d j) = (args m c).w d ⟨off + j.val, by omega⟩)
    (r : Fin 512) (j : Fin 256) : proj m c t w (ix2 r j) = Spec.zN (args m c) (seq t) (pos t + r.val) (off + j.val) := by
  rw [Spec.zN_of _ _ _ _ (by omega)]
  refine Eq.trans ?_ (Proj.sum_eq (rx_eq m c t) (rg_eq m c t) (fun d => w (ix2 d j)) _ (fun d => hw d j) r _ rfl)
  rw [proj]
  generalize k0_pay5 (rx m c t) (rg m c t) = X
  pointwise [k0_pay16]

theorem low_at (z : FVec Ideal S512x256 .f32) (r : Fin 512) (j : Fin 128) : lowHalf z (ix2 r j) = z (ix2 r ⟨j.val, by omega⟩) := by pointwise
theorem high_at (z : FVec Ideal S512x256 .f32) (r : Fin 512) (j : Fin 128) : highHalf z (ix2 r j) = z (ix2 r ⟨128 + j.val, by omega⟩) := by pointwise

theorem givenLow (w : Vec Ideal S1024x256 .bf16) (off : ℕ) (hoff : off + 256 ≤ 2840) (hw : ∀ (d : Fin 1024) (j : Fin 256), w (ix2 d j) = (args m c).w d ⟨off + j.val, by omega⟩)
    (gn : Vec Ideal S1x128 .f32) (g : ℕ → EReal) (hg : ∀ j : Fin 128, gn (ix2 0 j) = g (j.val % 64)) :
    Heads.Given (args m c) (seq t) (pos t) off g (rra m c t) (rrm m c t) (rrp m c t) (lowHalf (proj m c t w)) gn (rind m c t) where
  v r j := (low_at _ r j).trans (proj_eq m c t w off hoff hw r _)
  gn := hg
  ind := rind_eq m c t
  ra := rra_eq m c t
  rm := rrm_eq m c t
  rp := rrp_eq m c t

theorem givenHigh (w : Vec Ideal S1024x256 .bf16) (off : ℕ) (hoff : off + 256 ≤ 2840) (hw : ∀ (d : Fin 1024) (j : Fin 256), w (ix2 d j) = (args m c).w d ⟨off + j.val, by omega⟩)
    (gn : Vec Ideal S1x128 .f32) (g : ℕ → EReal) (hg : ∀ j : Fin 128, gn (ix2 0 j) = g (j.val % 64)) :
    Heads.Given (args m c) (seq t) (pos t) (off + 128) g (rra m c t) (rrm m c t) (rrp m c t) (highHalf (proj m c t w)) gn (rind m c t) where
  v r j := (high_at _ r j).trans ((proj_eq m c t w off hoff hw r _).trans (congrArg (Spec.zN _ _ _) (by show off + (128 + j.val) = off + 128 + j.val; omega)))
  gn := hg
  ind := rind_eq m c t
  ra := rra_eq m c t
  rm := rrm_eq m c t
  rp := rrp_eq m c t

/-- The key blocks and the four query blocks of a point. -/
noncomputable abbrev keyS : FVec Ideal S1x512x128 .bf16 := key (rra m c t) (rrm m c t) (rrp m c t) (lowHalf (proj m c t (rw1792 m c t))) (rgs m c t) (rind m c t)
noncomputable abbrev keyW : FVec Ideal S1x512x128 .bf16 := key (rra m c t) (rrm m c t) (rrp m c t) (lowHalf (proj m c t (rw2048 m c t))) (rgw m c t) (rind m c t)
noncomputable abbrev qry0 : FVec Ideal S1x128x512 .bf16 := query (rra m c t) (rrm m c t) (rrp m c t) (lowHalf (proj m c t (rw1024 m c t))) (rgq m c t) (rind m c t)
noncomputable abbrev qry1 : FVec Ideal S1x128x512 .bf16 := query (rra m c t) (rrm m c t) (rrp m c t) (highHalf (proj m c t (rw1024 m c t))) (rgq m c t) (rind m c t)
noncomputable abbrev qry2 : FVec Ideal S1x128x512 .bf16 := query (rra m c t) (rrm m c t) (rrp m c t) (lowHalf (proj m c t (rw1280 m c t))) (rgq m c t) (rind m c t)
noncomputable abbrev qry3 : FVec Ideal S1x128x512 .bf16 := query (rra m c t) (rrm m c t) (rrp m c t) (highHalf (proj m c t (rw1280 m c t))) (rgq m c t) (rind m c t)

/-! The stores. -/

theorem storesA_ks (h0 : t.val % 16 = 0) : (runA m c t h0).2.2.1 = [⟨Rect.unit (s := S1x512x128) ![0, 0, 0] S1x512x128.size inb_S1x512x128_S1x512x128_0_0_0, keyS m c t⟩] := by
  sl_kernel_rfl
theorem storesA_kw (h0 : t.val % 16 = 0) : (runA m c t h0).2.2.2.2.1 = [⟨Rect.unit (s := S1x512x128) ![0, 0, 0] S1x512x128.size inb_S1x512x128_S1x512x128_0_0_0, keyW m c t⟩] := by
  sl_kernel_rfl
theorem storesA_qt (h0 : t.val % 16 = 0) : (runA m c t h0).2.1 = [⟨Rect.unit (s := S1x512x512) ![0, 384, 0] S1x128x512.size inb_S1x512x512_S1x128x512_0_384_0, qry3 m c t⟩,
    ⟨Rect.unit (s := S1x512x512) ![0, 256, 0] S1x128x512.size inb_S1x512x512_S1x128x512_0_256_0, qry2 m c t⟩,
    ⟨Rect.unit (s := S1x512x512) ![0, 128, 0] S1x128x512.size inb_S1x512x512_S1x128x512_0_128_0, qry1 m c t⟩,
    ⟨Rect.unit (s := S1x512x512) ![0, 0, 0] S1x128x512.size inb_S1x512x512_S1x128x512_0_0_0, qry0 m c t⟩] := by
  sl_kernel_rfl
theorem storesB_ks (h0 : ¬t.val % 16 = 0) (xs0 xs1 : Vec Ideal S8x512 .f32) : (runB m c t h0 xs0 xs1).2.2.1 = [⟨Rect.unit (s := S1x512x128) ![0, 0, 0] S1x512x128.size inb_S1x512x128_S1x512x128_0_0_0, keyS m c t⟩] := by
  sl_kernel_rfl
theorem storesB_kw (h0 : ¬t.val % 16 = 0) (xs0 xs1 : Vec Ideal S8x512 .f32) : (runB m c t h0 xs0 xs1).2.2.2.2.1 = [⟨Rect.unit (s := S1x512x128) ![0, 0, 0] S1x512x128.size inb_S1x512x128_S1x512x128_0_0_0, keyW m c t⟩] := by
  sl_kernel_rfl
theorem storesB_qt (h0 : ¬t.val % 16 = 0) (xs0 xs1 : Vec Ideal S8x512 .f32) : (runB m c t h0 xs0 xs1).2.1 = [⟨Rect.unit (s := S1x512x512) ![0, 384, 0] S1x128x512.size inb_S1x512x512_S1x128x512_0_384_0, qry3 m c t⟩,
    ⟨Rect.unit (s := S1x512x512) ![0, 256, 0] S1x128x512.size inb_S1x512x512_S1x128x512_0_256_0, qry2 m c t⟩,
    ⟨Rect.unit (s := S1x512x512) ![0, 128, 0] S1x128x512.size inb_S1x512x512_S1x128x512_0_128_0, qry1 m c t⟩,
    ⟨Rect.unit (s := S1x512x512) ![0, 0, 0] S1x128x512.size inb_S1x512x512_S1x128x512_0_0_0, qry0 m c t⟩] := by
  sl_kernel_rfl

/-- What a point leaves in the query's and the keys' windows. -/
structure HeadsLeft (o : Outs Ideal) : Prop where
  qt : ∀ i r : Fin 512, o.2.1 (ix3 0 i r) = Spec.headAt (args m c) (seq t) (1024 + 64 * (i.val / 64)) (gainQ m c) (pos t + r.val) (i.val % 64) * Ideal.ofBits FTy.f32 0x3E38AA3B#32
  ks : ∀ (r : Fin 512) (j : Fin 128), o.2.2.1 (ix3 0 r j) = Spec.headAt (args m c) (seq t) (1792 + 64 * (j.val / 64)) (gainS m c) (pos t + r.val) (j.val % 64)
  kw : ∀ (r : Fin 512) (j : Fin 128), o.2.2.2.2.1 (ix3 0 r j) = Spec.headAt (args m c) (seq t) (2048 + 64 * (j.val / 64)) (gainW m c) (pos t + r.val) (j.val % 64)

theorem ks_of (hA : Spec.Fin' (args m c)) (r : Fin 512) (j : Fin 128) (L : List (View.Piece (Elt Ideal) S1x512x128 .bf16)) (inb)
    (hL : L = [⟨Rect.unit (s := S1x512x128) ![0, 0, 0] S1x512x128.size inb, keyS m c t⟩]) :
    View.canon L (ix3 0 r j : S1x512x128.Idx) = Spec.headAt (args m c) (seq t) (1792 + 64 * (j.val / 64)) (gainS m c) (pos t + r.val) (j.val % 64) := by
  subst hL
  exact (canon_whole (s := S1x512x128) _ off3 _ _ _ _).trans (key_eq (givenLow m c t _ 1792 (by omega) (cols256 m c t 1792 (by omega) _) _ _ (rgs_eq m c t)) hA r j)

theorem kw_of (hA : Spec.Fin' (args m c)) (r : Fin 512) (j : Fin 128) (L : List (View.Piece (Elt Ideal) S1x512x128 .bf16)) (inb)
    (hL : L = [⟨Rect.unit (s := S1x512x128) ![0, 0, 0] S1x512x128.size inb, keyW m c t⟩]) :
    View.canon L (ix3 0 r j : S1x512x128.Idx) = Spec.headAt (args m c) (seq t) (2048 + 64 * (j.val / 64)) (gainW m c) (pos t + r.val) (j.val % 64) := by
  subst hL
  exact (canon_whole (s := S1x512x128) _ off3 _ _ _ _).trans (key_eq (givenLow m c t _ 2048 (by omega) (cols256 m c t 2048 (by omega) _) _ _ (rgw_eq m c t)) hA r j)

/-- A piece of 128 rows on top, at one of its rows. -/
theorem canon_hit (o : ℕ) (inb) (w : S1x128x512.Idx → Elt Ideal .bf16) (L : List (View.Piece (Elt Ideal) S1x512x512 .bf16)) (i r : Fin 512) (h1 : o ≤ i.val) (h2 : i.val < o + 128) :
    View.canon (⟨Rect.unit (s := S1x512x512) ![0, o, 0] S1x128x512.size inb, w⟩ :: L) (ix3 0 i r : S1x512x512.Idx) = w (ix3 0 ⟨i.val - o, by omega⟩ r) := by
  have e : (ix3 0 i r : S1x512x512.Idx) = (Rect.unit (s := S1x512x512) ![0, o, 0] S1x128x512.size inb).emb (ix3 0 ⟨i.val - o, by omega⟩ r : S1x128x512.Idx) := by
    funext a
    refine Fin.ext ?_
    fin_cases a
    · rfl
    · show i.val = o + 1 * (i.val - o)
      omega
    · show r.val = 0 + 1 * r.val
      omega
  rw [e]
  exact View.canon_cons_emb _ _ _ _

/-- A piece of 128 rows on top, at a row before them. -/
theorem canon_miss (o : ℕ) (inb) (w : S1x128x512.Idx → Elt Ideal .bf16) (L : List (View.Piece (Elt Ideal) S1x512x512 .bf16)) (i r : Fin 512) (h : i.val < o) :
    View.canon (⟨Rect.unit (s := S1x512x512) ![0, o, 0] S1x128x512.size inb, w⟩ :: L) (ix3 0 i r : S1x512x512.Idx) = View.canon L (ix3 0 i r : S1x512x512.Idx) := by
  refine View.canon_cons_of_not_mem _ _ ?_
  intro hm
  have := ((Rect.mem_set_unit (inb := inb)).1 hm 1).1
  have : o ≤ i.val := this
  omega

theorem head_cong {off off' : ℕ} {g : ℕ → EReal} {s d d' : ℕ} (h1 : off = off') (h2 : d = d') :
    Spec.headAt (args m c) (seq t) off g s d * Ideal.ofBits FTy.f32 0x3E38AA3B#32 = Spec.headAt (args m c) (seq t) off' g s d' * Ideal.ofBits FTy.f32 0x3E38AA3B#32 := by
  rw [h1, h2]

theorem qt_of (hA : Spec.Fin' (args m c)) (i r : Fin 512) (L : List (View.Piece (Elt Ideal) S1x512x512 .bf16)) (inb0 inb1 inb2 inb3)
    (hL : L = [⟨Rect.unit (s := S1x512x512) ![0, 384, 0] S1x128x512.size inb3, qry3 m c t⟩, ⟨Rect.unit (s := S1x512x512) ![0, 256, 0] S1x128x512.size inb2, qry2 m c t⟩,
      ⟨Rect.unit (s := S1x512x512) ![0, 128, 0] S1x128x512.size inb1, qry1 m c t⟩, ⟨Rect.unit (s := S1x512x512) ![0, 0, 0] S1x128x512.size inb0, qry0 m c t⟩]) :
    View.canon L (ix3 0 i r : S1x512x512.Idx) = Spec.headAt (args m c) (seq t) (1024 + 64 * (i.val / 64)) (gainQ m c) (pos t + r.val) (i.val % 64) * Ideal.ofBits FTy.f32 0x3E38AA3B#32 := by
  subst hL
  by_cases h3 : 384 ≤ i.val
  · refine (canon_hit 384 _ _ _ i r h3 (by omega)).trans ((query_eq (givenHigh m c t _ 1280 (by omega) (cols256 m c t 1280 (by omega) _) _ _ (rgq_eq m c t)) hA r _).trans ?_)
    exact head_cong m c t (by show 1280 + 128 + 64 * ((i.val - 384) / 64) = _; omega) (by show (i.val - 384) % 64 = _; omega)
  refine (canon_miss 384 _ _ _ i r (by omega)).trans ?_
  by_cases h2 : 256 ≤ i.val
  · refine (canon_hit 256 _ _ _ i r h2 (by omega)).trans ((query_eq (givenLow m c t _ 1280 (by omega) (cols256 m c t 1280 (by omega) _) _ _ (rgq_eq m c t)) hA r _).trans ?_)
    exact head_cong m c t (by show 1280 + 64 * ((i.val - 256) / 64) = _; omega) (by show (i.val - 256) % 64 = _; omega)
  refine (canon_miss 256 _ _ _ i r (by omega)).trans ?_
  by_cases h1 : 128 ≤ i.val
  · refine (canon_hit 128 _ _ _ i r h1 (by omega)).trans ((query_eq (givenHigh m c t _ 1024 (by omega) (cols256 m c t 1024 (by omega) _) _ _ (rgq_eq m c t)) hA r _).trans ?_)
    exact head_cong m c t (by show 1024 + 128 + 64 * ((i.val - 128) / 64) = _; omega) (by show (i.val - 128) % 64 = _; omega)
  refine (canon_miss 128 _ _ _ i r (by omega)).trans ?_
  refine (canon_hit 0 _ _ _ i r (by omega) (by omega)).trans ((query_eq (givenLow m c t _ 1024 (by omega) (cols256 m c t 1024 (by omega) _) _ _ (rgq_eq m c t)) hA r _).trans ?_)
  exact head_cong m c t (by show 1024 + 64 * ((i.val - 0) / 64) = _; omega) (by show (i.val - 0) % 64 = _; omega)

theorem headsLeft_A (hA : Spec.Fin' (args m c)) (h0 : t.val % 16 = 0) : HeadsLeft m c t (outsA m c t h0) := by
  constructor
  · intro i r
    rw [outsA]
    dsimp only
    refine (View.read_writes_junk_apply_eq_canon VO0_18 (ix3 0 i r) (runA m c t h0).2.1).trans ?_
    exact qt_of m c t hA i r _ _ _ _ _ (storesA_qt m c t h0)
  · intro r j
    rw [outsA]
    dsimp only
    refine (View.read_writes_junk_apply_eq_canon VO0_19 (ix3 0 r j) (runA m c t h0).2.2.1).trans ?_
    exact ks_of m c t hA r j _ _ (storesA_ks m c t h0)
  · intro r j
    rw [outsA]
    dsimp only
    refine (View.read_writes_junk_apply_eq_canon VO0_21 (ix3 0 r j) (runA m c t h0).2.2.2.2.1).trans ?_
    exact kw_of m c t hA r j _ _ (storesA_kw m c t h0)

theorem headsLeft_B (hA : Spec.Fin' (args m c)) (h0 : ¬t.val % 16 = 0) (xs0 xs1 : Vec Ideal S8x512 .f32) : HeadsLeft m c t (outsB m c t h0 xs0 xs1) := by
  constructor
  · intro i r
    rw [outsB]
    dsimp only
    refine (View.read_writes_junk_apply_eq_canon VO0_18 (ix3 0 i r) (runB m c t h0 xs0 xs1).2.1).trans ?_
    exact qt_of m c t hA i r _ _ _ _ _ (storesB_qt m c t h0 xs0 xs1)
  · intro r j
    rw [outsB]
    dsimp only
    refine (View.read_writes_junk_apply_eq_canon VO0_19 (ix3 0 r j) (runB m c t h0 xs0 xs1).2.2.1).trans ?_
    exact ks_of m c t hA r j _ _ (storesB_ks m c t h0 xs0 xs1)
  · intro r j
    rw [outsB]
    dsimp only
    refine (View.read_writes_junk_apply_eq_canon VO0_21 (ix3 0 r j) (runB m c t h0 xs0 xs1).2.2.2.2.1).trans ?_
    exact kw_of m c t hA r j _ _ (storesB_kw m c t h0 xs0 xs1)

theorem headsLeft (hA : Spec.Fin' (args m c)) : HeadsLeft m c t (outsAt0 m c t.val t.isLt) := by
  by_cases h0 : t.val % 16 = 0
  · exact (outsAt0_A m c t h0) ▸ headsLeft_A m c t hA h0
  · exact (outsAt0_B m c t h0) ▸ headsLeft_B m c t hA h0 _ _

/-! The arrays after the run. -/

theorem idxH : ∀ t : Fin cfg0.N, win0_18.index t = ![t.val / 16, 0, t.val % 16] ∧ win0_19.index t = ![t.val / 16, t.val % 16, 0] ∧
    win0_21.index t = ![t.val / 16, t.val % 16, 0] := by decide +kernel

theorem out_qt (hA : Spec.Fin' (args m c)) (b : Fin 4) (i : Fin 512) (s : Fin 8192) : (dats m 0 c).arrAt 18 cfg0.N (ix3 b i s) =
    Spec.headAt (args m c) b (1024 + 64 * (i.val / 64)) (gainQ m c) s.val (i.val % 64) * Ideal.ofBits FTy.f32 0x3E38AA3B#32 := by
  have e : (dats m 0 c).arrAt 18 cfg0.N = fun y : S4x512x8192.Idx =>
      Spec.headAt (args m c) (y 0) (1024 + 64 * ((y 1).val / 64)) (gainQ m c) (y 2).val ((y 1).val % 64) * Ideal.ofBits FTy.f32 0x3E38AA3B#32 := by
    refine (dats m 0 c).arrAt_eq_of_covers 18 _ (by decide +kernel) fun t hf y => ?_
    have hb : (win0_18.blk t).view.emb y 0 = seq t := Fin.ext (by blk_simp [idxH t]; rfl)
    blk_simp [idxH t]
    rw [after0_18, hb, Nat.mul_comm (t.val % 16) 512]
    exact at3 (A := 512) (B := 512) _ _ (headsLeft m c t hA).qt y
  exact congrFun e _

theorem out_ks (hA : Spec.Fin' (args m c)) (b : Fin 4) (s : Fin 8192) (j : Fin 128) : (dats m 0 c).arrAt 19 cfg0.N (ix3 b s j) =
    Spec.headAt (args m c) b (1792 + 64 * (j.val / 64)) (gainS m c) s.val (j.val % 64) := by
  have e : (dats m 0 c).arrAt 19 cfg0.N = fun y : S4x8192x128.Idx => Spec.headAt (args m c) (y 0) (1792 + 64 * ((y 2).val / 64)) (gainS m c) (y 1).val ((y 2).val % 64) := by
    refine (dats m 0 c).arrAt_eq_of_covers 19 _ (by decide +kernel) fun t hf y => ?_
    have hb : (win0_19.blk t).view.emb y 0 = seq t := Fin.ext (by blk_simp [idxH t]; rfl)
    blk_simp [idxH t]
    rw [after0_19, hb, Nat.mul_comm (t.val % 16) 512]
    exact at3 (A := 512) (B := 128) _ _ (headsLeft m c t hA).ks y
  exact congrFun e _

theorem out_kw (hA : Spec.Fin' (args m c)) (b : Fin 4) (s : Fin 8192) (j : Fin 128) : (dats m 0 c).arrAt 21 cfg0.N (ix3 b s j) =
    Spec.headAt (args m c) b (2048 + 64 * (j.val / 64)) (gainW m c) s.val (j.val % 64) := by
  have e : (dats m 0 c).arrAt 21 cfg0.N = fun y : S4x8192x128.Idx => Spec.headAt (args m c) (y 0) (2048 + 64 * ((y 2).val / 64)) (gainW m c) (y 1).val ((y 2).val % 64) := by
    refine (dats m 0 c).arrAt_eq_of_covers 21 _ (by decide +kernel) fun t hf y => ?_
    have hb : (win0_21.blk t).view.emb y 0 = seq t := Fin.ext (by blk_simp [idxH t]; rfl)
    blk_simp [idxH t]
    rw [after0_21, hb, Nat.mul_comm (t.val % 16) 512]
    exact at3 (A := 512) (B := 128) _ _ (headsLeft m c t hA).kw y
  exact congrFun e _

end Cert.KernelIdeal.Grid
-- ==== Proof.RefVal.lean ====
module

public import proofs.«01_k».proof.Proof.RefRun
public import proofs.«01_k».proof.Proof.Spec
public import Idealize.ShloMosaic.Lib.Pointwise
public import Idealize.ShloMosaic.Lib.DynamicIndex
public import Idealize.ShloMosaic.Lib.Pipeline.Value

@[expose] public section

set_option maxRecDepth 16384

/-! What the reference's buffers hold before its loop, entry by entry. -/
namespace Cert.ReferenceIdeal.Ref

open Idealize.ShloMosaic Cert.ReferenceIdeal.Gen Cert.ReferenceIdeal.Value Idealize.ShloMosaic.TcCoe Idealize.ShloMosaic.StableHlo

variable (m : (ℓ : Loc nD τ sig) → Buf (Elt Ideal) ℓ) (c : Dev nD)

/-- The arguments, entry by entry. -/
noncomputable def args : Spec.Args where
  x b s d := m ((c : Thread nD τ).loc main_arg0) (ix3 b s d)
  g d := m ((c : Thread nD τ).loc main_arg1) (ix1 d)
  w d j := m ((c : Thread nD τ).loc main_arg2) (ix2 d j)
  cw k j := m ((c : Thread nD τ).loc main_arg3) (ix2 k j)
  cb j := m ((c : Thread nD τ).loc main_arg4) (ix1 j)
  wr n k j := m ((c : Thread nD τ).loc main_arg5) (ix3 n k j)
  br j := m ((c : Thread nD τ).loc main_arg6) (ix1 j)
  wi n k j := m ((c : Thread nD τ).loc main_arg7) (ix3 n k j)
  bi j := m ((c : Thread nD τ).loc main_arg8) (ix1 j)
  lam j := m ((c : Thread nD τ).loc main_arg9) (ix1 j)

/-! ## The projection and its parts -/

theorem z_eq (b : Fin 4) (s : Fin 8192) (j : Fin 2840) : E1 m c main_v13 (ix3 b s j) = Spec.z (args m c) b s.val j := by
  simp only [E1, hostOps0]
  after_results_simp
  pointwise
  simp only [Spec.z, Spec.nrm, Spec.xN, dif_pos s.isLt, Fin.eta]
  rfl

theorem v14_eq (b : Fin 4) (s : Fin 8192) (j : Fin 512) : E1 m c main_v14 (ix3 b s j) = Spec.rgx (args m c) b s.val j := by
  refine Eq.trans ?_ (z_eq m c b s ⟨j.val, by omega⟩)
  simp only [E1, hostOps0]
  after_results_simp
  pointwise

theorem v15_eq (b : Fin 4) (s : Fin 8192) (j : Fin 512) : E1 m c main_v15 (ix3 b s j) = Spec.rgg (args m c) b s.val j := by
  refine Eq.trans ?_ (z_eq m c b s ⟨512 + j.val, by omega⟩)
  simp only [E1, hostOps0]
  after_results_simp
  pointwise

theorem v17_eq (b : Fin 4) (s : Fin 8192) (j : Fin 128) : E1 m c main_v17 (ix3 b s j) = Spec.z (args m c) b s.val ⟨1536 + j.val, by omega⟩ := by
  refine Eq.trans ?_ (z_eq m c b s ⟨1536 + j.val, by omega⟩)
  simp only [E1, hostOps0]
  after_results_simp
  pointwise

theorem v18_eq (b : Fin 4) (s : Fin 8192) (j : Fin 128) : E1 m c main_v18 (ix3 b s j) = Spec.z (args m c) b s.val ⟨1664 + j.val, by omega⟩ := by
  refine Eq.trans ?_ (z_eq m c b s ⟨1664 + j.val, by omega⟩)
  simp only [E1, hostOps0]
  after_results_simp
  pointwise

theorem v20_eq (b : Fin 4) (s : Fin 8192) (j : Fin 128) : E1 m c main_v20 (ix3 b s j) = Spec.z (args m c) b s.val ⟨1920 + j.val, by omega⟩ := by
  refine Eq.trans ?_ (z_eq m c b s ⟨1920 + j.val, by omega⟩)
  simp only [E1, hostOps0]
  after_results_simp
  pointwise

theorem v22_eq (b : Fin 4) (s : Fin 8192) (j : Fin 128) : E1 m c main_v22 (ix3 b s j) = Spec.z (args m c) b s.val ⟨2176 + j.val, by omega⟩ := by
  refine Eq.trans ?_ (z_eq m c b s ⟨2176 + j.val, by omega⟩)
  simp only [E1, hostOps0]
  after_results_simp
  pointwise

theorem v23_eq (b : Fin 4) (s : Fin 8192) (j : Fin 512) : E1 m c main_v23 (ix3 b s j) = Spec.z (args m c) b s.val ⟨2304 + j.val, by omega⟩ := by
  refine Eq.trans ?_ (z_eq m c b s ⟨2304 + j.val, by omega⟩)
  simp only [E1, hostOps0]
  after_results_simp
  pointwise

theorem v24_eq (b : Fin 4) (s : Fin 8192) (j : Fin 24) : E1 m c main_v24 (ix3 b s j) = Spec.z (args m c) b s.val ⟨2816 + j.val, by omega⟩ := by
  refine Eq.trans ?_ (z_eq m c b s ⟨2816 + j.val, by omega⟩)
  simp only [E1, hostOps0]
  after_results_simp
  pointwise

theorem zero_word : (FloatOps.sitofp (F := Ideal) FTy.f32 (0#32) : EReal) = 0 := by
  show ((((0#32 : BitVec 32).toInt : ℤ) : ℝ) : EReal) = 0
  simp

theorem c_eq : E1 m c main_c = constantI S_ 32 0#32 := by
  simp only [E1, hostOps0]
  after_results_simp

theorem v25_eq (b : Fin 4) (s : Fin 8192) (j : Fin 128) :
    E2 m c main_v25 (ix3 b s j) = if h : j.val < 24 then Spec.z (args m c) b s.val ⟨2816 + j.val, by omega⟩ else 0 := by
  simp only [E2, hostOps0_1]
  after_results_simp
  have e : ∀ (x : Vec Ideal S4x8192x24 .f32) (i : IVec S_ 32) (hi : i = constantI S_ 32 0#32),
      (pad S4x8192x128 ![0, 0, 0] ![0, 0, 104] ![0, 0, 0] x (sitofp (F := Ideal) FTy.f32 i)
        pads_S4x8192x24_S4x8192x128_000_000_01040 h_S_ : Vec Ideal S4x8192x128 .f32) (ix3 b s j)
      = if h : j.val < 24 then x (ix3 b s ⟨j.val, h⟩) else (0 : EReal) := by
    intro x i hi
    subst hi
    pointwise
    split
    · rfl
    · exact zero_word
  refine (e _ _ (c_eq m c)).trans ?_
  by_cases h : j.val < 24
  · rw [dif_pos h, dif_pos h]; exact v24_eq m c b s ⟨j.val, h⟩
  · rw [dif_neg h, dif_neg h]

/-! ## The five results that are parts of the projection -/

theorem v33_eq (b : Fin 4) (j : Fin 128) (s : Fin 8192) : E3 m c main_v33 (ix3 b j s) = Spec.z (args m c) b s.val ⟨1920 + j.val, by omega⟩ := by
  refine Eq.trans ?_ (v20_eq m c b s j)
  rw [← E2_keep m c main_v20 (by decide)]
  simp only [E3, hostOps0_2]
  after_results_simp
  pointwise

theorem v35_eq (b : Fin 4) (j : Fin 128) (s : Fin 8192) : E3 m c main_v35 (ix3 b j s) = Spec.z (args m c) b s.val ⟨2176 + j.val, by omega⟩ := by
  refine Eq.trans ?_ (v22_eq m c b s j)
  rw [← E2_keep m c main_v22 (by decide)]
  simp only [E3, hostOps0_2]
  after_results_simp
  pointwise

theorem v36_eq (b : Fin 4) (j : Fin 128) (s : Fin 8192) : E3 m c main_v36 (ix3 b j s) =
    Ideal.logistic (if h : j.val < 24 then Spec.z (args m c) b s.val ⟨2816 + j.val, by omega⟩ else 0) := by
  refine Eq.trans ?_ (congrArg Ideal.logistic (v25_eq m c b s j))
  simp only [E3, hostOps0_2]
  after_results_simp
  pointwise
  rfl

theorem v38_eq (r : Fin 32768) (j : Fin 256) : E3 m c main_v38 (ix2 r j) =
    Spec.z (args m c) ⟨r.val / 8192, by omega⟩ (r.val % 8192) ⟨1536 + j.val, by omega⟩ := by
  have h17 : ∀ b s j, E2 m c main_v17 (ix3 b s j) = Spec.z (args m c) b s.val ⟨1536 + j.val, by omega⟩ := fun b s j =>
    (congrFun (E2_keep m c main_v17 (by decide)) _).trans (v17_eq m c b s j)
  have h18 : ∀ b s j, E2 m c main_v18 (ix3 b s j) = Spec.z (args m c) b s.val ⟨1664 + j.val, by omega⟩ := fun b s j =>
    (congrFun (E2_keep m c main_v18 (by decide)) _).trans (v18_eq m c b s j)
  simp only [E3, hostOps0_2]
  after_results_simp
  pointwise
  after_results_simp
  by_cases h : j.val < 128
  · rw [dif_pos h]; exact h17 _ _ _
  · rw [dif_neg h]
    refine (h18 _ _ _).trans (congrArg (Spec.z _ _ _) (Fin.ext ?_))
    show 1664 + (j.val - 128) = 1536 + j.val
    omega

theorem v39_eq (r : Fin 32768) (j : Fin 512) : E3 m c main_v39 (ix2 r j) =
    Spec.z (args m c) ⟨r.val / 8192, by omega⟩ (r.val % 8192) ⟨2304 + j.val, by omega⟩ := by
  refine Eq.trans ?_ (v23_eq m c ⟨r.val / 8192, by omega⟩ ⟨r.val % 8192, by omega⟩ j)
  rw [← E2_keep m c main_v23 (by decide)]
  simp only [E3, hostOps0_2]
  after_results_simp
  pointwise

/-! ## The recurrent part -/

theorem c4_eq : E3 m c main_c_4 = constantI S_ 32 0#32 := by
  simp only [E3, hostOps0_2]
  after_results_simp

theorem v40_eq (b : Fin 4) (s : Fin 8195) (j : Fin 512) :
    E4 m c main_v40 (ix3 b s j) = if 3 ≤ s.val then Spec.rgx (args m c) b (s.val - 3) j else 0 := by
  have h14 : ∀ s, E3 m c main_v14 (ix3 b s j) = Spec.rgx (args m c) b s.val j := fun s =>
    (congrFun ((E3_keep m c main_v14 (by decide)).trans (E2_keep m c main_v14 (by decide))) _).trans (v14_eq m c b s j)
  simp only [E4, hostOps0_3]
  after_results_simp
  have e : ∀ (x : Vec Ideal S4x8192x512 .f32) (i : IVec S_ 32) (hi : i = constantI S_ 32 0#32),
      (pad S4x8195x512 ![0, 3, 0] ![0, 0, 0] ![0, 0, 0] x (sitofp (F := Ideal) FTy.f32 i)
        pads_S4x8192x512_S4x8195x512_000_300_000 h_S_ : Vec Ideal S4x8195x512 .f32) (ix3 b s j)
      = if h : 3 ≤ s.val then x (ix3 b ⟨s.val - 3, by omega⟩ j) else (0 : EReal) := by
    intro x i hi
    subst hi
    pointwise
    by_cases h : 3 ≤ s.val
    · rw [dif_pos ⟨h, by omega⟩, dif_pos h]
    · rw [dif_neg (fun h' => h h'.1), dif_neg h]; exact zero_word
  refine (e _ _ (c4_eq m c)).trans ?_
  by_cases h : 3 ≤ s.val
  · rw [dif_pos h, if_pos h]; exact h14 ⟨s.val - 3, by omega⟩
  · rw [dif_neg h, if_neg h]

theorem arg3_eq (k : Fin 4) (j : Fin 512) : E4 m c main_arg3 (ix2 k j) = (args m c).cw k j :=
  congrFun ((E4_keep m c main_arg3 (by decide)).trans ((E3_keep m c main_arg3 (by decide)).trans
    ((E2_keep m c main_arg3 (by decide)).trans (E1_keep m c main_arg3 (by decide))))) _
theorem arg4_eq (j : Fin 512) : E4 m c main_arg4 (ix1 j) = (args m c).cb j :=
  congrFun ((E4_keep m c main_arg4 (by decide)).trans ((E3_keep m c main_arg4 (by decide)).trans
    ((E2_keep m c main_arg4 (by decide)).trans (E1_keep m c main_arg4 (by decide))))) _
theorem arg5_eq (n : Fin 8) (k j : Fin 64) : E4 m c main_arg5 (ix3 n k j) = (args m c).wr n k j :=
  congrFun ((E4_keep m c main_arg5 (by decide)).trans ((E3_keep m c main_arg5 (by decide)).trans
    ((E2_keep m c main_arg5 (by decide)).trans (E1_keep m c main_arg5 (by decide))))) _
theorem arg6_eq (j : Fin 512) : E4 m c main_arg6 (ix1 j) = (args m c).br j :=
  congrFun ((E4_keep m c main_arg6 (by decide)).trans ((E3_keep m c main_arg6 (by decide)).trans
    ((E2_keep m c main_arg6 (by decide)).trans (E1_keep m c main_arg6 (by decide))))) _
theorem arg7_eq (n : Fin 8) (k j : Fin 64) : E4 m c main_arg7 (ix3 n k j) = (args m c).wi n k j :=
  congrFun ((E4_keep m c main_arg7 (by decide)).trans ((E3_keep m c main_arg7 (by decide)).trans
    ((E2_keep m c main_arg7 (by decide)).trans (E1_keep m c main_arg7 (by decide))))) _
theorem arg8_eq (j : Fin 512) : E4 m c main_arg8 (ix1 j) = (args m c).bi j :=
  congrFun ((E4_keep m c main_arg8 (by decide)).trans ((E3_keep m c main_arg8 (by decide)).trans
    ((E2_keep m c main_arg8 (by decide)).trans (E1_keep m c main_arg8 (by decide))))) _
theorem arg9_eq (j : Fin 512) : E4 m c main_arg9 (ix1 j) = (args m c).lam j :=
  congrFun ((E4_keep m c main_arg9 (by decide)).trans ((E3_keep m c main_arg9 (by decide)).trans
    ((E2_keep m c main_arg9 (by decide)).trans (E1_keep m c main_arg9 (by decide))))) _

/-- The padded input under the convolution's tap: `k` positions back. -/
theorem tap_eq (b : Fin 4) (s : Fin 8192) (j : Fin 512) (k : ℕ) (h : 3 - k + s.val < 8195) (hk : k ≤ 3) :
    E4 m c main_v40 (ix3 b ⟨3 - k + s.val, h⟩ j) = Spec.tap (args m c) b k s.val j := by
  rw [v40_eq, Spec.tap]
  show (if 3 ≤ 3 - k + s.val then Spec.rgx (args m c) b (3 - k + s.val - 3) j else 0) = _
  by_cases hs : k ≤ s.val
  · rw [if_pos hs, if_pos (by omega), show 3 - k + s.val - 3 = s.val - k by omega]
  · rw [if_neg hs, if_neg (by omega)]

theorem v72_eq (b : Fin 4) (s : Fin 8192) (j : Fin 512) : E5 m c main_v72 (ix3 b s j) = Spec.conv (args m c) b s.val j := by
  have t3 := tap_eq m c b s j 3 (by omega) (by omega)
  have t2 := tap_eq m c b s j 2 (by omega) (by omega)
  have t1 := tap_eq m c b s j 1 (by omega) (by omega)
  have t0 : E4 m c main_v40 (ix3 b ⟨3 + s.val, by omega⟩ j) = Spec.rgx (args m c) b s.val j :=
    (tap_eq m c b s j 0 (by omega) (by omega)).trans (by rw [Spec.tap, if_pos (by omega), Nat.sub_zero])
  have e : E5 m c main_v72 (ix3 b s j) =
      (((Spec.tap (args m c) b 3 s.val j * (args m c).cw 0 j + Spec.tap (args m c) b 2 s.val j * (args m c).cw 1 j
        + Spec.tap (args m c) b 1 s.val j * (args m c).cw 2 j + Spec.rgx (args m c) b s.val j * (args m c).cw 3 j) + (args m c).cb j) : EReal) := by
    rw [← t3, ← t2, ← t1, ← t0]
    simp only [← arg3_eq, ← arg4_eq]
    simp only [E5, hostOps0_4]
    after_results_simp
    pointwise
  rw [e, Spec.conv]
  ac_rfl

theorem one_div (x : EReal) : Ideal.div 1 (1 + Ideal.exp (-x)) = Ideal.logistic x := rfl

theorem v85_eq (b : Fin 4) (s : Fin 8192) (j : Fin 512) :
    E5 m c main_v85 (ix3 b s j) = Spec.gate (args m c) b (args m c).wr (args m c).br s.val j := by
  have e : ∀ (w q : Fin 64 → EReal) (hw : w = fun k => E4 m c main_arg5 (ix3 ⟨j.val / 64, by omega⟩ k ⟨j.val % 64, by omega⟩))
      (hq : q = fun k => E5 m c main_v72 (ix3 b s ⟨j.val / 64 * 64 + k.val, by omega⟩)),
      E5 m c main_v85 (ix3 b s j) = (Ideal.div 1 (1 + Ideal.exp (-((∑ k, w k * q k) + E4 m c main_arg6 (ix1 j)))) : EReal) := by
    intro w q hw hq
    subst hw hq
    simp only [E5, hostOps0_4]
    after_results_simp
    pointwise
  refine (e _ _ rfl rfl).trans ((one_div _).trans ?_)
  rw [Spec.gate, arg6_eq]
  refine congrArg (fun q => Ideal.logistic (q + (args m c).br j)) (Finset.sum_congr rfl fun k _ => ?_)
  rw [arg5_eq, v72_eq, mul_comm]
  refine congrArg (fun q => Spec.conv (args m c) b s.val q * (args m c).wr _ _ _) (Fin.ext ?_)
  show j.val / 64 * 64 + k.val = 64 * (j.val / 64) + k.val
  omega

theorem v97_eq (b : Fin 4) (s : Fin 8192) (j : Fin 512) :
    E5 m c main_v97 (ix3 b s j) = Spec.gate (args m c) b (args m c).wi (args m c).bi s.val j := by
  have e : ∀ (w q : Fin 64 → EReal) (hw : w = fun k => E4 m c main_arg7 (ix3 ⟨j.val / 64, by omega⟩ k ⟨j.val % 64, by omega⟩))
      (hq : q = fun k => E5 m c main_v72 (ix3 b s ⟨j.val / 64 * 64 + k.val, by omega⟩)),
      E5 m c main_v97 (ix3 b s j) = (Ideal.div 1 (1 + Ideal.exp (-((∑ k, w k * q k) + E4 m c main_arg8 (ix1 j)))) : EReal) := by
    intro w q hw hq
    subst hw hq
    simp only [E5, hostOps0_4]
    after_results_simp
    pointwise
  refine (e _ _ rfl rfl).trans ((one_div _).trans ?_)
  rw [Spec.gate, arg8_eq]
  refine congrArg (fun q => Ideal.logistic (q + (args m c).bi j)) (Finset.sum_congr rfl fun k _ => ?_)
  rw [arg7_eq, v72_eq, mul_comm]
  refine congrArg (fun q => Spec.conv (args m c) b s.val q * (args m c).wi _ _ _) (Fin.ext ?_)
  show j.val / 64 * 64 + k.val = 64 * (j.val / 64) + k.val
  omega

theorem v99_eq (b : Fin 4) (s : Fin 8192) (j : Fin 512) :
    E5 m c main_v99 (ix3 b s j) = (Ideal.ofBits .f32 0xC1000000#32 * Spec.gate (args m c) b (args m c).wr (args m c).br s.val j : EReal) := by
  rw [← v85_eq]
  simp only [E5, hostOps0_4]
  after_results_simp
  pointwise

theorem v100_eq (j : Fin 512) : E5 m c main_v100 (ix1 j) = (-(args m c).lam j : EReal) := by
  rw [← arg9_eq]
  simp only [E5, hostOps0_4]
  after_results_simp
  pointwise

theorem v101_eq (j : Fin 512) : E6 m c main_v101 (ix1 j) = Spec.sp (args m c) j := by
  simp only [E6, hostOps0_5]
  after_results_simp
  have e : ∀ (x : Vec Ideal S512 .f32) (v : EReal) (hx : x (ix1 j) = v),
      (select (cmpf .une (subf x (broadcastInDim S512 ![] bcast_S_S512 (constant (F := Ideal) S_ FTy.f32 0#32)))
          (subf x (broadcastInDim S512 ![] bcast_S_S512 (constant (F := Ideal) S_ FTy.f32 0#32))))
        (addf x (broadcastInDim S512 ![] bcast_S_S512 (constant (F := Ideal) S_ FTy.f32 0#32)))
        (addf (maximumf x (broadcastInDim S512 ![] bcast_S_S512 (constant (F := Ideal) S_ FTy.f32 0#32)))
          (Host.log1p (Host.exp (Host.negf (Host.absf (subf x (broadcastInDim S512 ![] bcast_S_S512 (constant (F := Ideal) S_ FTy.f32 0#32)))))))) :
          Vec Ideal S512 .f32) (ix1 j) = (RgMath.softplus v (0 - FloatOps.absf (F := Ideal) (φ := .f32) v) : EReal) := by
    intro x v hx
    pointwise
    rw [if_neg (fun h => h rfl), hx, RgMath.softplus, zero_sub]
  refine (e (E5 m c main_v100) _ (v100_eq m c j)).trans ?_
  rw [Spec.sp, zero_sub (Spec.Args.lam _ _)]

theorem la_eq (b : Fin 4) (s : Fin 8192) (j : Fin 512) :
    E7 m c main_v104 (ix3 b s j) = Spec.la (args m c) b s.val j := by
  have h99 : E6 m c main_v99 (ix3 b s j) = _ := (congrFun (E6_keep m c main_v99 (by decide)) _).trans (v99_eq m c b s j)
  rw [Spec.la, ← v101_eq]
  refine Eq.trans ?_ (congrArg (fun q : EReal => q * _) h99)
  simp only [E7, hostOps0_6]
  after_results_simp
  pointwise

theorem v105_eq (b : Fin 4) (s : Fin 8192) (j : Fin 512) :
    E7 m c main_v105 (ix3 b s j) = Spec.dec (args m c) b j s.val := by
  rw [Spec.dec, ← la_eq]
  simp only [E7, hostOps0_6]
  after_results_simp
  pointwise

theorem ofBits_two : Ideal.ofBits .f32 0x40000000#32 = (2 : EReal) := by
  have e : Ideal.ofBits .f32 0x40000000#32 = ((2 : ℝ) : EReal) := by
    simp [Ideal.ofBits, Ideal.ieee, -EReal.coe_mul, -EReal.coe_neg]; norm_num
  exact e

theorem v112_eq (b : Fin 4) (s : Fin 8192) (j : Fin 512) :
    E7 m c main_v112 (ix3 b s j) = Spec.add (args m c) b j s.val := by
  have h97 : E6 m c main_v97 (ix3 b s j) = _ := (congrFun (E6_keep m c main_v97 (by decide)) _).trans (v97_eq m c b s j)
  have h72 : E6 m c main_v72 (ix3 b s j) = _ := (congrFun (E6_keep m c main_v72 (by decide)) _).trans (v72_eq m c b s j)
  rw [Spec.add, ← la_eq, ← h97, ← h72, ← ofBits_two]
  simp only [E7, hostOps0_6]
  after_results_simp
  pointwise
  rfl

theorem v113_eq (b : Fin 4) (s : Fin 8192) (j : Fin 512) :
    E8 m c main_v113 (ix3 b s j) = (Spec.rgg (args m c) b s.val j * Ideal.logistic (Spec.rgg (args m c) b s.val j) : EReal) := by
  have h15 : E7 m c main_v15 (ix3 b s j) = Spec.rgg (args m c) b s.val j :=
    (congrFun ((E7_keep m c main_v15 (by decide)).trans ((E6_keep m c main_v15 (by decide)).trans ((E5_keep m c main_v15 (by decide)).trans
      ((E4_keep m c main_v15 (by decide)).trans ((E3_keep m c main_v15 (by decide)).trans (E2_keep m c main_v15 (by decide))))))) _).trans (v15_eq m c b s j)
  simp only [E8, hostOps0_7]
  after_results_simp
  have e : ∀ (x : Vec Ideal S4x8192x512 .f32) (v : EReal) (hx : x (ix3 b s j) = v),
      (mulf x (Host.divf (broadcastInDim S4x8192x512 ![] bcast_S_S4x8192x512 (constant (F := Ideal) S_ FTy.f32 0x3F800000#32))
        (addf (broadcastInDim S4x8192x512 ![] bcast_S_S4x8192x512 (constant (F := Ideal) S_ FTy.f32 0x3F800000#32)) (Host.exp (Host.negf x)))) :
        Vec Ideal S4x8192x512 .f32) (ix3 b s j) = (v * Ideal.logistic v : EReal) := by
    intro x v hx
    pointwise
    rw [hx]
    rfl
  exact e (E7 m c main_v15) _ h15

/-! ## The loop's buffers before its first trip -/

theorem a_entry (b : Fin 4) (s : Fin 8192) (j : Fin 512) : E9 m c main_v116_0 (ix3 b s j) = Spec.dec (args m c) b j s.val := by
  refine Eq.trans ?_ ((congrFun (E8_keep m c main_v105 (by decide)) _).trans (v105_eq m c b s j))
  simp only [E9, hostOps0_8]
  after_results_simp
  simp only [id]

theorem u_entry (b : Fin 4) (s : Fin 8192) (j : Fin 512) : E9 m c main_v116_1 (ix3 b s j) = Spec.add (args m c) b j s.val := by
  refine Eq.trans ?_ ((congrFun (E8_keep m c main_v112 (by decide)) _).trans (v112_eq m c b s j))
  simp only [E9, hostOps0_8]
  after_results_simp
  simp only [id]

theorem g_entry (b : Fin 4) (s : Fin 8192) (j : Fin 512) : E9 m c main_v116_2 (ix3 b s j) =
    (Spec.rgg (args m c) b s.val j * Ideal.logistic (Spec.rgg (args m c) b s.val j) : EReal) := by
  refine Eq.trans ?_ (v113_eq m c b s j)
  simp only [E9, hostOps0_8]
  after_results_simp
  simp only [id]

theorem t_entry : E9 m c main_v116_4 = fun _ => BitVec.ofNat 32 0 := by
  simp only [E9, hostOps0_8]
  after_results_simp
  rfl

theorem h_entry (b : Fin 4) (j : Fin 512) : E9 m c main_v116_5 (ix3 b 0 j) = (0 : EReal) := by
  simp only [E9, hostOps0_8]
  after_results_simp
  simp only [id]
  pointwise

end Cert.ReferenceIdeal.Ref
-- ==== Proof.RefLoop.lean ====
module

public import proofs.«01_k».proof.Proof.RefVal

@[expose] public section

set_option maxRecDepth 16384

/-! The reference's loop: after `k` trips the state is the recurrence's after `k` steps, and the first `k` rows of the output
    are the gated rows. With it the six results. -/
namespace Cert.ReferenceIdeal.Ref

open Idealize.ShloMosaic Cert.ReferenceIdeal.Gen Cert.ReferenceIdeal.Value Idealize.ShloMosaic.TcCoe Idealize.ShloMosaic.StableHlo

variable (m : (ℓ : Loc nD τ sig) → Buf (Elt Ideal) ℓ) (c : Dev nD)

/-- Where a trip's slices start: the trip's number, on the second axis. -/
def starts (i : IVec S_ 32) : Fin 3 → Int := fun k => (((![constantI S_ 32 0#32, select (cmpi .slt i (constantI S_ 32 0#32)) (addi (id i) (constantI S_ 32 8192#32)) i, constantI S_ 32 0#32] : Fin 3 → (⟨S_, .i32⟩ : BufTy).Contents (Elt Ideal))) k (Shape.Idx.first h_S_)).toInt

theorem starts_eq (k : ℕ) (hk : k < 8192) : ∀ a, starts (fun _ => BitVec.ofNat 32 k) a = ((![0, k, 0] : Fin 3 → ℕ) a : Int) := by
  intro a
  fin_cases a
  · rfl
  · exact toInt_wrap_ofNat k (by omega)
  · rfl

theorem slices_at (k : ℕ) (hk : k < 8192) : S4x8192x512.Slices ![0, k, 0] S4x1x512 :=
  ⟨rfl, fun a => by fin_cases a <;> simp [S4x8192x512, S4x1x512] <;> omega⟩

theorem slice_at (x : Vec Ideal S4x8192x512 .f32) (k : ℕ) (hk : k < 8192) (b : Fin 4) (j : Fin 512) :
    Host.dynamicSlice S4x1x512 x (starts (fun _ => BitVec.ofNat 32 k)) sliceFits_S4x8192x512_S4x1x512 (ix3 b 0 j) = x (ix3 b ⟨k, hk⟩ j) := by
  rw [Host.dynamicSlice_eq_extractStridedSlice S4x1x512 x _ ![0, k, 0] _ (slices_at k hk) (starts_eq k hk)]
  pointwise

theorem update_at (x : Vec Ideal S4x8192x512 .f32) (u : Vec Ideal S4x1x512 .f32) (k : ℕ) (hk : k < 8192) (b : Fin 4) (s : Fin 8192) (j : Fin 512) :
    Host.dynamicUpdateSlice x u (starts (fun _ => BitVec.ofNat 32 k)) updateFits_S4x8192x512_S4x1x512 (ix3 b s j) =
      if s.val = k then u (ix3 b 0 j) else x (ix3 b s j) := by
  rw [Host.dynamicUpdateSlice_eq_updateSlice x u _ _ ![0, k, 0] (fun a => by
    rw [starts_eq k hk a]; fin_cases a <;> simp [S4x8192x512, S4x1x512] <;> omega) (slices_at k hk)]
  pointwise
  by_cases hs : s.val = k
  · rw [dif_pos ⟨by omega, by omega⟩, if_pos hs]
    exact congrArg (fun q : Fin 1 => u (ix3 b q j)) (Subsingleton.elim _ _)
  · rw [dif_neg (by omega), if_neg hs]

/-- A trip's contents from those before it. -/
theorem atK_succ (k : ℕ) : atK m (k + 1) c = afterL bodyI (after condOps (atK m k c)) := rfl

theorem t_at : ∀ k, k ≤ 8192 → atK m k c main_v116_4 = fun _ => BitVec.ofNat 32 k
  | 0, _ => t_entry m c
  | k + 1, h => by
    rw [atK_succ]
    refine (trip_main_v116_4 _).trans ?_
    rw [cond_keeps (atK m k c) main_v116_4 (by decide), t_at k (by omega)]
    funext i
    show BitVec.ofNat 32 k + 1#32 = BitVec.ofNat 32 (k + 1)
    rw [BitVec.ofNat_add]

theorem a_at : ∀ k, atK m k c main_v116_0 = E9 m c main_v116_0
  | 0 => rfl
  | k + 1 => by
    rw [atK_succ]
    refine (trip_main_v116_0 _).trans ?_
    rw [cond_keeps (atK m k c) main_v116_0 (by decide), a_at k]

theorem u_at : ∀ k, atK m k c main_v116_1 = E9 m c main_v116_1
  | 0 => rfl
  | k + 1 => by
    rw [atK_succ]
    refine (trip_main_v116_1 _).trans ?_
    rw [cond_keeps (atK m k c) main_v116_1 (by decide), u_at k]

theorem g_at : ∀ k, atK m k c main_v116_2 = E9 m c main_v116_2
  | 0 => rfl
  | k + 1 => by
    rw [atK_succ]
    refine (trip_main_v116_2 _).trans ?_
    rw [cond_keeps (atK m k c) main_v116_2 (by decide), g_at k]

/-- One step of the recurrence, as a trip takes it. -/
theorem row_at (V0 : Valuation τ sig (Elt Ideal)) (k : ℕ) (hk : k < 8192) (ht : V0 main_v116_4 = fun _ => BitVec.ofNat 32 k)
    (h0 : V0 main_v116_0 = E9 m c main_v116_0) (h1 : V0 main_v116_1 = E9 m c main_v116_1) (b : Fin 4) (j : Fin 512)
    (h5 : V0 main_v116_5 (ix3 b 0 j) = Spec.state (args m c) b j k) :
    res_main_while0b_v285 V0 (ix3 b 0 j) = Spec.state (args m c) b j (k + 1) := by
  have ha := (slice_at (E9 m c main_v116_0) k hk b j).trans (a_entry m c b ⟨k, hk⟩ j)
  have hu := (slice_at (E9 m c main_v116_1) k hk b j).trans (u_entry m c b ⟨k, hk⟩ j)
  have e : ∀ (a u : Vec Ideal S4x8192x512 .f32) (h : Vec Ideal S4x1x512 .f32) (t : IVec S_ 32), V0 main_v116_0 = a → V0 main_v116_1 = u →
      V0 main_v116_5 = h → V0 main_v116_4 = t → res_main_while0b_v285 V0 (ix3 b 0 j) =
        (Host.dynamicSlice S4x1x512 a (starts t) sliceFits_S4x8192x512_S4x1x512 (ix3 b 0 j) * h (ix3 b 0 j)
          + Host.dynamicSlice S4x1x512 u (starts t) sliceFits_S4x8192x512_S4x1x512 (ix3 b 0 j) : EReal) := by
    intro a u h t ea eu eh et
    subst ea eu eh et
    unfold res_main_while0b_v285
    rfl
  exact (e _ _ _ _ h0 h1 rfl ht).trans (congrArg₂ (fun p q : EReal => p + q) (congrArg₂ (fun p q : EReal => p * q) ha h5) hu)

theorem h_at (b : Fin 4) (j : Fin 512) : ∀ k, k ≤ 8192 → atK m k c main_v116_5 (ix3 b 0 j) = Spec.state (args m c) b j k
  | 0, _ => h_entry m c b j
  | k + 1, h => by
    rw [atK_succ]
    refine (congrFun (trip_main_v116_5 _) _).trans ?_
    refine row_at m c _ k (by omega) ?_ ?_ ?_ b j ?_
    · rw [cond_keeps (atK m k c) main_v116_4 (by decide), t_at m c k (by omega)]
    · rw [cond_keeps (atK m k c) main_v116_0 (by decide), a_at m c k]
    · rw [cond_keeps (atK m k c) main_v116_1 (by decide), u_at m c k]
    · rw [cond_keeps (atK m k c) main_v116_5 (by decide), h_at b j k (by omega)]

theorem y_at (b : Fin 4) (s : Fin 8192) (j : Fin 512) : ∀ k, k ≤ 8192 → s.val < k → atK m k c main_v116_6 (ix3 b s j) = Spec.ya (args m c) b s.val j
  | 0, _, hs => by omega
  | k + 1, h, hs => by
    have t4 : after condOps (atK m k c) main_v116_4 = fun _ => BitVec.ofNat 32 k := by
      rw [cond_keeps (atK m k c) main_v116_4 (by decide), t_at m c k (by omega)]
    have t2 : after condOps (atK m k c) main_v116_2 = E9 m c main_v116_2 := by
      rw [cond_keeps (atK m k c) main_v116_2 (by decide), g_at m c k]
    have t6 : after condOps (atK m k c) main_v116_6 = atK m k c main_v116_6 := cond_keeps (atK m k c) main_v116_6 (by decide)
    have hr := row_at m c (after condOps (atK m k c)) k (by omega) t4
      ((cond_keeps (atK m k c) main_v116_0 (by decide)).trans (a_at m c k)) ((cond_keeps (atK m k c) main_v116_1 (by decide)).trans (u_at m c k)) b j
      ((congrFun (cond_keeps (atK m k c) main_v116_5 (by decide)) _).trans (h_at m c b j k (by omega)))
    have hg := (slice_at (E9 m c main_v116_2) k (by omega) b j).trans (g_entry m c b ⟨k, by omega⟩ j)
    rw [atK_succ]
    have e : ∀ V0 : Valuation τ sig (Elt Ideal), afterL bodyI V0 main_v116_6 = Host.dynamicUpdateSlice (V0 main_v116_6) (mulf (res_main_while0b_v285 V0)
        (Host.dynamicSlice S4x1x512 (V0 main_v116_2) (starts (V0 main_v116_4)) sliceFits_S4x8192x512_S4x1x512)) (starts (V0 main_v116_4))
          updateFits_S4x8192x512_S4x1x512 := fun V0 => trip_main_v116_6 V0
    refine (congrFun (e _) _).trans ?_
    rw [t4, t2, t6]
    refine (update_at _ _ k (by omega) b s j).trans ?_
    by_cases hsk : s.val = k
    · rw [if_pos hsk]
      refine (congrArg₂ (fun p q : EReal => p * q) hr hg).trans ?_
      rw [Spec.ya, hsk]
    · rw [if_neg hsk]; exact y_at b s j k (by omega) (by omega)

/-! ## The results -/

theorem res_ya (r : Fin 32768) (j : Fin 512) : finalContents condOps preI bodyI postI 8192 m c main_v170 (ix2 r j) =
    Spec.ya (args m c) ⟨r.val / 8192, by omega⟩ (r.val % 8192) j := by
  refine Eq.trans ?_ (y_at m c ⟨r.val / 8192, by omega⟩ ⟨r.val % 8192, by omega⟩ j 8192 (le_refl _) (Nat.mod_lt _ (by decide)))
  rw [← cond_keeps (atK m 8192 c) main_v116_6 (by decide)]
  show after hostOps0_9 (after condOps (atK m 8192 c)) main_v170 (ix2 r j) = _
  simp only [hostOps0_9]
  after_results_simp
  pointwise

/-- A result the loop does not touch. -/
theorem res_keep (r : Ref sig .tc) (h1 : r ∉ condOps_W) (h2 : r ∉ while0Ops0_W) (h3 : r ∉ hostOps0_9_W)
    (h : r ∉ hostOps0_3_W ++ (hostOps0_4_W ++ (hostOps0_5_W ++ (hostOps0_6_W ++ (hostOps0_7_W ++ hostOps0_8_W))))) :
    finalContents condOps preI bodyI postI 8192 m c (Proc.devRef .tc r) = E3 m c (Proc.devRef .tc r) := by
  simp only [List.mem_append, not_or] at h
  obtain ⟨g3, g4, g5, g6, g7, g8⟩ := h
  rw [final_keep m c r h1 h2 h3, E9_keep m c r g8, E8_keep m c r g7, E7_keep m c r g6, E6_keep m c r g5, E5_keep m c r g4, E4_keep m c r g3]

theorem res_vst (b : Fin 4) (j : Fin 128) (s : Fin 8192) : finalContents condOps preI bodyI postI 8192 m c main_v33 (ix3 b j s) =
    Spec.z (args m c) b s.val ⟨1920 + j.val, by omega⟩ :=
  (congrFun (res_keep m c main_v33 (by decide) (by decide) (by decide) (by decide)) _).trans (v33_eq m c b j s)
theorem res_vwt (b : Fin 4) (j : Fin 128) (s : Fin 8192) : finalContents condOps preI bodyI postI 8192 m c main_v35 (ix3 b j s) =
    Spec.z (args m c) b s.val ⟨2176 + j.val, by omega⟩ :=
  (congrFun (res_keep m c main_v35 (by decide) (by decide) (by decide) (by decide)) _).trans (v35_eq m c b j s)
theorem res_gt (b : Fin 4) (j : Fin 128) (s : Fin 8192) : finalContents condOps preI bodyI postI 8192 m c main_v36 (ix3 b j s) =
    Ideal.logistic (if h : j.val < 24 then Spec.z (args m c) b s.val ⟨2816 + j.val, by omega⟩ else 0) :=
  (congrFun (res_keep m c main_v36 (by decide) (by decide) (by decide) (by decide)) _).trans (v36_eq m c b j s)
theorem res_kcvc (r : Fin 32768) (j : Fin 256) : finalContents condOps preI bodyI postI 8192 m c main_v38 (ix2 r j) =
    Spec.z (args m c) ⟨r.val / 8192, by omega⟩ (r.val % 8192) ⟨1536 + j.val, by omega⟩ :=
  (congrFun (res_keep m c main_v38 (by decide) (by decide) (by decide) (by decide)) _).trans (v38_eq m c r j)
theorem res_ng (r : Fin 32768) (j : Fin 512) : finalContents condOps preI bodyI postI 8192 m c main_v39 (ix2 r j) =
    Spec.z (args m c) ⟨r.val / 8192, by omega⟩ (r.val % 8192) ⟨2304 + j.val, by omega⟩ :=
  (congrFun (res_keep m c main_v39 (by decide) (by decide) (by decide) (by decide)) _).trans (v39_eq m c r j)

end Cert.ReferenceIdeal.Ref
-- ==== Proof.RefHeads.lean ====
module

public import proofs.«01_k».proof.Proof.RefLoop
public import proofs.«01_k».proof.Proof.SpecHeads

@[expose] public section

set_option maxRecDepth 16384

/-! The reference's query and its two keys, entry by entry. -/
namespace Cert.ReferenceIdeal.Ref

open Idealize.ShloMosaic Cert.ReferenceIdeal.Gen Cert.ReferenceIdeal.Value Idealize.ShloMosaic.TcCoe Idealize.ShloMosaic.StableHlo

variable (m : (ℓ : Loc nD τ sig) → Buf (Elt Ideal) ℓ) (c : Dev nD)

/-- The rotation of a normalised head in its three ranges. -/
theorem rope_low (y : ℕ → EReal) (s d : ℕ) (h : d < 8) :
    Spec.rope y s d = y d * Ideal.cos (Spec.ang s d) - y (8 + d) * Ideal.sin (Spec.ang s d) := by
  rw [Spec.rope, if_pos h, Nat.add_comm d 8]
theorem rope_mid (y : ℕ → EReal) (s d : ℕ) (h : ¬ d < 8) (h2 : d - 8 < 8) :
    Spec.rope y s d = y (8 + (d - 8)) * Ideal.cos (Spec.ang s (d - 8)) + y (d - 8) * Ideal.sin (Spec.ang s (d - 8)) := by
  rw [Spec.rope, if_neg h, if_pos (by omega), show 8 + (d - 8) = d by omega]
theorem rope_high (y : ℕ → EReal) (s d : ℕ) (h : ¬ d < 8) (h2 : ¬ d - 8 < 8) : Spec.rope y s d = y (16 + (d - 8 - 8)) := by
  rw [Spec.rope, if_neg h, if_neg (by omega), show 16 + (d - 8 - 8) = d by omega]

set_option maxHeartbeats 4000000 in
theorem v168_at (W : Valuation τ sig (Elt Ideal)) (b : Fin 4) (i : Fin 512) (s : Fin 8192) (Z G : ℕ → EReal)
    (hz : ∀ (n : ℕ) (h : n < 512), (W (Proc.tc.devRef main_v16) (ix3 b s ⟨n, h⟩) : EReal) = Z n)
    (hg : ∀ (n : ℕ) (h : n < 64), (W (Proc.tc.devRef main_arg10) (ix1 ⟨n, h⟩) : EReal) = G n) :
    (after hostOps0_9 W main_v168 (ix3 b i s) : EReal) = Spec.rope (Spec.headNorm (fun k => Z (i.val / 64 * 64 + k)) G) s.val (i.val % 64) * Ideal.ofBits FTy.f32 0x3E38AA3B#32 := by
  simp only [hostOps0_9]
  after_results_simp
  pointwise
  split
  · rename_i h
    rw [rope_low _ _ _ h]
    after_results_simp
    pointwise
    simp only [hz, hg]
    rfl
  · rename_i h
    split
    · rename_i h2
      rw [rope_mid _ _ _ h h2]
      after_results_simp
      pointwise
      simp only [hz, hg]
      rfl
    · rename_i h2
      rw [rope_high _ _ _ h h2]
      after_results_simp
      pointwise
      simp only [hz, hg]
      rfl

set_option maxHeartbeats 4000000 in
theorem v221_at (W : Valuation τ sig (Elt Ideal)) (b : Fin 4) (s : Fin 8192) (j : Fin 128) (Z G : ℕ → EReal)
    (hz : ∀ (n : ℕ) (h : n < 128), (W (Proc.tc.devRef main_v19) (ix3 b s ⟨n, h⟩) : EReal) = Z n)
    (hg : ∀ (n : ℕ) (h : n < 64), (W (Proc.tc.devRef main_arg11) (ix2 1 ⟨n, h⟩) : EReal) = G n) :
    (after hostOps0_9 W main_v221 (ix3 b s j) : EReal) = Spec.rope (Spec.headNorm (fun k => Z (j.val / 64 * 64 + k)) G) s.val (j.val % 64) := by
  simp only [hostOps0_9]
  after_results_simp
  pointwise
  split
  · rename_i h
    rw [rope_low _ _ _ h]
    after_results_simp
    pointwise
    simp only [hz, hg]
    rfl
  · rename_i h
    split
    · rename_i h2
      rw [rope_mid _ _ _ h h2]
      after_results_simp
      pointwise
      simp only [hz, hg]
      rfl
    · rename_i h2
      rw [rope_high _ _ _ h h2]
      after_results_simp
      pointwise
      simp only [hz, hg]
      rfl

set_option maxHeartbeats 4000000 in
theorem v272_at (W : Valuation τ sig (Elt Ideal)) (b : Fin 4) (s : Fin 8192) (j : Fin 128) (Z G : ℕ → EReal)
    (hz : ∀ (n : ℕ) (h : n < 128), (W (Proc.tc.devRef main_v21) (ix3 b s ⟨n, h⟩) : EReal) = Z n)
    (hg : ∀ (n : ℕ) (h : n < 64), (W (Proc.tc.devRef main_arg11) (ix2 2 ⟨n, h⟩) : EReal) = G n) :
    (after hostOps0_9 W main_v272 (ix3 b s j) : EReal) = Spec.rope (Spec.headNorm (fun k => Z (j.val / 64 * 64 + k)) G) s.val (j.val % 64) := by
  simp only [hostOps0_9]
  after_results_simp
  pointwise
  split
  · rename_i h
    rw [rope_low _ _ _ h]
    after_results_simp
    pointwise
    simp only [hz, hg]
    rfl
  · rename_i h
    split
    · rename_i h2
      rw [rope_mid _ _ _ h h2]
      after_results_simp
      pointwise
      simp only [hz, hg]
      rfl
    · rename_i h2
      rw [rope_high _ _ _ h h2]
      after_results_simp
      pointwise
      simp only [hz, hg]
      rfl

theorem v16_eq (b : Fin 4) (s : Fin 8192) (j : Fin 512) : E1 m c main_v16 (ix3 b s j) = Spec.zN (args m c) b s.val (1024 + j.val) := by
  refine Eq.trans ?_ ((z_eq m c b s ⟨1024 + j.val, by omega⟩).trans (Spec.zN_of (args m c) b s.val (1024 + j.val) (by omega)).symm)
  simp only [E1, hostOps0]
  after_results_simp
  pointwise

theorem v19_eq (b : Fin 4) (s : Fin 8192) (j : Fin 128) : E1 m c main_v19 (ix3 b s j) = Spec.zN (args m c) b s.val (1792 + j.val) := by
  refine Eq.trans ?_ ((z_eq m c b s ⟨1792 + j.val, by omega⟩).trans (Spec.zN_of (args m c) b s.val (1792 + j.val) (by omega)).symm)
  simp only [E1, hostOps0]
  after_results_simp
  pointwise

theorem v21_eq (b : Fin 4) (s : Fin 8192) (j : Fin 128) : E1 m c main_v21 (ix3 b s j) = Spec.zN (args m c) b s.val (2048 + j.val) := by
  refine Eq.trans ?_ ((z_eq m c b s ⟨2048 + j.val, by omega⟩).trans (Spec.zN_of (args m c) b s.val (2048 + j.val) (by omega)).symm)
  simp only [E1, hostOps0]
  after_results_simp
  pointwise

/-- What follows the loop reads a buffer of the first stretch. -/
theorem W_first (r : Ref sig .tc) (h1 : r ∉ condOps_W) (h2 : r ∉ while0Ops0_W)
    (h : r ∉ hostOps0_1_W ++ (hostOps0_2_W ++ (hostOps0_3_W ++ (hostOps0_4_W ++ (hostOps0_5_W ++ (hostOps0_6_W ++ (hostOps0_7_W ++ hostOps0_8_W))))))) :
    after condOps (atK m 8192 c) (Proc.devRef .tc r) = E1 m c (Proc.devRef .tc r) := by
  simp only [List.mem_append, not_or] at h
  obtain ⟨g1, g2, g3, g4, g5, g6, g7, g8⟩ := h
  refine ((after_of_writes_sub _ _ condOps_writes h1).trans (loop_keep m c r h1 h2 8192)).trans ?_
  rw [E9_keep m c r g8, E8_keep m c r g7, E7_keep m c r g6, E6_keep m c r g5, E5_keep m c r g4, E4_keep m c r g3, E3_keep m c r g2,
    E2_keep m c r g1]

/-- The gains: the query's, the selected keys' and the window's. -/
noncomputable def gainQ (k : ℕ) : EReal := m ((c : Thread nD τ).loc main_arg10) (ix1 ⟨k % 64, Nat.mod_lt _ (by decide)⟩)
noncomputable def gainS (k : ℕ) : EReal := m ((c : Thread nD τ).loc main_arg11) (ix2 1 ⟨k % 64, Nat.mod_lt _ (by decide)⟩)
noncomputable def gainW (k : ℕ) : EReal := m ((c : Thread nD τ).loc main_arg11) (ix2 2 ⟨k % 64, Nat.mod_lt _ (by decide)⟩)

theorem W_arg10 : after condOps (atK m 8192 c) main_arg10 = m ((c : Thread nD τ).loc main_arg10) :=
  (W_first m c main_arg10 (by decide) (by decide) (by decide)).trans (E1_keep m c main_arg10 (by decide))
theorem W_arg11 : after condOps (atK m 8192 c) main_arg11 = m ((c : Thread nD τ).loc main_arg11) :=
  (W_first m c main_arg11 (by decide) (by decide) (by decide)).trans (E1_keep m c main_arg11 (by decide))

/-- The columns of a head, by the head's first column. -/
theorem head_cols (A : Spec.Args) (b : Fin 4) (off i s d : ℕ) (g : ℕ → EReal) :
    Spec.rope (Spec.headNorm (fun k => Spec.zN A b s (off + (i / 64 * 64 + k))) g) s d = Spec.headAt A b (off + 64 * (i / 64)) g s d := by
  rw [Spec.headAt]
  refine congrArg (fun v => Spec.rope (Spec.headNorm v g) s d) (funext fun k => ?_)
  rw [Nat.mul_comm (i / 64) 64, Nat.add_assoc]

theorem res_qt (b : Fin 4) (i : Fin 512) (s : Fin 8192) : (finalContents condOps preI bodyI postI 8192 m c main_v168 (ix3 b i s) : EReal) =
    Spec.headAt (args m c) b (1024 + 64 * (i.val / 64)) (gainQ m c) s.val (i.val % 64) * Ideal.ofBits FTy.f32 0x3E38AA3B#32 := by
  refine (v168_at (after condOps (atK m 8192 c)) b i s (fun n => Spec.zN (args m c) b s.val (1024 + n)) (gainQ m c) (fun n h => ?_) (fun n h => ?_)).trans
    (congrArg (fun x : EReal => x * Ideal.ofBits FTy.f32 0x3E38AA3B#32) (head_cols (args m c) b 1024 i.val s.val (i.val % 64) (gainQ m c)))
  · exact (congrFun (W_first m c main_v16 (by decide) (by decide) (by decide)) _).trans (v16_eq m c b s ⟨n, h⟩)
  · refine (congrFun (W_arg10 m c) _).trans ?_
    simp only [gainQ, Nat.mod_eq_of_lt h]

theorem res_ks (b : Fin 4) (s : Fin 8192) (j : Fin 128) : (finalContents condOps preI bodyI postI 8192 m c main_v221 (ix3 b s j) : EReal) =
    Spec.headAt (args m c) b (1792 + 64 * (j.val / 64)) (gainS m c) s.val (j.val % 64) := by
  refine (v221_at (after condOps (atK m 8192 c)) b s j (fun n => Spec.zN (args m c) b s.val (1792 + n)) (gainS m c) (fun n h => ?_) (fun n h => ?_)).trans
    (head_cols (args m c) b 1792 j.val s.val (j.val % 64) (gainS m c))
  · exact (congrFun (W_first m c main_v19 (by decide) (by decide) (by decide)) _).trans (v19_eq m c b s ⟨n, h⟩)
  · refine (congrFun (W_arg11 m c) _).trans ?_
    simp only [gainS, Nat.mod_eq_of_lt h]

theorem res_kw (b : Fin 4) (s : Fin 8192) (j : Fin 128) : (finalContents condOps preI bodyI postI 8192 m c main_v272 (ix3 b s j) : EReal) =
    Spec.headAt (args m c) b (2048 + 64 * (j.val / 64)) (gainW m c) s.val (j.val % 64) := by
  refine (v272_at (after condOps (atK m 8192 c)) b s j (fun n => Spec.zN (args m c) b s.val (2048 + n)) (gainW m c) (fun n h => ?_) (fun n h => ?_)).trans
    (head_cols (args m c) b 2048 j.val s.val (j.val % 64) (gainW m c))
  · exact (congrFun (W_first m c main_v21 (by decide) (by decide) (by decide)) _).trans (v21_eq m c b s ⟨n, h⟩)
  · refine (congrFun (W_arg11 m c) _).trans ?_
    simp only [gainW, Nat.mod_eq_of_lt h]

end Cert.ReferenceIdeal.Ref

end
-- ==== Proof.Values.lean ====
module

public import proofs.«01_k».proof.Defs
public import proofs.«01_k».proof.Proof.Gen.KernelIdeal
public import proofs.«01_k».proof.Proof.Gen.ReferenceIdeal
public import proofs.«01_k».proof.Proof.Final
public import proofs.«01_k».proof.Proof.HeadsGrid
public import proofs.«01_k».proof.Proof.RefHeads
public import proofs.«01_k».proof.Proof.Frames

@[expose] public section

set_option maxRecDepth 16384

/-! The kernel and the reference leave the same results: six of them always, and all nine where the norm and the projection are finite. -/
namespace Cert.Values

open Idealize.ShloMosaic Idealize.SL.Sem Idealize.ShloMosaic.TcCoe Idealize.ShloMosaic.StableHlo

/-- An array with two axes, entry by entry. -/
theorem ext2 {A B : ℕ} {e : EltTy} (o o' : (⟨2, ![A, B]⟩ : Shape).Idx → Elt Ideal e) (h : ∀ r j, o (ix2 r j) = o' (ix2 r j)) : o = o' := by
  funext y
  have e : y = ix2 (y 0) (y 1) := by
    funext a
    fin_cases a <;> rfl
  rw [e]; exact h _ _

/-- An array with three axes, entry by entry. -/
theorem ext3 {A B C : ℕ} {e : EltTy} (o o' : (⟨3, ![A, B, C]⟩ : Shape).Idx → Elt Ideal e) (h : ∀ b r j, o (ix3 b r j) = o' (ix3 b r j)) : o = o' := by
  funext y
  have e : y = ix3 (y 0) (y 1) (y 2) := by
    funext a
    fin_cases a <;> rfl
  rw [e]; exact h _ _ _

/-- Two families of arguments, entry by entry. -/
theorem args_ext (A B : Spec.Args) (h0 : ∀ b s d, A.x b s d = B.x b s d) (h1 : ∀ d, A.g d = B.g d) (h2 : ∀ d j, A.w d j = B.w d j)
    (h3 : ∀ k j, A.cw k j = B.cw k j) (h4 : ∀ j, A.cb j = B.cb j) (h5 : ∀ a k j, A.wr a k j = B.wr a k j) (h6 : ∀ j, A.br j = B.br j)
    (h7 : ∀ a k j, A.wi a k j = B.wi a k j) (h8 : ∀ j, A.bi j = B.bi j) (h9 : ∀ j, A.lam j = B.lam j) : A = B := by
  obtain ⟨a0, a1, a2, a3, a4, a5, a6, a7, a8, a9⟩ := A
  obtain ⟨b0, b1, b2, b3, b4, b5, b6, b7, b8, b9⟩ := B
  obtain rfl : a0 = b0 := funext fun b => funext fun s => funext (h0 b s)
  obtain rfl : a1 = b1 := funext h1
  obtain rfl : a2 = b2 := funext fun d => funext (h2 d)
  obtain rfl : a3 = b3 := funext fun k => funext (h3 k)
  obtain rfl : a4 = b4 := funext h4
  obtain rfl : a5 = b5 := funext fun a => funext fun k => funext (h5 a k)
  obtain rfl : a6 = b6 := funext h6
  obtain rfl : a7 = b7 := funext fun a => funext fun k => funext (h7 a k)
  obtain rfl : a8 = b8 := funext h8
  obtain rfl : a9 = b9 := funext h9
  rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's array at the end, window by window. -/
noncomputable abbrev out (c : Dev Cert.KernelIdeal.nD) (w : Fin Cert.KernelIdeal.cfg0.W) := (Cert.KernelIdeal.Front.dats m 0 c).arrAt w Cert.KernelIdeal.cfg0.N

/-- The reference's buffer at the end. -/
noncomputable abbrev ref (c : Dev Cert.ReferenceIdeal.nD) (b : Ref Cert.ReferenceIdeal.sig .tc) :=
  finalContents Cert.ReferenceIdeal.Value.condOps Cert.ReferenceIdeal.Value.preI Cert.ReferenceIdeal.Value.bodyI Cert.ReferenceIdeal.Value.postI 8192 m' c (Proc.devRef .tc b)

set_option maxHeartbeats 4000000 in
/-- The kernel's run: its nine results. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v95_0) = out m c 17
      ∧ r.2.mem ((c.tc : Thread Cert.KernelIdeal.nD Cert.KernelIdeal.τ).loc Cert.KernelIdeal.main_v95_1) = out m c 18
      ∧ r.2.mem ((c.tc : Thread Cert.KernelIdeal.nD Cert.KernelIdeal.τ).loc Cert.KernelIdeal.main_v95_2) = out m c 19
      ∧ r.2.mem ((c.tc : Thread Cert.KernelIdeal.nD Cert.KernelIdeal.τ).loc Cert.KernelIdeal.main_v95_3) = out m c 20
      ∧ r.2.mem ((c.tc : Thread Cert.KernelIdeal.nD Cert.KernelIdeal.τ).loc Cert.KernelIdeal.main_v95_4) = out m c 21
      ∧ r.2.mem ((c.tc : Thread Cert.KernelIdeal.nD Cert.KernelIdeal.τ).loc Cert.KernelIdeal.main_v95_5) = out m c 22
      ∧ r.2.mem ((c.tc : Thread Cert.KernelIdeal.nD Cert.KernelIdeal.τ).loc Cert.KernelIdeal.main_v95_6) = out m c 23
      ∧ r.2.mem ((c.tc : Thread Cert.KernelIdeal.nD Cert.KernelIdeal.τ).loc Cert.KernelIdeal.main_v95_7) = out m c 24
      ∧ r.2.mem ((c.tc : Thread Cert.KernelIdeal.nD Cert.KernelIdeal.τ).loc Cert.KernelIdeal.main_v95_8) = out m c 25) :=
  (θ_run _ _ _).mono (fun r h c => ⟨(h c).1 17, (h c).1 18, (h c).1 19, (h c).1 20, (h c).1 21, (h c).1 22, (h c).1 23, (h c).1 24, (h c).1 25⟩) (Cert.KernelIdeal.Front.run_main m g)

/-- The reference's results are arrays of the whole run. -/
theorem res_unscoped : ∀ b ∈ [Cert.ReferenceIdeal.main_v170, Cert.ReferenceIdeal.main_v168, Cert.ReferenceIdeal.main_v221, Cert.ReferenceIdeal.main_v33, Cert.ReferenceIdeal.main_v272, Cert.ReferenceIdeal.main_v35, Cert.ReferenceIdeal.main_v36, Cert.ReferenceIdeal.main_v38, Cert.ReferenceIdeal.main_v39], (Proc.devRef .tc b : DevRef Cert.ReferenceIdeal.τ Cert.ReferenceIdeal.sig).isScoped = false := by
  decide +kernel

set_option maxHeartbeats 4000000 in
/-- The reference's run: its nine results. -/
theorem ref_run (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v170) = ref m' c Cert.ReferenceIdeal.main_v170
      ∧ r.2.mem ((c.tc : Thread Cert.ReferenceIdeal.nD Cert.ReferenceIdeal.τ).loc Cert.ReferenceIdeal.main_v168) = ref m' c Cert.ReferenceIdeal.main_v168
      ∧ r.2.mem ((c.tc : Thread Cert.ReferenceIdeal.nD Cert.ReferenceIdeal.τ).loc Cert.ReferenceIdeal.main_v221) = ref m' c Cert.ReferenceIdeal.main_v221
      ∧ r.2.mem ((c.tc : Thread Cert.ReferenceIdeal.nD Cert.ReferenceIdeal.τ).loc Cert.ReferenceIdeal.main_v33) = ref m' c Cert.ReferenceIdeal.main_v33
      ∧ r.2.mem ((c.tc : Thread Cert.ReferenceIdeal.nD Cert.ReferenceIdeal.τ).loc Cert.ReferenceIdeal.main_v272) = ref m' c Cert.ReferenceIdeal.main_v272
      ∧ r.2.mem ((c.tc : Thread Cert.ReferenceIdeal.nD Cert.ReferenceIdeal.τ).loc Cert.ReferenceIdeal.main_v35) = ref m' c Cert.ReferenceIdeal.main_v35
      ∧ r.2.mem ((c.tc : Thread Cert.ReferenceIdeal.nD Cert.ReferenceIdeal.τ).loc Cert.ReferenceIdeal.main_v36) = ref m' c Cert.ReferenceIdeal.main_v36
      ∧ r.2.mem ((c.tc : Thread Cert.ReferenceIdeal.nD Cert.ReferenceIdeal.τ).loc Cert.ReferenceIdeal.main_v38) = ref m' c Cert.ReferenceIdeal.main_v38
      ∧ r.2.mem ((c.tc : Thread Cert.ReferenceIdeal.nD Cert.ReferenceIdeal.τ).loc Cert.ReferenceIdeal.main_v39) = ref m' c Cert.ReferenceIdeal.main_v39) :=
  (θ_run _ _ _).mono (fun r h c => by
    have k : ∀ b ∈ [Cert.ReferenceIdeal.main_v170, Cert.ReferenceIdeal.main_v168, Cert.ReferenceIdeal.main_v221, Cert.ReferenceIdeal.main_v33, Cert.ReferenceIdeal.main_v272, Cert.ReferenceIdeal.main_v35, Cert.ReferenceIdeal.main_v36, Cert.ReferenceIdeal.main_v38, Cert.ReferenceIdeal.main_v39], r.2.mem ((c.tc : Thread Cert.ReferenceIdeal.nD Cert.ReferenceIdeal.τ).loc b) = ref m' c b := fun b hb =>
      h.1 c b (res_unscoped b hb)
    exact ⟨k _ (by decide), k _ (by decide), k _ (by decide), k _ (by decide), k _ (by decide), k _ (by decide), k _ (by decide), k _ (by decide), k _ (by decide)⟩) (Cert.ReferenceIdeal.Ref.run m' g)

/-- The reference leaves its arguments as they were. -/
theorem ref_args (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run _ _ _).mono (fun r h => h.1) (Cert.Frames.referenceIdeal m' g trivial)

/-- The two programs start from the same arguments. -/
def Agree (c : Dev Cert.KernelIdeal.nD) : Prop := Cert.ReferenceIdeal.Ref.args m' c = Cert.KernelIdeal.Grid.args m c

variable {m m'}

theorem ya_eq {c : Dev Cert.KernelIdeal.nD} (h : Agree m m' c) : ref m' c Cert.ReferenceIdeal.main_v170 = out m c 17 :=
  ext2 (A := 32768) (B := 512) (e := .bf16) _ _ fun r j => (Cert.ReferenceIdeal.Ref.res_ya m' c r j).trans
    ((congrArg (fun A => Spec.ya A _ _ j) h).trans (Cert.KernelIdeal.Grid.out_ya m c r j).symm)

theorem vst_eq {c : Dev Cert.KernelIdeal.nD} (h : Agree m m' c) : ref m' c Cert.ReferenceIdeal.main_v33 = out m c 20 :=
  ext3 (A := 4) (B := 128) (C := 8192) (e := .bf16) _ _ fun b j s => (Cert.ReferenceIdeal.Ref.res_vst m' c b j s).trans
    ((congrArg (fun A => Spec.z A _ _ _) h).trans (Cert.KernelIdeal.Grid.out_vst m c b j s).symm)

theorem vwt_eq {c : Dev Cert.KernelIdeal.nD} (h : Agree m m' c) : ref m' c Cert.ReferenceIdeal.main_v35 = out m c 22 :=
  ext3 (A := 4) (B := 128) (C := 8192) (e := .bf16) _ _ fun b j s => (Cert.ReferenceIdeal.Ref.res_vwt m' c b j s).trans
    ((congrArg (fun A => Spec.z A _ _ _) h).trans (Cert.KernelIdeal.Grid.out_vwt m c b j s).symm)

theorem gt_eq {c : Dev Cert.KernelIdeal.nD} (h : Agree m m' c) : ref m' c Cert.ReferenceIdeal.main_v36 = out m c 23 :=
  ext3 (A := 4) (B := 128) (C := 8192) (e := .f32) _ _ fun b j s => (Cert.ReferenceIdeal.Ref.res_gt m' c b j s).trans
    ((congrArg (fun A => Ideal.logistic (if h : j.val < 24 then Spec.z A b s.val ⟨2816 + j.val, by omega⟩ else 0)) h).trans (Cert.KernelIdeal.Grid.out_gt m c b j s).symm)

theorem kcvc_eq {c : Dev Cert.KernelIdeal.nD} (h : Agree m m' c) : ref m' c Cert.ReferenceIdeal.main_v38 = out m c 24 :=
  ext2 (A := 32768) (B := 256) (e := .f32) _ _ fun r j => (Cert.ReferenceIdeal.Ref.res_kcvc m' c r j).trans
    ((congrArg (fun A => Spec.z A _ _ _) h).trans (Cert.KernelIdeal.Grid.out_kcvc m c r j).symm)

theorem ng_eq {c : Dev Cert.KernelIdeal.nD} (h : Agree m m' c) : ref m' c Cert.ReferenceIdeal.main_v39 = out m c 25 :=
  ext2 (A := 32768) (B := 512) (e := .f32) _ _ fun r j => (Cert.ReferenceIdeal.Ref.res_ng m' c r j).trans
    ((congrArg (fun A => Spec.z A _ _ _) h).trans (Cert.KernelIdeal.Grid.out_ng m c r j).symm)

theorem qt_eq {c : Dev Cert.KernelIdeal.nD} (h : Agree m m' c) (hg : Cert.ReferenceIdeal.Ref.gainQ m' c = Cert.KernelIdeal.Grid.gainQ m c) (hf : Spec.Fin' (Cert.KernelIdeal.Grid.args m c)) :
    ref m' c Cert.ReferenceIdeal.main_v168 = out m c 18 :=
  ext3 (A := 4) (B := 512) (C := 8192) (e := .bf16) _ _ fun b i s => (Cert.ReferenceIdeal.Ref.res_qt m' c b i s).trans
    ((congrArg₂ (fun A g => Spec.headAt A b _ g _ _ * Ideal.ofBits FTy.f32 0x3E38AA3B#32) h hg).trans (Cert.KernelIdeal.Grid.out_qt m c hf b i s).symm)

theorem ks_eq {c : Dev Cert.KernelIdeal.nD} (h : Agree m m' c) (hg : Cert.ReferenceIdeal.Ref.gainS m' c = Cert.KernelIdeal.Grid.gainS m c) (hf : Spec.Fin' (Cert.KernelIdeal.Grid.args m c)) :
    ref m' c Cert.ReferenceIdeal.main_v221 = out m c 19 :=
  ext3 (A := 4) (B := 8192) (C := 128) (e := .bf16) _ _ fun b s j => (Cert.ReferenceIdeal.Ref.res_ks m' c b s j).trans
    ((congrArg₂ (fun A g => Spec.headAt A b _ g _ _) h hg).trans (Cert.KernelIdeal.Grid.out_ks m c hf b s j).symm)

theorem kw_eq {c : Dev Cert.KernelIdeal.nD} (h : Agree m m' c) (hg : Cert.ReferenceIdeal.Ref.gainW m' c = Cert.KernelIdeal.Grid.gainW m c) (hf : Spec.Fin' (Cert.KernelIdeal.Grid.args m c)) :
    ref m' c Cert.ReferenceIdeal.main_v272 = out m c 21 :=
  ext3 (A := 4) (B := 8192) (C := 128) (e := .bf16) _ _ fun b s j => (Cert.ReferenceIdeal.Ref.res_kw m' c b s j).trans
    ((congrArg₂ (fun A g => Spec.headAt A b _ g _ _) h hg).trans (Cert.KernelIdeal.Grid.out_kw m c hf b s j).symm)

variable (m m') in
/-- What the two starting memories share, argument by argument. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

theorem agree {c : Dev Cert.KernelIdeal.nD} (hm : Same m m' c) : Agree m m' c := by
  obtain ⟨h0, h1, h2, h3, h4, h5, h6, h7, h8, h9, -, -⟩ := hm
  exact args_ext _ _ (fun b s d => congrFun h0 (ix3 b s d)) (fun d => congrFun h1 (ix1 d)) (fun d j => congrFun h2 (ix2 d j)) (fun k j => congrFun h3 (ix2 k j))
    (fun j => congrFun h4 (ix1 j)) (fun a k j => congrFun h5 (ix3 a k j)) (fun j => congrFun h6 (ix1 j)) (fun a k j => congrFun h7 (ix3 a k j))
    (fun j => congrFun h8 (ix1 j)) (fun j => congrFun h9 (ix1 j))

theorem agreeQ {c : Dev Cert.KernelIdeal.nD} (hm : Same m m' c) : Cert.ReferenceIdeal.Ref.gainQ m' c = Cert.KernelIdeal.Grid.gainQ m c := by
  obtain ⟨-, -, -, -, -, -, -, -, -, -, h, -⟩ := hm
  exact funext fun k => congrFun h (ix1 ⟨k % 64, Nat.mod_lt _ (by decide)⟩)
theorem agreeS {c : Dev Cert.KernelIdeal.nD} (hm : Same m m' c) : Cert.ReferenceIdeal.Ref.gainS m' c = Cert.KernelIdeal.Grid.gainS m c := by
  obtain ⟨-, -, -, -, -, -, -, -, -, -, -, h⟩ := hm
  exact funext fun k => congrFun h (ix2 1 ⟨k % 64, Nat.mod_lt _ (by decide)⟩)
theorem agreeW {c : Dev Cert.KernelIdeal.nD} (hm : Same m m' c) : Cert.ReferenceIdeal.Ref.gainW m' c = Cert.KernelIdeal.Grid.gainW m c := by
  obtain ⟨-, -, -, -, -, -, -, -, -, -, -, h⟩ := hm
  exact funext fun k => congrFun h (ix2 2 ⟨k % 64, Nat.mod_lt _ (by decide)⟩)

/-- The side conditions of the precondition and of the mask. -/
theorem preFacts : Cert.Pre_finite.Facts := ⟨by decide, by decide⟩
theorem onFacts : Cert.On_all_but_heads.Facts := ⟨by decide, by decide, by decide, by decide, by decide⟩

/-- Below plus infinity in absolute value: a real. -/
theorem real_of_lt (v : EReal) (h : Ideal.cmp .olt (max v (-v)) (Ideal.ofBits FTy.f32 0x7F800000#32) = 1#1) : Spec.Real' v := by
  have e : Ideal.ofBits FTy.f32 0x7F800000#32 = ⊤ := by simp [Ideal.ofBits, Ideal.ieee]
  rw [e] at h
  induction v with
  | bot => exact absurd h (by simp [Ideal.cmp])
  | top => exact absurd h (by simp [Ideal.cmp])
  | coe r => exact ⟨r, rfl⟩

theorem fin_of_pre (hp : @Cert.Pre_KernelIdeal_finite preFacts m) (c : Dev Cert.KernelIdeal.nD) : Spec.Fin' (Cert.KernelIdeal.Grid.args m c) :=
  ⟨fun d => real_of_lt _ (congrFun (hp c).1 (ix1 d)), fun d j => real_of_lt _ (congrFun (hp c).2 (ix2 d j))⟩

set_option maxHeartbeats 4000000 in
/-- The reference's six results that need no precondition are the kernel's. -/
theorem ref_six (g : Dev Cert.ReferenceIdeal.nD → PrngReg) (ha : ∀ c, Agree m m' c) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v170) = out m c 17
      ∧ r.2.mem ((c.tc : Thread Cert.ReferenceIdeal.nD Cert.ReferenceIdeal.τ).loc Cert.ReferenceIdeal.main_v33) = out m c 20
      ∧ r.2.mem ((c.tc : Thread Cert.ReferenceIdeal.nD Cert.ReferenceIdeal.τ).loc Cert.ReferenceIdeal.main_v35) = out m c 22
      ∧ r.2.mem ((c.tc : Thread Cert.ReferenceIdeal.nD Cert.ReferenceIdeal.τ).loc Cert.ReferenceIdeal.main_v36) = out m c 23
      ∧ r.2.mem ((c.tc : Thread Cert.ReferenceIdeal.nD Cert.ReferenceIdeal.τ).loc Cert.ReferenceIdeal.main_v38) = out m c 24
      ∧ r.2.mem ((c.tc : Thread Cert.ReferenceIdeal.nD Cert.ReferenceIdeal.τ).loc Cert.ReferenceIdeal.main_v39) = out m c 25) :=
  (θ_run _ _ _).mono (fun r h c => ⟨((h c).1).trans (ya_eq (ha c)), ((h c).2.2.2.1).trans (vst_eq (ha c)), ((h c).2.2.2.2.2.1).trans (vwt_eq (ha c)), ((h c).2.2.2.2.2.2.1).trans (gt_eq (ha c)), ((h c).2.2.2.2.2.2.2.1).trans (kcvc_eq (ha c)), ((h c).2.2.2.2.2.2.2.2).trans (ng_eq (ha c))⟩) (ref_run m' g)

set_option maxHeartbeats 4000000 in
/-- The reference's three others are the kernel's where the norm and the projection are finite. -/
theorem ref_heads (g : Dev Cert.ReferenceIdeal.nD → PrngReg) (hm : ∀ c, Same m m' c) (hf : ∀ c, Spec.Fin' (Cert.KernelIdeal.Grid.args m c)) :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v168) = out m c 18
      ∧ r.2.mem ((c.tc : Thread Cert.ReferenceIdeal.nD Cert.ReferenceIdeal.τ).loc Cert.ReferenceIdeal.main_v221) = out m c 19
      ∧ r.2.mem ((c.tc : Thread Cert.ReferenceIdeal.nD Cert.ReferenceIdeal.τ).loc Cert.ReferenceIdeal.main_v272) = out m c 21) :=
  (θ_run _ _ _).mono (fun r h c => ⟨((h c).2.1).trans (qt_eq (agree (hm c)) (agreeQ (hm c)) (hf c)), ((h c).2.2.1).trans (ks_eq (agree (hm c)) (agreeS (hm c)) (hf c)), ((h c).2.2.2.2.1).trans (kw_eq (agree (hm c)) (agreeW (hm c)) (hf c))⟩) (ref_run m' g)

set_option maxHeartbeats 4000000 in
/-- The kernel and the reference end with the same six results, whatever the arguments. -/
theorem algebraic_six : @Cert.algebraic_KernelIdeal_ReferenceIdeal_on_all_but_heads Cert.KernelIdeal.Gen.facts Cert.ReferenceIdeal.Gen.facts onFacts := by
  intro m g m' g' _ hm
  have ha : ∀ c, Agree m m' c := fun c => agree (hm c)
  refine ⟨fun c => out m c 17, fun c => out m c 18, fun c => out m c 19, fun c => out m c 20, fun c => out m c 21, fun c => out m c 22, fun c => out m c 23, fun c => out m c 24, fun c => out m c 25, ?_, ?_⟩
  · refine (θ_run _ _ _).mono (fun r h c => ?_) (θ_run_and (kernel_run m g) (Cert.KernelIdeal.Front.unchanged m g))
    obtain ⟨k0, k1, k2, k3, k4, k5, k6, k7, k8⟩ := h.1 c
    exact ⟨fun i _ => congrFun k0 i, fun i _ => congrFun k1 i, fun i _ => congrFun k2 i, fun i _ => congrFun k3 i, fun i _ => congrFun k4 i, fun i _ => congrFun k5 i, fun i _ => congrFun k6 i, fun i _ => congrFun k7 i, fun i _ => congrFun k8 i, h.2 c⟩
  · refine (θ_run _ _ _).mono (fun r h c => ?_) (θ_run_and (ref_six g' ha) (ref_args m' g'))
    obtain ⟨k0, k3, k5, k6, k7, k8⟩ := h.1 c
    exact ⟨fun i _ => congrFun k0 i, fun _ hi => absurd (show (0#1 : BitVec 1) = 1#1 from hi) (by decide), fun _ hi => absurd (show (0#1 : BitVec 1) = 1#1 from hi) (by decide), fun i _ => congrFun k3 i, fun _ hi => absurd (show (0#1 : BitVec 1) = 1#1 from hi) (by decide), fun i _ => congrFun k5 i, fun i _ => congrFun k6 i, fun i _ => congrFun k7 i, fun i _ => congrFun k8 i, h.2 c⟩

set_option maxHeartbeats 4000000 in
/-- The kernel and the reference end with the same nine results, where the norm and the projection are finite. -/
theorem algebraic : @Cert.algebraic_KernelIdeal_ReferenceIdeal_pre_finite Cert.KernelIdeal.Gen.facts Cert.ReferenceIdeal.Gen.facts preFacts := by
  intro m g m' g' hp hm
  have ha : ∀ c, Agree m m' c := fun c => agree (hm c)
  refine ⟨fun c => out m c 17, fun c => out m c 18, fun c => out m c 19, fun c => out m c 20, fun c => out m c 21, fun c => out m c 22, fun c => out m c 23, fun c => out m c 24, fun c => out m c 25, ?_, ?_⟩
  · refine (θ_run _ _ _).mono (fun r h c => ?_) (θ_run_and (kernel_run m g) (Cert.KernelIdeal.Front.unchanged m g))
    obtain ⟨k0, k1, k2, k3, k4, k5, k6, k7, k8⟩ := h.1 c
    exact ⟨k0, k1, k2, k3, k4, k5, k6, k7, k8, h.2 c⟩
  · refine (θ_run _ _ _).mono (fun r h c => ?_) (θ_run_and (θ_run_and (ref_six g' ha) (ref_heads g' hm (fin_of_pre hp))) (ref_args m' g'))
    obtain ⟨k0, k3, k5, k6, k7, k8⟩ := h.1.1 c
    obtain ⟨k1, k2, k4⟩ := h.1.2 c
    exact ⟨k0, k1, k2, k3, k4, k5, k6, k7, k8, h.2 c⟩

end Cert.Values

end
-- ==== Proof.OutProj.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

/-! The output projection: the kernel's two products of 512 columns each against one product of 1024. -/
namespace Cert.Kernel2Ideal.Out

open Idealize.ShloMosaic Cert.Kernel2Ideal.Gen Idealize.ShloMosaic.TcCoe Idealize.ShloMosaic.StableHlo

/-- A row of the result, from the layer's input, the two mixers' rows and the weights. -/
noncomputable def val (x : Fin 32768 → Fin 1024 → EReal) (a b : Fin 32768 → Fin 512 → EReal) (w : Fin 1024 → Fin 1024 → EReal) (r : Fin 32768) (j : Fin 1024) : EReal :=
  x r j + ((∑ k : Fin 512, a r k * w ⟨k.val, by omega⟩ j) + ∑ k : Fin 512, b r k * w ⟨512 + k.val, by omega⟩ j)

section kernel

variable (m : (ℓ : Loc nD τ sig) → Buf (Elt Ideal) ℓ) (c : Dev nD)

theorem idxs : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![t.val, 0] := by decide +kernel

theorem wa (k : Fin 512) (j : Fin 1024) : V m c main_v1 (ix2 k j) = m ((c : Thread nD τ).loc main_arg3) (ix2 ⟨k.val, by omega⟩ j) := by
  simp only [V, hostOps0]
  after_results_simp; pointwise

theorem wb (k : Fin 512) (j : Fin 1024) : V m c main_v2 (ix2 k j) = m ((c : Thread nD τ).loc main_arg3) (ix2 ⟨512 + k.val, by omega⟩ j) := by
  simp only [V, hostOps0]
  after_results_simp; pointwise

/-- What the body stores, at an index of its block. -/
theorem pay (v0 : Vec Ideal S2048x1024 .f32) (v1 : Vec Ideal S2048x512 .bf16) (v2 : Vec Ideal S512x1024 .bf16) (v6 : Vec Ideal S2048x512 .bf16)
    (v7 : Vec Ideal S512x1024 .bf16) (r : Fin 2048) (j : Fin 1024) :
    k0_pay1 v0 v1 v2 v6 v7 (ix2 r j) = (v0 (ix2 r j) : EReal) + ((∑ k : Fin 512, (v1 (ix2 r k) : EReal) * v2 (ix2 k j)) + ∑ k : Fin 512, (v6 (ix2 r k) : EReal) * v7 (ix2 k j)) := by
  refine Eq.trans ?_ (add_assoc _ _ _)
  pointwise [k0_pay1]

variable (t : Fin cfg0.N)

theorem x_blk (r : Fin 2048) (j : Fin 1024) (h : t.val * 2048 + r.val < 32768) :
    iblk m c 0 t (ix2 r j) = m ((c : Thread nD τ).loc main_arg0) (ix2 ⟨t.val * 2048 + r.val, h⟩ j) := by
  rw [← V_main_arg0 m c]
  blk_ext [iblk, idxs t]
theorem a_blk (r : Fin 2048) (k : Fin 512) (h : t.val * 2048 + r.val < 32768) :
    iblk m c 1 t (ix2 r k) = m ((c : Thread nD τ).loc main_arg1) (ix2 ⟨t.val * 2048 + r.val, h⟩ k) := by
  rw [← V_main_arg1 m c]
  blk_ext [iblk, idxs t]
theorem b_blk (r : Fin 2048) (k : Fin 512) (h : t.val * 2048 + r.val < 32768) :
    iblk m c 2 t (ix2 r k) = m ((c : Thread nD τ).loc main_arg2) (ix2 ⟨t.val * 2048 + r.val, h⟩ k) := by
  rw [← V_main_arg2 m c]
  blk_ext [iblk, idxs t]
theorem wa_blk (y : S512x1024.Idx) : iblk m c 3 t y = V m c main_v1 y := by
  blk_ext [iblk, idxs t]
theorem wb_blk (y : S512x1024.Idx) : iblk m c 4 t y = V m c main_v2 y := by
  blk_ext [iblk, idxs t]

/-- A read of all of a buffer is the buffer. -/
theorem ld_whole {s : Shape} {e : EltTy} (x : Vec Ideal s e) (off : Fin s.rank → ℕ) (h0 : ∀ a, off a = 0) (inb : ∀ a, off a + s.size a ≤ s.size a) :
    View.ld x (Rect.unit off s.size inb) = x := by
  funext y
  have h : (Rect.unit off s.size inb).emb y = y := by
    funext a
    refine Fin.ext ?_
    show off a + 1 * (y a).val = (y a).val
    rw [h0 a]; omega
  exact congrArg x h

theorem off2 : ∀ a : Fin 2, (![0, 0] : Fin 2 → ℕ) a = 0 := by decide

/-- A store over all of a buffer is what the buffer holds. -/
theorem canon_whole {s : Shape} {e : EltTy} (off : Fin s.rank → ℕ) (h0 : ∀ a, off a = 0) (inb : ∀ a, off a + s.size a ≤ s.size a)
    (w : (Rect.unit off s.size inb).shape.Idx → Elt Ideal e) (L : List (View.Piece (Elt Ideal) s e)) (y : s.Idx) :
    View.canon (⟨Rect.unit off s.size inb, w⟩ :: L) y = w y := by
  have h : (Rect.unit off s.size inb).emb y = y := by
    funext a
    refine Fin.ext ?_
    show off a + 1 * (y a).val = (y a).val
    rw [h0 a]; omega
  exact (congrArg (View.canon (⟨Rect.unit off s.size inb, w⟩ :: L)) h.symm).trans (View.canon_cons_emb _ w L y)

/-- A row of the result at the kernel's arguments. -/
noncomputable abbrev kval (r : Fin 32768) (j : Fin 1024) : EReal :=
  val (fun r j => m ((c : Thread nD τ).loc main_arg0) (ix2 r j)) (fun r j => m ((c : Thread nD τ).loc main_arg1) (ix2 r j))
    (fun r j => m ((c : Thread nD τ).loc main_arg2) (ix2 r j)) (fun r j => m ((c : Thread nD τ).loc main_arg3) (ix2 r j)) r j

/-- What a grid point leaves in its block. -/
theorem point (r : Fin 2048) (j : Fin 1024) (h : t.val * 2048 + r.val < 32768) :
    out0_5 (iblk m c 0 t) (iblk m c 1 t) (iblk m c 2 t) (iblk m c 3 t) (iblk m c 4 t) (ix2 r j) = kval m c ⟨t.val * 2048 + r.val, h⟩ j := by
  refine (canon_whole (s := S2048x1024) _ off2 _ _ _ _).trans ?_
  refine (pay _ _ _ _ _ r j).trans ?_
  rw [ld_whole (s := S2048x1024) _ _ off2, ld_whole (s := S2048x512) _ _ off2, ld_whole (s := S2048x512) _ _ off2,
    ld_whole (s := S512x1024) _ _ off2, ld_whole (s := S512x1024) _ _ off2]
  refine congrArg₂ (fun u v : EReal => u + v) (x_blk m c t r j h) (congrArg₂ (fun u v : EReal => u + v)
    (Finset.sum_congr rfl fun k _ => congrArg₂ (fun u v : EReal => u * v) (a_blk m c t r k h) ((wa_blk m c t _).trans (wa m c k j)))
    (Finset.sum_congr rfl fun k _ => congrArg₂ (fun u v : EReal => u * v) (b_blk m c t r k h) ((wb_blk m c t _).trans (wb m c k j))))

/-- The kernel's array after the run. -/
theorem out_eq : (dats m 0 c).arrAt 5 cfg0.N = fun y : S32768x1024.Idx => kval m c (y 0) (y 1) := by
  refine (dats m 0 c).arrAt_eq_of_covers 5 _ (by decide +kernel) fun t hf y => ?_
  have hlt : t.val * 2048 + (y 0).val < 32768 := by
    have := t.isLt
    have h0 : (y 0).val < 2048 := (y 0).isLt
    have : t.val < 16 := t.isLt
    omega
  have hr : (win0_5.blk t).view.emb y 0 = ⟨t.val * 2048 + (y 0).val, hlt⟩ := Fin.ext (by blk_simp [idxs t])
  have hj : (win0_5.blk t).view.emb y 1 = y 1 := Fin.ext (by blk_simp [idxs t])
  have e : y = (ix2 (y 0) (y 1) : S2048x1024.Idx) := by
    funext a
    fin_cases a <;> rfl
  show _ = kval m c ((win0_5.blk t).view.emb y 0) ((win0_5.blk t).view.emb y 1)
  rw [hr, hj]
  refine Eq.trans ?_ (point m c t (y 0) (y 1) hlt)
  rw [← e]
  show (dats m 0 c).after 5 t y = _
  rw [after0_5]

end kernel

/-- The reference's array, at an index: one product over the two mixers' rows side by side. -/
theorem ref_eq (x : Vec Ideal Cert.Reference2Ideal.S32768x1024 .f32) (a b : Vec Ideal Cert.Reference2Ideal.S32768x512 .bf16) (w : Vec Ideal Cert.Reference2Ideal.S1024x1024 .f32)
    (r : Fin 32768) (j : Fin 1024) :
    addf x (Host.dotGeneral (F := Ideal) (φ₁ := .f32) (φ₂ := .f32) Cert.Reference2Ideal.dot_S32768x1024_S1024x1024_S32768x1024_1_0_0_1_n_n none
      (concatenate Cert.Reference2Ideal.S32768x1024 1 [⟨Cert.Reference2Ideal.S32768x512, (extf .f32 a Cert.Reference2Ideal.Gen.bitsLt_bf16_f32)⟩,
        ⟨Cert.Reference2Ideal.S32768x512, (extf .f32 b Cert.Reference2Ideal.Gen.bitsLt_bf16_f32)⟩] Cert.Reference2Ideal.Gen.concatenates_S32768x512_S32768x512_S32768x1024_d1) w) (ix2 r j)
      = val (fun r j => x (ix2 r j)) (fun r j => a (ix2 r j)) (fun r j => b (ix2 r j)) (fun r j => w (ix2 r j)) r j := by
  pointwise
  rfl

/-- From the same arguments the reference ends with the kernel's array. -/
theorem agree (m : (ℓ : Loc nD τ sig) → Buf (Elt Ideal) ℓ) (c : Dev nD)
    (x : Vec Ideal Cert.Reference2Ideal.S32768x1024 .f32) (a b : Vec Ideal Cert.Reference2Ideal.S32768x512 .bf16) (w : Vec Ideal Cert.Reference2Ideal.S1024x1024 .f32)
    (hx : x = m ((c : Thread nD τ).loc main_arg0)) (ha : a = m ((c : Thread nD τ).loc main_arg1)) (hb : b = m ((c : Thread nD τ).loc main_arg2))
    (hw : w = m ((c : Thread nD τ).loc main_arg3)) :
    addf x (Host.dotGeneral (F := Ideal) (φ₁ := .f32) (φ₂ := .f32) Cert.Reference2Ideal.dot_S32768x1024_S1024x1024_S32768x1024_1_0_0_1_n_n none
      (concatenate Cert.Reference2Ideal.S32768x1024 1 [⟨Cert.Reference2Ideal.S32768x512, (extf .f32 a Cert.Reference2Ideal.Gen.bitsLt_bf16_f32)⟩,
        ⟨Cert.Reference2Ideal.S32768x512, (extf .f32 b Cert.Reference2Ideal.Gen.bitsLt_bf16_f32)⟩] Cert.Reference2Ideal.Gen.concatenates_S32768x512_S32768x512_S32768x1024_d1) w)
      = (dats m 0 c).arrAt 5 cfg0.N := by
  subst hx ha hb hw
  rw [out_eq]
  funext y
  have e : y = (ix2 (y 0) (y 1) : Cert.Reference2Ideal.S32768x1024.Idx) := by
    funext a
    fin_cases a <;> rfl
  exact (congrArg _ e).trans (ref_eq _ _ _ _ (y 0) (y 1))

end Cert.Kernel2Ideal.Out

end
-- ==== Proof.OutValues.lean ====
module

public import proofs.«01_k».proof.Defs
public import proofs.«01_k».proof.Proof.Gen.Kernel2
public import proofs.«01_k».proof.Proof.Gen.Kernel2.Frame
public import proofs.«01_k».proof.Proof.OutProj

@[expose] public section

/-! The claims about the output projection. -/
namespace Cert.OutValues

open Idealize.ShloMosaic Idealize.SL.Sem

theorem kernel : @Cert.quiescent_Kernel2 Cert.Kernel2.Gen.facts := fun m g _ => Cert.Kernel2.Gen.frame m g

theorem kernelIdeal : @Cert.quiescent_Kernel2Ideal Cert.Kernel2Ideal.Gen.facts := fun m g _ => Cert.Kernel2Ideal.Gen.frame m g

/-- The reference has no counter of its own. -/
theorem no_counter (s : GSem Cert.Reference2Ideal.nD Cert.Reference2Ideal.τ Cert.Reference2Ideal.sig → Int) : s = fun _ => 0 := by
  funext g
  obtain ⟨t, l⟩ := g
  cases l with
  | reg i => exact i.elim0
  | dma i => exact i.elim0

theorem referenceIdeal : @Cert.quiescent_Reference2Ideal Cert.Reference2Ideal.Gen.facts := fun m g _ =>
  (θ_run _ _ _).mono (fun r h => ⟨fun c => (h c).2, no_counter _⟩) (Cert.Reference2Ideal.Value.run m g)

/-- The kernel and the reference end with the same array. -/
theorem algebraic : @Cert.algebraic_Kernel2Ideal_Reference2Ideal Cert.Kernel2Ideal.Gen.facts Cert.Reference2Ideal.Gen.facts := fun m g m' g' _ h =>
  ⟨fun c => (Cert.Kernel2Ideal.Gen.dats m 0 c).arrAt 5 Cert.Kernel2Ideal.cfg0.N, Cert.Kernel2Ideal.Value.run_blocks m g,
    (θ_run _ _ _).mono (fun r k c => ⟨(k c).1.trans (Cert.Kernel2Ideal.Out.agree m c _ _ _ _ (h c).1 (h c).2.1 (h c).2.2.1 (h c).2.2.2), (k c).2⟩)
      (Cert.Reference2Ideal.Value.run m' g')⟩

end Cert.OutValues

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Frames
public import proofs.«01_k».proof.Proof.Values
public import proofs.«01_k».proof.Proof.OutValues

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Values.preFacts, Cert.Values.onFacts,
  Cert.Frames.kernel, Cert.Frames.kernelIdeal, @Cert.Frames.kernelIdeal_finite Cert.Values.preFacts, Cert.Frames.referenceIdeal,
  @Cert.Frames.referenceIdeal_finite Cert.Values.preFacts, Cert.OutValues.kernel, Cert.OutValues.kernelIdeal, Cert.OutValues.referenceIdeal,
  trivial, Cert.Values.algebraic_six, Cert.Values.algebraic, trivial, Cert.OutValues.algebraic⟩

end Cert.Proof

end
